-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_v7) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v5_0)) (v1 : (c : Dev Cert.Kernel2Ideal.nD) → Buf (Elt Ideal) ((c.tc : Thread Cert.Kernel2Ideal.nD Cert.Kernel2Ideal.τ).loc Cert.Kernel2Ideal.main_v5_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5_0) = v0 c
          ∧ r.2.mem ((c.tc : Thread Cert.Kernel2Ideal.nD Cert.Kernel2Ideal.τ).loc Cert.Kernel2Ideal.main_v5_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v4) = v0 c
          ∧ r.2.mem ((c.tc : Thread Cert.Reference2Ideal.nD Cert.Reference2Ideal.τ).loc Cert.Reference2Ideal.main_v7) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v5_0)) (v1 : (c : Dev Cert.Kernel3Ideal.nD) → Buf (Elt Ideal) ((c.tc : Thread Cert.Kernel3Ideal.nD Cert.Kernel3Ideal.τ).loc Cert.Kernel3Ideal.main_v5_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5_0) = v0 c
          ∧ r.2.mem ((c.tc : Thread Cert.Kernel3Ideal.nD Cert.Kernel3Ideal.τ).loc Cert.Kernel3Ideal.main_v5_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v14) = v0 c
          ∧ r.2.mem ((c.tc : Thread Cert.Reference3Ideal.nD Cert.Reference3Ideal.τ).loc Cert.Reference3Ideal.main_v21) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v8)) (v1 : (c : Dev Cert.Kernel4Ideal.nD) → Buf (Elt Ideal) ((c.tc : Thread Cert.Kernel4Ideal.nD Cert.Kernel4Ideal.τ).loc Cert.Kernel4Ideal.main_v12)) (v2 : (c : Dev Cert.Kernel4Ideal.nD) → Buf (Elt Ideal) ((c.tc : Thread Cert.Kernel4Ideal.nD Cert.Kernel4Ideal.τ).loc Cert.Kernel4Ideal.main_v16)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v8) = v0 c
          ∧ r.2.mem ((c.tc : Thread Cert.Kernel4Ideal.nD Cert.Kernel4Ideal.τ).loc Cert.Kernel4Ideal.main_v12) = v1 c
          ∧ r.2.mem ((c.tc : Thread Cert.Kernel4Ideal.nD Cert.Kernel4Ideal.τ).loc Cert.Kernel4Ideal.main_v16) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v72) = v0 c
          ∧ r.2.mem ((c.tc : Thread Cert.Reference4Ideal.nD Cert.Reference4Ideal.τ).loc Cert.Reference4Ideal.main_v73) = v1 c
          ∧ r.2.mem ((c.tc : Thread Cert.Reference4Ideal.nD Cert.Reference4Ideal.τ).loc Cert.Reference4Ideal.main_v74) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)) →
    ∃ (v0 : (c : Dev Cert.Kernel5Ideal.nD) → Buf (Elt Ideal) ((c.tc : Thread Cert.Kernel5Ideal.nD Cert.Kernel5Ideal.τ).loc Cert.Kernel5Ideal.main_v13)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v13) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v65) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)) →
    ∃ (v0 : (c : Dev Cert.Kernel6Ideal.nD) → Buf (Elt Ideal) ((c.tc : Thread Cert.Kernel6Ideal.nD Cert.Kernel6Ideal.τ).loc Cert.Kernel6Ideal.main_v10)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v10) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v71) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)) →
    ∃ (v0 : (c : Dev Cert.Kernel7Ideal.nD) → Buf (Elt Ideal) ((c.tc : Thread Cert.Kernel7Ideal.nD Cert.Kernel7Ideal.τ).loc Cert.Kernel7Ideal.main_v6_0)) (v1 : (c : Dev Cert.Kernel7Ideal.nD) → Buf (Elt Ideal) ((c.tc : Thread Cert.Kernel7Ideal.nD Cert.Kernel7Ideal.τ).loc Cert.Kernel7Ideal.main_v6_1)) (v2 : (c : Dev Cert.Kernel7Ideal.nD) → Buf (Elt Ideal) ((c.tc : Thread Cert.Kernel7Ideal.nD Cert.Kernel7Ideal.τ).loc Cert.Kernel7Ideal.main_v6_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v6_0) = v0 c
          ∧ r.2.mem ((c.tc : Thread Cert.Kernel7Ideal.nD Cert.Kernel7Ideal.τ).loc Cert.Kernel7Ideal.main_v6_1) = v1 c
          ∧ r.2.mem ((c.tc : Thread Cert.Kernel7Ideal.nD Cert.Kernel7Ideal.τ).loc Cert.Kernel7Ideal.main_v6_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v45) = v0 c
          ∧ r.2.mem ((c.tc : Thread Cert.Reference7Ideal.nD Cert.Reference7Ideal.τ).loc Cert.Reference7Ideal.main_v24) = v1 c
          ∧ r.2.mem ((c.tc : Thread Cert.Reference7Ideal.nD Cert.Reference7Ideal.τ).loc Cert.Reference7Ideal.main_v30) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)) →
    ∃ (v0 : (c : Dev Cert.Kernel8Ideal.nD) → Buf (Elt Ideal) ((c.tc : Thread Cert.Kernel8Ideal.nD Cert.Kernel8Ideal.τ).loc Cert.Kernel8Ideal.main_v12_0)) (v1 : (c : Dev Cert.Kernel8Ideal.nD) → Buf (Elt Ideal) ((c.tc : Thread Cert.Kernel8Ideal.nD Cert.Kernel8Ideal.τ).loc Cert.Kernel8Ideal.main_v12_1)) (v2 : (c : Dev Cert.Kernel8Ideal.nD) → Buf (Elt Ideal) ((c.tc : Thread Cert.Kernel8Ideal.nD Cert.Kernel8Ideal.τ).loc Cert.Kernel8Ideal.main_v12_2)) (v3 : (c : Dev Cert.Kernel8Ideal.nD) → Buf (Elt Ideal) ((c.tc : Thread Cert.Kernel8Ideal.nD Cert.Kernel8Ideal.τ).loc Cert.Kernel8Ideal.main_v12_3)) (v4 : (c : Dev Cert.Kernel8Ideal.nD) → Buf (Elt Ideal) ((c.tc : Thread Cert.Kernel8Ideal.nD Cert.Kernel8Ideal.τ).loc Cert.Kernel8Ideal.main_v12_4)) (v5 : (c : Dev Cert.Kernel8Ideal.nD) → Buf (Elt Ideal) ((c.tc : Thread Cert.Kernel8Ideal.nD Cert.Kernel8Ideal.τ).loc Cert.Kernel8Ideal.main_v12_5)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v12_0) = v0 c
          ∧ r.2.mem ((c.tc : Thread Cert.Kernel8Ideal.nD Cert.Kernel8Ideal.τ).loc Cert.Kernel8Ideal.main_v12_1) = v1 c
          ∧ r.2.mem ((c.tc : Thread Cert.Kernel8Ideal.nD Cert.Kernel8Ideal.τ).loc Cert.Kernel8Ideal.main_v12_2) = v2 c
          ∧ r.2.mem ((c.tc : Thread Cert.Kernel8Ideal.nD Cert.Kernel8Ideal.τ).loc Cert.Kernel8Ideal.main_v12_3) = v3 c
          ∧ r.2.mem ((c.tc : Thread Cert.Kernel8Ideal.nD Cert.Kernel8Ideal.τ).loc Cert.Kernel8Ideal.main_v12_4) = v4 c
          ∧ r.2.mem ((c.tc : Thread Cert.Kernel8Ideal.nD Cert.Kernel8Ideal.τ).loc Cert.Kernel8Ideal.main_v12_5) = v5 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v109) = v0 c
          ∧ r.2.mem ((c.tc : Thread Cert.Reference8Ideal.nD Cert.Reference8Ideal.τ).loc Cert.Reference8Ideal.main_v110) = v1 c
          ∧ r.2.mem ((c.tc : Thread Cert.Reference8Ideal.nD Cert.Reference8Ideal.τ).loc Cert.Reference8Ideal.main_v111) = v2 c
          ∧ r.2.mem ((c.tc : Thread Cert.Reference8Ideal.nD Cert.Reference8Ideal.τ).loc Cert.Reference8Ideal.main_v112) = v3 c
          ∧ r.2.mem ((c.tc : Thread Cert.Reference8Ideal.nD Cert.Reference8Ideal.τ).loc Cert.Reference8Ideal.main_v115) = v4 c
          ∧ r.2.mem ((c.tc : Thread Cert.Reference8Ideal.nD Cert.Reference8Ideal.τ).loc Cert.Reference8Ideal.main_v118) = v5 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Kernel.lean ====
abbrev S4x2048x2048 : Shape := ⟨3, ![4, 2048, 2048]⟩
abbrev S128x2048 : Shape := ⟨2, ![128, 2048]⟩
abbrev S1x128x2048 : Shape := ⟨3, ![1, 128, 2048]⟩
abbrev S1x2048x10368 : Shape := ⟨3, ![1, 2048, 10368]⟩
abbrev S2048x10368 : Shape := ⟨2, ![2048, 10368]⟩
abbrev S256x2048 : Shape := ⟨2, ![256, 2048]⟩
abbrev S8192x2048 : Shape := ⟨2, ![8192, 2048]⟩
abbrev S8192x5120 : Shape := ⟨2, ![8192, 5120]⟩
abbrev S256x5120 : Shape := ⟨2, ![256, 5120]⟩
abbrev S1024x2048 : Shape := ⟨2, ![1024, 2048]⟩
abbrev S2048x1280 : Shape := ⟨2, ![2048, 1280]⟩
abbrev S1024x1280 : Shape := ⟨2, ![1024, 1280]⟩
abbrev S256x1280 : Shape := ⟨2, ![256, 1280]⟩

abbrev nBuf : Space → Nat
  | .hbm => 11
  | .vmem => 10
  | .smem => 0
  | _ => 0

abbrev bufTy : (tb : Table) → Fin (tcTables nBuf tb) → BufTy
  | .hbm, ⟨0, _⟩ => ⟨S4x2048x2048, .bf16⟩
  | .hbm, ⟨1, _⟩ => ⟨S128x2048, .f32⟩
  | .hbm, ⟨2, _⟩ => ⟨S1x128x2048, .f32⟩
  | .hbm, ⟨3, _⟩ => ⟨S1x2048x10368, .f32⟩
  | .hbm, ⟨4, _⟩ => ⟨S2048x10368, .f32⟩
  | .hbm, ⟨5, _⟩ => ⟨S128x2048, .f32⟩
  | .hbm, ⟨6, _⟩ => ⟨S256x2048, .f32⟩
  | .hbm, ⟨7, _⟩ => ⟨S256x2048, .bf16⟩
  | .hbm, ⟨8, _⟩ => ⟨S8192x2048, .bf16⟩
  | .hbm, ⟨9, _⟩ => ⟨S8192x5120, .f32⟩
  | .hbm, ⟨10, _⟩ => ⟨S256x5120, .f32⟩
  | .local _ .vmem, ⟨0, _⟩ => ⟨S1024x2048, .bf16⟩
  | .local _ .vmem, ⟨1, _⟩ => ⟨S1024x2048, .bf16⟩
  | .local _ .vmem, ⟨2, _⟩ => ⟨S256x2048, .bf16⟩
  | .local _ .vmem, ⟨3, _⟩ => ⟨S2048x1280, .f32⟩
  | .local _ .vmem, ⟨4, _⟩ => ⟨S2048x1280, .f32⟩
  | .local _ .vmem, ⟨5, _⟩ => ⟨S1024x1280, .f32⟩
  | .local _ .vmem, ⟨6, _⟩ => ⟨S1024x1280, .f32⟩
  | .local _ .vmem, ⟨7, _⟩ => ⟨S256x1280, .f32⟩
  | .local _ .vmem, ⟨8, _⟩ => ⟨S256x1280, .f32⟩
  | .local _ .vmem, ⟨9, _⟩ => ⟨S2048x1280, .bf16⟩
  | _, _ => ⟨S4x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 9], ![false, false]⟩

def k0_mult1 (i : grid0.Coords) : BitVec 32 :=
  let c0_i32 : BitVec 32 := 0#32
  let arg0 : BitVec 32 := BitVec.ofNat 32 (i 0).val
  let c1280_i32 : BitVec 32 := 1280#32
  let v0 : BitVec 32 := Scalar.muli arg0 c1280_i32
  let v1 : BitVec 32 := Scalar.addi c0_i32 v0
  v1
def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .ne v4 c0_i32_2
  v5

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c1280_i32 : BitVec 32 := 1280#32
  let v0 : BitVec 32 := Scalar.muli arg0 c1280_i32
  let c0_i32 : BitVec 32 := 0#32
  let v1 : BitVec 32 := Scalar.addi c0_i32 v0
  let v2 : BitVec 32 := v1
  let c0_i32_0 : BitVec 32 := 0#32
  let c0_i32_1 : BitVec 32 := 0#32
  ![c0_i32_0.toNat, v2.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  ![v1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1280 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ReferenceIdeal.lean ====
abbrev S4x2048x2048 : Shape := ⟨3, ![4, 2048, 2048]⟩
abbrev S128x2048 : Shape := ⟨2, ![128, 2048]⟩
abbrev S1x128x2048 : Shape := ⟨3, ![1, 128, 2048]⟩
abbrev S1x2048x10368 : Shape := ⟨3, ![1, 2048, 10368]⟩
abbrev S1x2048x5120 : Shape := ⟨3, ![1, 2048, 5120]⟩
abbrev S2048x5120 : Shape := ⟨2, ![2048, 5120]⟩
abbrev S8192x2048 : Shape := ⟨2, ![8192, 2048]⟩
abbrev S8192x5120 : Shape := ⟨2, ![8192, 5120]⟩
abbrev S256x2048 : Shape := ⟨2, ![256, 2048]⟩
abbrev S256x5120 : Shape := ⟨2, ![256, 5120]⟩

abbrev nBuf : Space → Nat
  | .hbm => 12
  | .vmem => 0
  | .smem => 0
  | _ => 0

abbrev bufTy : (tb : Table) → Fin (tcTables nBuf tb) → BufTy
  | .hbm, ⟨0, _⟩ => ⟨S4x2048x2048, .bf16⟩
  | .hbm, ⟨1, _⟩ => ⟨S128x2048, .f32⟩
  | .hbm, ⟨2, _⟩ => ⟨S1x128x2048, .f32⟩
  | .hbm, ⟨3, _⟩ => ⟨S1x2048x10368, .f32⟩
  | .hbm, ⟨4, _⟩ => ⟨S1x2048x5120, .f32⟩
  | .hbm, ⟨5, _⟩ => ⟨S2048x5120, .f32⟩
  | .hbm, ⟨6, _⟩ => ⟨S4x2048x2048, .f32⟩
  | .hbm, ⟨7, _⟩ => ⟨S8192x2048, .f32⟩
  | .hbm, ⟨8, _⟩ => ⟨S8192x5120, .f32⟩
  | .hbm, ⟨9, _⟩ => ⟨S128x2048, .f32⟩
  | .hbm, ⟨10, _⟩ => ⟨S256x2048, .f32⟩
  | .hbm, ⟨11, _⟩ => ⟨S256x5120, .f32⟩
  | _, _ => ⟨S4x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel2.lean ====
abbrev S4x2048x2048 : Shape := ⟨3, ![4, 2048, 2048]⟩
abbrev S128x2048 : Shape := ⟨2, ![128, 2048]⟩
abbrev S1x128x2048 : Shape := ⟨3, ![1, 128, 2048]⟩
abbrev S1x2048x10368 : Shape := ⟨3, ![1, 2048, 10368]⟩
abbrev S2048x10368 : Shape := ⟨2, ![2048, 10368]⟩
abbrev S256x2048 : Shape := ⟨2, ![256, 2048]⟩
abbrev S8192x2048 : Shape := ⟨2, ![8192, 2048]⟩
abbrev S8192x1152 : Shape := ⟨2, ![8192, 1152]⟩
abbrev S256x1152 : Shape := ⟨2, ![256, 1152]⟩
abbrev S1024x2048 : Shape := ⟨2, ![1024, 2048]⟩
abbrev S2048x1152 : Shape := ⟨2, ![2048, 1152]⟩
abbrev S1024x1152 : Shape := ⟨2, ![1024, 1152]⟩

abbrev nBuf : Space → Nat
  | .hbm => 11
  | .vmem => 8
  | .smem => 0
  | _ => 0

abbrev bufTy : (tb : Table) → Fin (tcTables nBuf tb) → BufTy
  | .hbm, ⟨0, _⟩ => ⟨S4x2048x2048, .bf16⟩
  | .hbm, ⟨1, _⟩ => ⟨S128x2048, .f32⟩
  | .hbm, ⟨2, _⟩ => ⟨S1x128x2048, .f32⟩
  | .hbm, ⟨3, _⟩ => ⟨S1x2048x10368, .f32⟩
  | .hbm, ⟨4, _⟩ => ⟨S2048x10368, .f32⟩
  | .hbm, ⟨5, _⟩ => ⟨S128x2048, .f32⟩
  | .hbm, ⟨6, _⟩ => ⟨S256x2048, .f32⟩
  | .hbm, ⟨7, _⟩ => ⟨S256x2048, .bf16⟩
  | .hbm, ⟨8, _⟩ => ⟨S8192x2048, .bf16⟩
  | .hbm, ⟨9, _⟩ => ⟨S8192x1152, .f32⟩
  | .hbm, ⟨10, _⟩ => ⟨S256x1152, .f32⟩
  | .local _ .vmem, ⟨0, _⟩ => ⟨S1024x2048, .bf16⟩
  | .local _ .vmem, ⟨1, _⟩ => ⟨S1024x2048, .bf16⟩
  | .local _ .vmem, ⟨2, _⟩ => ⟨S256x2048, .bf16⟩
  | .local _ .vmem, ⟨3, _⟩ => ⟨S2048x1152, .f32⟩
  | .local _ .vmem, ⟨4, _⟩ => ⟨S1024x1152, .f32⟩
  | .local _ .vmem, ⟨5, _⟩ => ⟨S1024x1152, .f32⟩
  | .local _ .vmem, ⟨6, _⟩ => ⟨S256x1152, .f32⟩
  | .local _ .vmem, ⟨7, _⟩ => ⟨S2048x1152, .bf16⟩
  | _, _ => ⟨S4x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6

abbrev nD : Nat := 1
abbrev τ : Topo := Topo.v7x

variable {F : FTy → Type} [FloatOps F]

abbrev grid0 : Pipeline.Grid := ⟨2, ![1, 9], ![false, false]⟩

def k0_mult1 (i : grid0.Coords) : BitVec 32 :=
  let c5120_i32 : BitVec 32 := 5120#32
  let arg0 : BitVec 32 := BitVec.ofNat 32 (i 0).val
  let c1152_i32 : BitVec 32 := 1152#32
  let v0 : BitVec 32 := Scalar.muli arg0 c1152_i32
  let v1 : BitVec 32 := Scalar.addi c5120_i32 v0
  v1
def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .ne v4 c0_i32_2
  v5

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c1152_i32 : BitVec 32 := 1152#32
  let v0 : BitVec 32 := Scalar.muli arg0 c1152_i32
  let c5120_i32 : BitVec 32 := 5120#32
  let v1 : BitVec 32 := Scalar.addi c5120_i32 v0
  let v2 : BitVec 32 := v1
  let c0_i32 : BitVec 32 := 0#32
  let c0_i32_0 : BitVec 32 := 0#32
  ![c0_i32.toNat, v2.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  ![v1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048x1152 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S1024x1152 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S256x1152 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]
-- ==== Reference2Ideal.lean ====
abbrev S4x2048x2048 : Shape := ⟨3, ![4, 2048, 2048]⟩
abbrev S128x2048 : Shape := ⟨2, ![128, 2048]⟩
abbrev S1x128x2048 : Shape := ⟨3, ![1, 128, 2048]⟩
abbrev S1x2048x10368 : Shape := ⟨3, ![1, 2048, 10368]⟩
abbrev S1x2048x1152 : Shape := ⟨3, ![1, 2048, 1152]⟩
abbrev S2048x1152 : Shape := ⟨2, ![2048, 1152]⟩
abbrev S8192x2048 : Shape := ⟨2, ![8192, 2048]⟩
abbrev S8192x1152 : Shape := ⟨2, ![8192, 1152]⟩
abbrev S256x2048 : Shape := ⟨2, ![256, 2048]⟩
abbrev S256x1152 : Shape := ⟨2, ![256, 1152]⟩

abbrev nBuf : Space → Nat
  | .hbm => 12
  | .vmem => 0
  | .smem => 0
  | _ => 0

abbrev bufTy : (tb : Table) → Fin (tcTables nBuf tb) → BufTy
  | .hbm, ⟨0, _⟩ => ⟨S4x2048x2048, .bf16⟩
  | .hbm, ⟨1, _⟩ => ⟨S128x2048, .f32⟩
  | .hbm, ⟨2, _⟩ => ⟨S1x128x2048, .f32⟩
  | .hbm, ⟨3, _⟩ => ⟨S1x2048x10368, .f32⟩
  | .hbm, ⟨4, _⟩ => ⟨S1x2048x1152, .f32⟩
  | .hbm, ⟨5, _⟩ => ⟨S2048x1152, .f32⟩
  | .hbm, ⟨6, _⟩ => ⟨S4x2048x2048, .f32⟩
  | .hbm, ⟨7, _⟩ => ⟨S8192x2048, .f32⟩
  | .hbm, ⟨8, _⟩ => ⟨S8192x1152, .f32⟩
  | .hbm, ⟨9, _⟩ => ⟨S128x2048, .f32⟩
  | .hbm, ⟨10, _⟩ => ⟨S256x2048, .f32⟩
  | .hbm, ⟨11, _⟩ => ⟨S256x1152, .f32⟩
  | _, _ => ⟨S4x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel3.lean ====
abbrev S4x2048x2048 : Shape := ⟨3, ![4, 2048, 2048]⟩
abbrev S128x2048 : Shape := ⟨2, ![128, 2048]⟩
abbrev S1x128x2048 : Shape := ⟨3, ![1, 128, 2048]⟩
abbrev S1x2048x10368 : Shape := ⟨3, ![1, 2048, 10368]⟩
abbrev S2048x10368 : Shape := ⟨2, ![2048, 10368]⟩
abbrev S256x2048 : Shape := ⟨2, ![256, 2048]⟩
abbrev S8192x2048 : Shape := ⟨2, ![8192, 2048]⟩
abbrev S8192x4096 : Shape := ⟨2, ![8192, 4096]⟩
abbrev S256x4096 : Shape := ⟨2, ![256, 4096]⟩
abbrev S1024x2048 : Shape := ⟨2, ![1024, 2048]⟩
abbrev S2048x1024 : Shape := ⟨2, ![2048, 1024]⟩
abbrev S1024x1024 : Shape := ⟨2, ![1024, 1024]⟩
abbrev S256x1024 : Shape := ⟨2, ![256, 1024]⟩

abbrev nBuf : Space → Nat
  | .hbm => 11
  | .vmem => 10
  | .smem => 0
  | _ => 0

abbrev bufTy : (tb : Table) → Fin (tcTables nBuf tb) → BufTy
  | .hbm, ⟨0, _⟩ => ⟨S4x2048x2048, .bf16⟩
  | .hbm, ⟨1, _⟩ => ⟨S128x2048, .f32⟩
  | .hbm, ⟨2, _⟩ => ⟨S1x128x2048, .f32⟩
  | .hbm, ⟨3, _⟩ => ⟨S1x2048x10368, .f32⟩
  | .hbm, ⟨4, _⟩ => ⟨S2048x10368, .f32⟩
  | .hbm, ⟨5, _⟩ => ⟨S128x2048, .f32⟩
  | .hbm, ⟨6, _⟩ => ⟨S256x2048, .f32⟩
  | .hbm, ⟨7, _⟩ => ⟨S256x2048, .bf16⟩
  | .hbm, ⟨8, _⟩ => ⟨S8192x2048, .bf16⟩
  | .hbm, ⟨9, _⟩ => ⟨S8192x4096, .bf16⟩
  | .hbm, ⟨10, _⟩ => ⟨S256x4096, .bf16⟩
  | .local _ .vmem, ⟨0, _⟩ => ⟨S1024x2048, .bf16⟩
  | .local _ .vmem, ⟨1, _⟩ => ⟨S1024x2048, .bf16⟩
  | .local _ .vmem, ⟨2, _⟩ => ⟨S256x2048, .bf16⟩
  | .local _ .vmem, ⟨3, _⟩ => ⟨S2048x1024, .f32⟩
  | .local _ .vmem, ⟨4, _⟩ => ⟨S2048x1024, .f32⟩
  | .local _ .vmem, ⟨5, _⟩ => ⟨S1024x1024, .bf16⟩
  | .local _ .vmem, ⟨6, _⟩ => ⟨S1024x1024, .bf16⟩
  | .local _ .vmem, ⟨7, _⟩ => ⟨S256x1024, .bf16⟩
  | .local _ .vmem, ⟨8, _⟩ => ⟨S256x1024, .bf16⟩
  | .local _ .vmem, ⟨9, _⟩ => ⟨S2048x1024, .bf16⟩
  | _, _ => ⟨S4x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 9], ![false, false]⟩

def k0_mult1 (i : grid0.Coords) : BitVec 32 :=
  let c6272_i32 : BitVec 32 := 6272#32
  let arg0 : BitVec 32 := BitVec.ofNat 32 (i 0).val
  let c1024_i32 : BitVec 32 := 1024#32
  let v0 : BitVec 32 := Scalar.muli arg0 c1024_i32
  let v1 : BitVec 32 := Scalar.addi c6272_i32 v0
  v1
def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .ne v4 c0_i32_2
  v5

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c6272_i32 : BitVec 32 := 6272#32
  let v1 : BitVec 32 := Scalar.addi c6272_i32 v0
  let v2 : BitVec 32 := v1
  let c0_i32 : BitVec 32 := 0#32
  let c0_i32_0 : BitVec 32 := 0#32
  ![c0_i32.toNat, v2.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  ![v1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference3Ideal.lean ====
abbrev S4x2048x2048 : Shape := ⟨3, ![4, 2048, 2048]⟩
abbrev S128x2048 : Shape := ⟨2, ![128, 2048]⟩
abbrev S1x128x2048 : Shape := ⟨3, ![1, 128, 2048]⟩
abbrev S1x2048x10368 : Shape := ⟨3, ![1, 2048, 10368]⟩
abbrev S1x2048x4096 : Shape := ⟨3, ![1, 2048, 4096]⟩
abbrev S2048x4096 : Shape := ⟨2, ![2048, 4096]⟩
abbrev S8192x2048 : Shape := ⟨2, ![8192, 2048]⟩
abbrev S8192x4096 : Shape := ⟨2, ![8192, 4096]⟩
abbrev S256x2048 : Shape := ⟨2, ![256, 2048]⟩
abbrev S256x4096 : Shape := ⟨2, ![256, 4096]⟩
abbrev S_ : Shape := ⟨0, ![]⟩

abbrev nBuf : Space → Nat
  | .hbm => 30
  | .vmem => 0
  | .smem => 0
  | _ => 0

abbrev bufTy : (tb : Table) → Fin (tcTables nBuf tb) → BufTy
  | .hbm, ⟨0, _⟩ => ⟨S4x2048x2048, .bf16⟩
  | .hbm, ⟨1, _⟩ => ⟨S128x2048, .f32⟩
  | .hbm, ⟨2, _⟩ => ⟨S1x128x2048, .f32⟩
  | .hbm, ⟨3, _⟩ => ⟨S1x2048x10368, .f32⟩
  | .hbm, ⟨4, _⟩ => ⟨S1x2048x4096, .f32⟩
  | .hbm, ⟨5, _⟩ => ⟨S2048x4096, .f32⟩
  | .hbm, ⟨6, _⟩ => ⟨S4x2048x2048, .f32⟩
  | .hbm, ⟨7, _⟩ => ⟨S8192x2048, .f32⟩
  | .hbm, ⟨8, _⟩ => ⟨S8192x4096, .f32⟩
  | .hbm, ⟨9, _⟩ => ⟨S128x2048, .f32⟩
  | .hbm, ⟨10, _⟩ => ⟨S256x2048, .f32⟩
  | .hbm, ⟨11, _⟩ => ⟨S256x4096, .f32⟩
  | .hbm, ⟨12, _⟩ => ⟨S8192x4096, .f32⟩
  | .hbm, ⟨13, _⟩ => ⟨S8192x4096, .f32⟩
  | .hbm, ⟨14, _⟩ => ⟨S_, .f32⟩
  | .hbm, ⟨15, _⟩ => ⟨S8192x4096, .f32⟩
  | .hbm, ⟨16, _⟩ => ⟨S8192x4096, .f32⟩
  | .hbm, ⟨17, _⟩ => ⟨S_, .f32⟩
  | .hbm, ⟨18, _⟩ => ⟨S8192x4096, .f32⟩
  | .hbm, ⟨19, _⟩ => ⟨S8192x4096, .f32⟩
  | .hbm, ⟨20, _⟩ => ⟨S8192x4096, .bf16⟩
  | .hbm, ⟨21, _⟩ => ⟨S256x4096, .f32⟩
  | .hbm, ⟨22, _⟩ => ⟨S256x4096, .f32⟩
  | .hbm, ⟨23, _⟩ => ⟨S_, .f32⟩
  | .hbm, ⟨24, _⟩ => ⟨S256x4096, .f32⟩
  | .hbm, ⟨25, _⟩ => ⟨S256x4096, .f32⟩
  | .hbm, ⟨26, _⟩ => ⟨S_, .f32⟩
  | .hbm, ⟨27, _⟩ => ⟨S256x4096, .f32⟩
  | .hbm, ⟨28, _⟩ => ⟨S256x4096, .f32⟩
  | .hbm, ⟨29, _⟩ => ⟨S256x4096, .bf16⟩
  | _, _ => ⟨S4x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== Kernel4.lean ====
abbrev S4x2048x2048 : Shape := ⟨3, ![4, 2048, 2048]⟩
abbrev S128x1x2048 : Shape := ⟨3, ![128, 1, 2048]⟩
abbrev S4x2048 : Shape := ⟨2, ![4, 2048]⟩
abbrev S128x2048 : Shape := ⟨2, ![128, 2048]⟩
abbrev S1x2048 : Shape := ⟨2, ![1, 2048]⟩
abbrev S1x2048x6144 : Shape := ⟨3, ![1, 2048, 6144]⟩
abbrev S1x6144 : Shape := ⟨2, ![1, 6144]⟩
abbrev S2048x6144 : Shape := ⟨2, ![2048, 6144]⟩
abbrev S6144 : Shape := ⟨1, ![6144]⟩
abbrev S4x6144 : Shape := ⟨2, ![4, 6144]⟩
abbrev S128x6144 : Shape := ⟨2, ![128, 6144]⟩
abbrev S2048x1024 : Shape := ⟨2, ![2048, 1024]⟩
abbrev S1x1024 : Shape := ⟨2, ![1, 1024]⟩
abbrev S4x1024 : Shape := ⟨2, ![4, 1024]⟩
abbrev S128x1024 : Shape := ⟨2, ![128, 1024]⟩
abbrev S4x1x6144 : Shape := ⟨3, ![4, 1, 6144]⟩
abbrev S1x128x6144 : Shape := ⟨3, ![1, 128, 6144]⟩
abbrev S2048 : Shape := ⟨1, ![2048]⟩
abbrev S1x1024x2048 : Shape := ⟨3, ![1, 1024, 2048]⟩
abbrev S1x1x2048 : Shape := ⟨3, ![1, 1, 2048]⟩
abbrev S1024x2048 : Shape := ⟨2, ![1024, 2048]⟩
abbrev S1024 : Shape := ⟨1, ![1024]⟩
abbrev S1024x1 : Shape := ⟨2, ![1024, 1]⟩
abbrev S4x1x2048 : Shape := ⟨3, ![4, 1, 2048]⟩
abbrev S1 : Shape := ⟨1, ![1]⟩
abbrev S1x1 : Shape := ⟨2, ![1, 1]⟩
abbrev S1x128x2048 : Shape := ⟨3, ![1, 128, 2048]⟩
abbrev S128 : Shape := ⟨1, ![128]⟩
abbrev S128x1 : Shape := ⟨2, ![128, 1]⟩

abbrev nBuf : Space → Nat
  | .hbm => 25
  | .vmem => 33
  | .smem => 0
  | _ => 0

abbrev bufTy : (tb : Table) → Fin (tcTables nBuf tb) → BufTy
  | .hbm, ⟨0, _⟩ => ⟨S4x2048x2048, .f32⟩
  | .hbm, ⟨1, _⟩ => ⟨S128x1x2048, .f32⟩
  | .hbm, ⟨2, _⟩ => ⟨S4x2048, .f32⟩
  | .hbm, ⟨3, _⟩ => ⟨S128x2048, .f32⟩
  | .hbm, ⟨4, _⟩ => ⟨S1x2048, .f32⟩
  | .hbm, ⟨5, _⟩ => ⟨S1x2048x6144, .f32⟩
  | .hbm, ⟨6, _⟩ => ⟨S1x6144, .f32⟩
  | .hbm, ⟨7, _⟩ => ⟨S2048x6144, .f32⟩
  | .hbm, ⟨8, _⟩ => ⟨S6144, .f32⟩
  | .hbm, ⟨9, _⟩ => ⟨S1x6144, .f32⟩
  | .hbm, ⟨10, _⟩ => ⟨S4x6144, .f32⟩
  | .hbm, ⟨11, _⟩ => ⟨S128x6144, .f32⟩
  | .hbm, ⟨12, _⟩ => ⟨S4x1x6144, .f32⟩
  | .hbm, ⟨13, _⟩ => ⟨S1x128x6144, .f32⟩
  | .hbm, ⟨14, _⟩ => ⟨S2048, .f32⟩
  | .hbm, ⟨15, _⟩ => ⟨S1x2048, .f32⟩
  | .hbm, ⟨16, _⟩ => ⟨S4x2048x2048, .bf16⟩
  | .hbm, ⟨17, _⟩ => ⟨S4x1x2048, .f32⟩
  | .hbm, ⟨18, _⟩ => ⟨S2048, .f32⟩
  | .hbm, ⟨19, _⟩ => ⟨S1x2048, .f32⟩
  | .hbm, ⟨20, _⟩ => ⟨S4x1x2048, .f32⟩
  | .hbm, ⟨21, _⟩ => ⟨S1x128x2048, .f32⟩
  | .hbm, ⟨22, _⟩ => ⟨S2048, .f32⟩
  | .hbm, ⟨23, _⟩ => ⟨S1x2048, .f32⟩
  | .hbm, ⟨24, _⟩ => ⟨S1x128x2048, .f32⟩
  | .local _ .vmem, ⟨0, _⟩ => ⟨S4x2048, .f32⟩
  | .local _ .vmem, ⟨1, _⟩ => ⟨S128x2048, .f32⟩
  | .local _ .vmem, ⟨2, _⟩ => ⟨S2048x1024, .f32⟩
  | .local _ .vmem, ⟨3, _⟩ => ⟨S2048x1024, .f32⟩
  | .local _ .vmem, ⟨4, _⟩ => ⟨S1x1024, .f32⟩
  | .local _ .vmem, ⟨5, _⟩ => ⟨S1x1024, .f32⟩
  | .local _ .vmem, ⟨6, _⟩ => ⟨S4x1024, .f32⟩
  | .local _ .vmem, ⟨7, _⟩ => ⟨S4x1024, .f32⟩
  | .local _ .vmem, ⟨8, _⟩ => ⟨S128x1024, .f32⟩
  | .local _ .vmem, ⟨9, _⟩ => ⟨S128x1024, .f32⟩
  | .local _ .vmem, ⟨10, _⟩ => ⟨S1x1024x2048, .f32⟩
  | .local _ .vmem, ⟨11, _⟩ => ⟨S1x1024x2048, .f32⟩
  | .local _ .vmem, ⟨12, _⟩ => ⟨S1x2048, .f32⟩
  | .local _ .vmem, ⟨13, _⟩ => ⟨S1x1x2048, .f32⟩
  | .local _ .vmem, ⟨14, _⟩ => ⟨S1x1x2048, .f32⟩
  | .local _ .vmem, ⟨15, _⟩ => ⟨S1x1x2048, .f32⟩
  | .local _ .vmem, ⟨16, _⟩ => ⟨S1x1x2048, .f32⟩
  | .local _ .vmem, ⟨17, _⟩ => ⟨S1x1024x2048, .bf16⟩
  | .local _ .vmem, ⟨18, _⟩ => ⟨S1x1024x2048, .bf16⟩
  | .local _ .vmem, ⟨19, _⟩ => ⟨S1x1x2048, .f32⟩
  | .local _ .vmem, ⟨20, _⟩ => ⟨S1x1x2048, .f32⟩
  | .local _ .vmem, ⟨21, _⟩ => ⟨S1x2048, .f32⟩
  | .local _ .vmem, ⟨22, _⟩ => ⟨S1x1x2048, .f32⟩
  | .local _ .vmem, ⟨23, _⟩ => ⟨S1x1x2048, .f32⟩
  | .local _ .vmem, ⟨24, _⟩ => ⟨S1x1x2048, .f32⟩
  | .local _ .vmem, ⟨25, _⟩ => ⟨S1x1x2048, .f32⟩
  | .local _ .vmem, ⟨26, _⟩ => ⟨S1x1x2048, .f32⟩
  | .local _ .vmem, ⟨27, _⟩ => ⟨S1x1x2048, .f32⟩
  | .local _ .vmem, ⟨28, _⟩ => ⟨S1x128x2048, .f32⟩
  | .local _ .vmem, ⟨29, _⟩ => ⟨S1x2048, .f32⟩
  | .local _ .vmem, ⟨30, _⟩ => ⟨S1x128x2048, .f32⟩
  | .local _ .vmem, ⟨31, _⟩ => ⟨S1x128x2048, .f32⟩
  | .local _ .vmem, ⟨32, _⟩ => ⟨S1x128x2048, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg4_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg3_1 : Ref sig .tc := ⟨.vmem, 25, rfl⟩
abbrev cc2_stg4_0 : Ref sig .tc := ⟨.vmem, 26, rfl⟩
abbrev cc2_stg4_1 : Ref sig .tc := ⟨.vmem, 27, rfl⟩
abbrev cc3_stg0_0 : Ref sig .tc := ⟨.vmem, 28, rfl⟩
abbrev cc3_stg1_0 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg4_0 : Ref sig .tc := ⟨.vmem, 32, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem2_1 : DmaSem sig := 14
abbrev cc1_sem3_0 : DmaSem sig := 15
abbrev cc1_sem3_1 : DmaSem sig := 16
abbrev cc1_sem4_0 : DmaSem sig := 17
abbrev cc1_sem4_1 : DmaSem sig := 18
abbrev cc2_sem0_0 : DmaSem sig := 19
abbrev cc2_sem0_1 : DmaSem sig := 20
abbrev cc2_sem1_0 : DmaSem sig := 21
abbrev cc2_sem2_0 : DmaSem sig := 22
abbrev cc2_sem2_1 : DmaSem sig := 23
abbrev cc2_sem3_0 : DmaSem sig := 24
abbrev cc2_sem3_1 : DmaSem sig := 25
abbrev cc2_sem4_0 : DmaSem sig := 26
abbrev cc2_sem4_1 : DmaSem sig := 27
abbrev cc3_sem0_0 : DmaSem sig := 28
abbrev cc3_sem1_0 : DmaSem sig := 29
abbrev cc3_sem2_0 : DmaSem sig := 30
abbrev cc3_sem3_0 : DmaSem sig := 31
abbrev cc3_sem4_0 : DmaSem sig := 32

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S4x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![4, 2], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1x1x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x1024x2048 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev grid2 : Pipeline.Grid := ⟨2, ![4, 1], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x1x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S1x2048 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 2 → Memref sig .tc .vmem S1x1x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S1x1x2048 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S1x1x2048 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev grid3 : Pipeline.Grid := ⟨2, ![1, 1], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_3 (i : grid3.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc3_transform_4 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage3_0 : Fin 1 → Memref sig .tc .vmem S1x128x2048 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true, true]

abbrev stage3_1 : Fin 1 → Memref sig .tc .vmem S1x2048 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, false]

abbrev stage3_2 : Fin 1 → Memref sig .tc .vmem S1x128x2048 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![true, true]

abbrev stage3_3 : Fin 1 → Memref sig .tc .vmem S1x128x2048 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![true, true]

abbrev stage3_4 : Fin 1 → Memref sig .tc .vmem S1x128x2048 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![true, true]
-- ==== Reference4Ideal.lean ====
abbrev S4x2048x2048 : Shape := ⟨3, ![4, 2048, 2048]⟩
abbrev S128x1x2048 : Shape := ⟨3, ![128, 1, 2048]⟩
abbrev S4x2048 : Shape := ⟨2, ![4, 2048]⟩
abbrev S128x2048 : Shape := ⟨2, ![128, 2048]⟩
abbrev S1x2048 : Shape := ⟨2, ![1, 2048]⟩
abbrev S1x2048x6144 : Shape := ⟨3, ![1, 2048, 6144]⟩
abbrev S1x6144 : Shape := ⟨2, ![1, 6144]⟩
abbrev S_ : Shape := ⟨0, ![]⟩
abbrev S2048x6144 : Shape := ⟨2, ![2048, 6144]⟩
abbrev S4x6144 : Shape := ⟨2, ![4, 6144]⟩
abbrev S6144 : Shape := ⟨1, ![6144]⟩
abbrev S4x1x2048 : Shape := ⟨3, ![4, 1, 2048]⟩
abbrev S2048 : Shape := ⟨1, ![2048]⟩
abbrev S4x2048x1 : Shape := ⟨3, ![4, 2048, 1]⟩
abbrev S1x1x2048 : Shape := ⟨3, ![1, 1, 2048]⟩
abbrev S128x6144 : Shape := ⟨2, ![128, 6144]⟩
abbrev S128x1 : Shape := ⟨2, ![128, 1]⟩
abbrev S128x1x1 : Shape := ⟨3, ![128, 1, 1]⟩
abbrev S1x128x2048 : Shape := ⟨3, ![1, 128, 2048]⟩

abbrev nBuf : Space → Nat
  | .hbm => 94
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S128x1x2048, .f32⟩
  | .hbm, ⟨2, _⟩ => ⟨S4x2048, .f32⟩
  | .hbm, ⟨3, _⟩ => ⟨S128x2048, .f32⟩
  | .hbm, ⟨4, _⟩ => ⟨S1x2048, .f32⟩
  | .hbm, ⟨5, _⟩ => ⟨S1x2048x6144, .f32⟩
  | .hbm, ⟨6, _⟩ => ⟨S1x6144, .f32⟩
  | .hbm, ⟨7, _⟩ => ⟨S4x2048, .f32⟩
  | .hbm, ⟨8, _⟩ => ⟨S4x2048, .f32⟩
  | .hbm, ⟨9, _⟩ => ⟨S_, .f32⟩
  | .hbm, ⟨10, _⟩ => ⟨S4x2048, .f32⟩
  | .hbm, ⟨11, _⟩ => ⟨S4x2048, .f32⟩
  | .hbm, ⟨12, _⟩ => ⟨S_, .f32⟩
  | .hbm, ⟨13, _⟩ => ⟨S4x2048, .f32⟩
  | .hbm, ⟨14, _⟩ => ⟨S4x2048, .f32⟩
  | .hbm, ⟨15, _⟩ => ⟨S4x2048, .f32⟩
  | .hbm, ⟨16, _⟩ => ⟨S2048x6144, .f32⟩
  | .hbm, ⟨17, _⟩ => ⟨S4x6144, .f32⟩
  | .hbm, ⟨18, _⟩ => ⟨S6144, .f32⟩
  | .hbm, ⟨19, _⟩ => ⟨S1x6144, .f32⟩
  | .hbm, ⟨20, _⟩ => ⟨S4x6144, .f32⟩
  | .hbm, ⟨21, _⟩ => ⟨S4x6144, .f32⟩
  | .hbm, ⟨22, _⟩ => ⟨S4x2048, .f32⟩
  | .hbm, ⟨23, _⟩ => ⟨S4x1x2048, .f32⟩
  | .hbm, ⟨24, _⟩ => ⟨S4x2048, .f32⟩
  | .hbm, ⟨25, _⟩ => ⟨S4x1x2048, .f32⟩
  | .hbm, ⟨26, _⟩ => ⟨S2048, .f32⟩
  | .hbm, ⟨27, _⟩ => ⟨S4x2048x2048, .f32⟩
  | .hbm, ⟨28, _⟩ => ⟨S_, .f32⟩
  | .hbm, ⟨29, _⟩ => ⟨S4x2048, .f32⟩
  | .hbm, ⟨30, _⟩ => ⟨S4x2048x1, .f32⟩
  | .hbm, ⟨31, _⟩ => ⟨S_, .f32⟩
  | .hbm, ⟨32, _⟩ => ⟨S4x2048x1, .f32⟩
  | .hbm, ⟨33, _⟩ => ⟨S4x2048x1, .f32⟩
  | .hbm, ⟨34, _⟩ => ⟨S_, .f32⟩
  | .hbm, ⟨35, _⟩ => ⟨S4x2048x1, .f32⟩
  | .hbm, ⟨36, _⟩ => ⟨S4x2048x1, .f32⟩
  | .hbm, ⟨37, _⟩ => ⟨S4x2048x1, .f32⟩
  | .hbm, ⟨38, _⟩ => ⟨S4x2048x2048, .f32⟩
  | .hbm, ⟨39, _⟩ => ⟨S4x2048x2048, .f32⟩
  | .hbm, ⟨40, _⟩ => ⟨S1x1x2048, .f32⟩
  | .hbm, ⟨41, _⟩ => ⟨S4x2048x2048, .f32⟩
  | .hbm, ⟨42, _⟩ => ⟨S4x2048x2048, .f32⟩
  | .hbm, ⟨43, _⟩ => ⟨S_, .f32⟩
  | .hbm, ⟨44, _⟩ => ⟨S4x1x2048, .f32⟩
  | .hbm, ⟨45, _⟩ => ⟨S4x1x2048, .f32⟩
  | .hbm, ⟨46, _⟩ => ⟨S4x2048x2048, .f32⟩
  | .hbm, ⟨47, _⟩ => ⟨S4x2048x2048, .f32⟩
  | .hbm, ⟨48, _⟩ => ⟨S4x2048x2048, .f32⟩
  | .hbm, ⟨49, _⟩ => ⟨S4x2048x2048, .f32⟩
  | .hbm, ⟨50, _⟩ => ⟨S128x2048, .f32⟩
  | .hbm, ⟨51, _⟩ => ⟨S128x2048, .f32⟩
  | .hbm, ⟨52, _⟩ => ⟨S_, .f32⟩
  | .hbm, ⟨53, _⟩ => ⟨S128x2048, .f32⟩
  | .hbm, ⟨54, _⟩ => ⟨S128x2048, .f32⟩
  | .hbm, ⟨55, _⟩ => ⟨S_, .f32⟩
  | .hbm, ⟨56, _⟩ => ⟨S128x2048, .f32⟩
  | .hbm, ⟨57, _⟩ => ⟨S128x2048, .f32⟩
  | .hbm, ⟨58, _⟩ => ⟨S128x2048, .f32⟩
  | .hbm, ⟨59, _⟩ => ⟨S2048x6144, .f32⟩
  | .hbm, ⟨60, _⟩ => ⟨S128x6144, .f32⟩
  | .hbm, ⟨61, _⟩ => ⟨S6144, .f32⟩
  | .hbm, ⟨62, _⟩ => ⟨S1x6144, .f32⟩
  | .hbm, ⟨63, _⟩ => ⟨S128x6144, .f32⟩
  | .hbm, ⟨64, _⟩ => ⟨S128x6144, .f32⟩
  | .hbm, ⟨65, _⟩ => ⟨S128x2048, .f32⟩
  | .hbm, ⟨66, _⟩ => ⟨S128x1x2048, .f32⟩
  | .hbm, ⟨67, _⟩ => ⟨S128x2048, .f32⟩
  | .hbm, ⟨68, _⟩ => ⟨S128x1x2048, .f32⟩
  | .hbm, ⟨69, _⟩ => ⟨S2048, .f32⟩
  | .hbm, ⟨70, _⟩ => ⟨S128x1x2048, .f32⟩
  | .hbm, ⟨71, _⟩ => ⟨S_, .f32⟩
  | .hbm, ⟨72, _⟩ => ⟨S128x1, .f32⟩
  | .hbm, ⟨73, _⟩ => ⟨S128x1x1, .f32⟩
  | .hbm, ⟨74, _⟩ => ⟨S_, .f32⟩
  | .hbm, ⟨75, _⟩ => ⟨S128x1x1, .f32⟩
  | .hbm, ⟨76, _⟩ => ⟨S128x1x1, .f32⟩
  | .hbm, ⟨77, _⟩ => ⟨S_, .f32⟩
  | .hbm, ⟨78, _⟩ => ⟨S128x1x1, .f32⟩
  | .hbm, ⟨79, _⟩ => ⟨S128x1x1, .f32⟩
  | .hbm, ⟨80, _⟩ => ⟨S128x1x1, .f32⟩
  | .hbm, ⟨81, _⟩ => ⟨S128x1x2048, .f32⟩
  | .hbm, ⟨82, _⟩ => ⟨S128x1x2048, .f32⟩
  | .hbm, ⟨83, _⟩ => ⟨S1x1x2048, .f32⟩
  | .hbm, ⟨84, _⟩ => ⟨S128x1x2048, .f32⟩
  | .hbm, ⟨85, _⟩ => ⟨S128x1x2048, .f32⟩
  | .hbm, ⟨86, _⟩ => ⟨S_, .f32⟩
  | .hbm, ⟨87, _⟩ => ⟨S128x1x2048, .f32⟩
  | .hbm, ⟨88, _⟩ => ⟨S128x1x2048, .f32⟩
  | .hbm, ⟨89, _⟩ => ⟨S128x1x2048, .f32⟩
  | .hbm, ⟨90, _⟩ => ⟨S128x1x2048, .f32⟩
  | .hbm, ⟨91, _⟩ => ⟨S4x2048x2048, .bf16⟩
  | .hbm, ⟨92, _⟩ => ⟨S4x1x2048, .f32⟩
  | .hbm, ⟨93, _⟩ => ⟨S1x128x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_4 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_5 : Ref sig .tc := ⟨.hbm, 52, rfl⟩
abbrev main_v39 : Ref sig .tc := ⟨.hbm, 53, rfl⟩
abbrev main_v40 : Ref sig .tc := ⟨.hbm, 54, rfl⟩
abbrev main_cst_6 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_cst_7 : Ref sig .tc := ⟨.hbm, 71, rfl⟩
abbrev main_v56 : Ref sig .tc := ⟨.hbm, 72, rfl⟩
abbrev main_v57 : Ref sig .tc := ⟨.hbm, 73, rfl⟩
abbrev main_cst_8 : Ref sig .tc := ⟨.hbm, 74, rfl⟩
abbrev main_v58 : Ref sig .tc := ⟨.hbm, 75, rfl⟩
abbrev main_v59 : Ref sig .tc := ⟨.hbm, 76, rfl⟩
abbrev main_cst_9 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_cst_10 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩

abbrev nD : Nat := 1
abbrev τ : Topo := Topo.v7x

variable {F : FTy → Type} [FloatOps F]
-- ==== Kernel5.lean ====
abbrev S128x1024 : Shape := ⟨2, ![128, 1024]⟩
abbrev S256x5120 : Shape := ⟨2, ![256, 5120]⟩
abbrev S256x4096 : Shape := ⟨2, ![256, 4096]⟩
abbrev S128x1x2048 : Shape := ⟨3, ![128, 1, 2048]⟩
abbrev S128x6144 : Shape := ⟨2, ![128, 6144]⟩
abbrev S1x1024x1024 : Shape := ⟨3, ![1, 1024, 1024]⟩
abbrev S1x1024 : Shape := ⟨2, ![1, 1024]⟩
abbrev S1x2048x2048 : Shape := ⟨3, ![1, 2048, 2048]⟩
abbrev S2048 : Shape := ⟨1, ![2048]⟩
abbrev S1x128x1024 : Shape := ⟨3, ![1, 128, 1024]⟩
abbrev S2x128x5120 : Shape := ⟨3, ![2, 128, 5120]⟩
abbrev S2x128x4096 : Shape := ⟨3, ![2, 128, 4096]⟩
abbrev S1x128x2048 : Shape := ⟨3, ![1, 128, 2048]⟩
abbrev S1x128x6144 : Shape := ⟨3, ![1, 128, 6144]⟩
abbrev S1024x1024 : Shape := ⟨2, ![1024, 1024]⟩
abbrev S1024 : Shape := ⟨1, ![1024]⟩
abbrev S2048x2048 : Shape := ⟨2, ![2048, 2048]⟩
abbrev S1x2048 : Shape := ⟨2, ![1, 2048]⟩
abbrev S1024x2048 : Shape := ⟨2, ![1024, 2048]⟩
abbrev S128x2048 : Shape := ⟨2, ![128, 2048]⟩
abbrev S128 : Shape := ⟨1, ![128]⟩
abbrev S128x1 : Shape := ⟨2, ![128, 1]⟩

abbrev nBuf : Space → Nat
  | .hbm => 24
  | .vmem => 13
  | .smem => 0
  | _ => 0

abbrev bufTy : (tb : Table) → Fin (tcTables nBuf tb) → BufTy
  | .hbm, ⟨0, _⟩ => ⟨S128x1024, .f32⟩
  | .hbm, ⟨1, _⟩ => ⟨S256x5120, .f32⟩
  | .hbm, ⟨2, _⟩ => ⟨S128x1024, .bf16⟩
  | .hbm, ⟨3, _⟩ => ⟨S256x4096, .bf16⟩
  | .hbm, ⟨4, _⟩ => ⟨S128x1x2048, .f32⟩
  | .hbm, ⟨5, _⟩ => ⟨S128x6144, .f32⟩
  | .hbm, ⟨6, _⟩ => ⟨S1x1024x1024, .f32⟩
  | .hbm, ⟨7, _⟩ => ⟨S1x1024, .f32⟩
  | .hbm, ⟨8, _⟩ => ⟨S1x2048x2048, .f32⟩
  | .hbm, ⟨9, _⟩ => ⟨S2048, .f32⟩
  | .hbm, ⟨10, _⟩ => ⟨S1x128x1024, .f32⟩
  | .hbm, ⟨11, _⟩ => ⟨S2x128x5120, .f32⟩
  | .hbm, ⟨12, _⟩ => ⟨S1x128x1024, .bf16⟩
  | .hbm, ⟨13, _⟩ => ⟨S2x128x4096, .bf16⟩
  | .hbm, ⟨14, _⟩ => ⟨S1x128x2048, .f32⟩
  | .hbm, ⟨15, _⟩ => ⟨S1x128x6144, .f32⟩
  | .hbm, ⟨16, _⟩ => ⟨S1024x1024, .f32⟩
  | .hbm, ⟨17, _⟩ => ⟨S1024x1024, .bf16⟩
  | .hbm, ⟨18, _⟩ => ⟨S1024, .f32⟩
  | .hbm, ⟨19, _⟩ => ⟨S2048x2048, .f32⟩
  | .hbm, ⟨20, _⟩ => ⟨S2048x2048, .bf16⟩
  | .hbm, ⟨21, _⟩ => ⟨S1x1024, .f32⟩
  | .hbm, ⟨22, _⟩ => ⟨S1x2048, .f32⟩
  | .hbm, ⟨23, _⟩ => ⟨S1x128x2048, .f32⟩
  | .local _ .vmem, ⟨0, _⟩ => ⟨S1x128x1024, .f32⟩
  | .local _ .vmem, ⟨1, _⟩ => ⟨S1x128x1024, .f32⟩
  | .local _ .vmem, ⟨2, _⟩ => ⟨S1024x1024, .bf16⟩
  | .local _ .vmem, ⟨3, _⟩ => ⟨S1x1024, .f32⟩
  | .local _ .vmem, ⟨4, _⟩ => ⟨S1x128x1024, .bf16⟩
  | .local _ .vmem, ⟨5, _⟩ => ⟨S1x128x2048, .bf16⟩
  | .local _ .vmem, ⟨6, _⟩ => ⟨S1x128x2048, .bf16⟩
  | .local _ .vmem, ⟨7, _⟩ => ⟨S1x128x2048, .f32⟩
  | .local _ .vmem, ⟨8, _⟩ => ⟨S1x128x2048, .f32⟩
  | .local _ .vmem, ⟨9, _⟩ => ⟨S1024x2048, .bf16⟩
  | .local _ .vmem, ⟨10, _⟩ => ⟨S1024x2048, .bf16⟩
  | .local _ .vmem, ⟨11, _⟩ => ⟨S1x2048, .f32⟩
  | .local _ .vmem, ⟨12, _⟩ => ⟨S1x128x2048, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x128x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x128x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x128x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]

abbrev stage0_8 : Fin 1 → Memref sig .tc .vmem S1x128x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, true]

abbrev stage0_9 : Fin 1 → Memref sig .tc .vmem S1024x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x128x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true, true]
-- ==== Reference5Ideal.lean ====
abbrev S128x1024 : Shape := ⟨2, ![128, 1024]⟩
abbrev S256x5120 : Shape := ⟨2, ![256, 5120]⟩
abbrev S256x4096 : Shape := ⟨2, ![256, 4096]⟩
abbrev S128x1x2048 : Shape := ⟨3, ![128, 1, 2048]⟩
abbrev S128x6144 : Shape := ⟨2, ![128, 6144]⟩
abbrev S1x1024x1024 : Shape := ⟨3, ![1, 1024, 1024]⟩
abbrev S1x1024 : Shape := ⟨2, ![1, 1024]⟩
abbrev S1x2048x2048 : Shape := ⟨3, ![1, 2048, 2048]⟩
abbrev S2048 : Shape := ⟨1, ![2048]⟩
abbrev S128x2048 : Shape := ⟨2, ![128, 2048]⟩
abbrev S1024x1024 : Shape := ⟨2, ![1024, 1024]⟩
abbrev S1024 : Shape := ⟨1, ![1024]⟩
abbrev S2048x2048 : Shape := ⟨2, ![2048, 2048]⟩
abbrev S_ : Shape := ⟨0, ![]⟩
abbrev S1024x2048 : Shape := ⟨2, ![1024, 2048]⟩
abbrev S128 : Shape := ⟨1, ![128]⟩
abbrev S128x1 : Shape := ⟨2, ![128, 1]⟩
abbrev S1x2048 : Shape := ⟨2, ![1, 2048]⟩
abbrev S1x128x2048 : Shape := ⟨3, ![1, 128, 2048]⟩

abbrev nBuf : Space → Nat
  | .hbm => 87
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S256x5120, .f32⟩
  | .hbm, ⟨2, _⟩ => ⟨S128x1024, .bf16⟩
  | .hbm, ⟨3, _⟩ => ⟨S256x4096, .bf16⟩
  | .hbm, ⟨4, _⟩ => ⟨S128x1x2048, .f32⟩
  | .hbm, ⟨5, _⟩ => ⟨S128x6144, .f32⟩
  | .hbm, ⟨6, _⟩ => ⟨S1x1024x1024, .f32⟩
  | .hbm, ⟨7, _⟩ => ⟨S1x1024, .f32⟩
  | .hbm, ⟨8, _⟩ => ⟨S1x2048x2048, .f32⟩
  | .hbm, ⟨9, _⟩ => ⟨S2048, .f32⟩
  | .hbm, ⟨10, _⟩ => ⟨S128x1024, .f32⟩
  | .hbm, ⟨11, _⟩ => ⟨S128x2048, .bf16⟩
  | .hbm, ⟨12, _⟩ => ⟨S128x2048, .bf16⟩
  | .hbm, ⟨13, _⟩ => ⟨S128x2048, .f32⟩
  | .hbm, ⟨14, _⟩ => ⟨S128x2048, .f32⟩
  | .hbm, ⟨15, _⟩ => ⟨S1024x1024, .f32⟩
  | .hbm, ⟨16, _⟩ => ⟨S1024, .f32⟩
  | .hbm, ⟨17, _⟩ => ⟨S2048x2048, .f32⟩
  | .hbm, ⟨18, _⟩ => ⟨S128x1024, .f32⟩
  | .hbm, ⟨19, _⟩ => ⟨S128x1024, .f32⟩
  | .hbm, ⟨20, _⟩ => ⟨S_, .f32⟩
  | .hbm, ⟨21, _⟩ => ⟨S128x1024, .f32⟩
  | .hbm, ⟨22, _⟩ => ⟨S128x1024, .f32⟩
  | .hbm, ⟨23, _⟩ => ⟨S128x1024, .f32⟩
  | .hbm, ⟨24, _⟩ => ⟨S_, .f32⟩
  | .hbm, ⟨25, _⟩ => ⟨S128x1024, .f32⟩
  | .hbm, ⟨26, _⟩ => ⟨S128x1024, .f32⟩
  | .hbm, ⟨27, _⟩ => ⟨S128x1024, .f32⟩
  | .hbm, ⟨28, _⟩ => ⟨S_, .f32⟩
  | .hbm, ⟨29, _⟩ => ⟨S128x1024, .f32⟩
  | .hbm, ⟨30, _⟩ => ⟨S128x1024, .f32⟩
  | .hbm, ⟨31, _⟩ => ⟨S_, .f32⟩
  | .hbm, ⟨32, _⟩ => ⟨S128x1024, .f32⟩
  | .hbm, ⟨33, _⟩ => ⟨S128x1024, .f32⟩
  | .hbm, ⟨34, _⟩ => ⟨S128x1024, .f32⟩
  | .hbm, ⟨35, _⟩ => ⟨S128x1024, .f32⟩
  | .hbm, ⟨36, _⟩ => ⟨S1x1024, .f32⟩
  | .hbm, ⟨37, _⟩ => ⟨S128x1024, .f32⟩
  | .hbm, ⟨38, _⟩ => ⟨S128x1024, .f32⟩
  | .hbm, ⟨39, _⟩ => ⟨S128x1024, .f32⟩
  | .hbm, ⟨40, _⟩ => ⟨S128x1024, .f32⟩
  | .hbm, ⟨41, _⟩ => ⟨S_, .f32⟩
  | .hbm, ⟨42, _⟩ => ⟨S128x1024, .f32⟩
  | .hbm, ⟨43, _⟩ => ⟨S128x1024, .f32⟩
  | .hbm, ⟨44, _⟩ => ⟨S_, .f32⟩
  | .hbm, ⟨45, _⟩ => ⟨S128x1024, .f32⟩
  | .hbm, ⟨46, _⟩ => ⟨S128x1024, .f32⟩
  | .hbm, ⟨47, _⟩ => ⟨S128x1024, .f32⟩
  | .hbm, ⟨48, _⟩ => ⟨S128x1024, .f32⟩
  | .hbm, ⟨49, _⟩ => ⟨S128x1024, .f32⟩
  | .hbm, ⟨50, _⟩ => ⟨S_, .f32⟩
  | .hbm, ⟨51, _⟩ => ⟨S128x1024, .f32⟩
  | .hbm, ⟨52, _⟩ => ⟨S128x1024, .f32⟩
  | .hbm, ⟨53, _⟩ => ⟨S_, .f32⟩
  | .hbm, ⟨54, _⟩ => ⟨S128x1024, .f32⟩
  | .hbm, ⟨55, _⟩ => ⟨S128x1024, .f32⟩
  | .hbm, ⟨56, _⟩ => ⟨S128x1024, .f32⟩
  | .hbm, ⟨57, _⟩ => ⟨S128x1024, .f32⟩
  | .hbm, ⟨58, _⟩ => ⟨S128x2048, .f32⟩
  | .hbm, ⟨59, _⟩ => ⟨S1024x2048, .f32⟩
  | .hbm, ⟨60, _⟩ => ⟨S128x2048, .f32⟩
  | .hbm, ⟨61, _⟩ => ⟨S128x2048, .f32⟩
  | .hbm, ⟨62, _⟩ => ⟨S128x2048, .f32⟩
  | .hbm, ⟨63, _⟩ => ⟨S128x1024, .f32⟩
  | .hbm, ⟨64, _⟩ => ⟨S1024x2048, .f32⟩
  | .hbm, ⟨65, _⟩ => ⟨S128x2048, .f32⟩
  | .hbm, ⟨66, _⟩ => ⟨S128x2048, .f32⟩
  | .hbm, ⟨67, _⟩ => ⟨S128x2048, .f32⟩
  | .hbm, ⟨68, _⟩ => ⟨S128x2048, .f32⟩
  | .hbm, ⟨69, _⟩ => ⟨S128x2048, .f32⟩
  | .hbm, ⟨70, _⟩ => ⟨S128x2048, .f32⟩
  | .hbm, ⟨71, _⟩ => ⟨S_, .f32⟩
  | .hbm, ⟨72, _⟩ => ⟨S128, .f32⟩
  | .hbm, ⟨73, _⟩ => ⟨S128x1, .f32⟩
  | .hbm, ⟨74, _⟩ => ⟨S_, .f32⟩
  | .hbm, ⟨75, _⟩ => ⟨S128x1, .f32⟩
  | .hbm, ⟨76, _⟩ => ⟨S128x1, .f32⟩
  | .hbm, ⟨77, _⟩ => ⟨S_, .f32⟩
  | .hbm, ⟨78, _⟩ => ⟨S128x1, .f32⟩
  | .hbm, ⟨79, _⟩ => ⟨S128x1, .f32⟩
  | .hbm, ⟨80, _⟩ => ⟨S128x1, .f32⟩
  | .hbm, ⟨81, _⟩ => ⟨S128x2048, .f32⟩
  | .hbm, ⟨82, _⟩ => ⟨S128x2048, .f32⟩
  | .hbm, ⟨83, _⟩ => ⟨S1x2048, .f32⟩
  | .hbm, ⟨84, _⟩ => ⟨S128x2048, .f32⟩
  | .hbm, ⟨85, _⟩ => ⟨S128x2048, .f32⟩
  | .hbm, ⟨86, _⟩ => ⟨S1x128x2048, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_0 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_1 : Ref sig .tc := ⟨.hbm, 28, rfl⟩
abbrev main_v16 : Ref sig .tc := ⟨.hbm, 29, rfl⟩
abbrev main_v17 : Ref sig .tc := ⟨.hbm, 30, rfl⟩
abbrev main_cst_2 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_3 : Ref sig .tc := ⟨.hbm, 41, rfl⟩
abbrev main_v27 : Ref sig .tc := ⟨.hbm, 42, rfl⟩
abbrev main_v28 : Ref sig .tc := ⟨.hbm, 43, rfl⟩
abbrev main_cst_4 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_5 : Ref sig .tc := ⟨.hbm, 50, rfl⟩
abbrev main_v34 : Ref sig .tc := ⟨.hbm, 51, rfl⟩
abbrev main_v35 : Ref sig .tc := ⟨.hbm, 52, rfl⟩
abbrev main_cst_6 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_7 : Ref sig .tc := ⟨.hbm, 71, rfl⟩
abbrev main_v53 : Ref sig .tc := ⟨.hbm, 72, rfl⟩
abbrev main_v54 : Ref sig .tc := ⟨.hbm, 73, rfl⟩
abbrev main_cst_8 : Ref sig .tc := ⟨.hbm, 74, rfl⟩
abbrev main_v55 : Ref sig .tc := ⟨.hbm, 75, rfl⟩
abbrev main_v56 : Ref sig .tc := ⟨.hbm, 76, rfl⟩
abbrev main_cst_9 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩

abbrev nD : Nat := 1
abbrev τ : Topo := Topo.v7x

variable {F : FTy → Type} [FloatOps F]
-- ==== Kernel6.lean ====
abbrev S4x2048x1024 : Shape := ⟨3, ![4, 2048, 1024]⟩
abbrev S8192x5120 : Shape := ⟨2, ![8192, 5120]⟩
abbrev S8192x4096 : Shape := ⟨2, ![8192, 4096]⟩
abbrev S4x2048x2048 : Shape := ⟨3, ![4, 2048, 2048]⟩
abbrev S4x6144 : Shape := ⟨2, ![4, 6144]⟩
abbrev S1x1024x1024 : Shape := ⟨3, ![1, 1024, 1024]⟩
abbrev S1x1024 : Shape := ⟨2, ![1, 1024]⟩
abbrev S1x2048x2048 : Shape := ⟨3, ![1, 2048, 2048]⟩
abbrev S2048 : Shape := ⟨1, ![2048]⟩
abbrev S4x2048x5120 : Shape := ⟨3, ![4, 2048, 5120]⟩
abbrev S4x2048x4096 : Shape := ⟨3, ![4, 2048, 4096]⟩
abbrev S4x1x6144 : Shape := ⟨3, ![4, 1, 6144]⟩
abbrev S1024x1024 : Shape := ⟨2, ![1024, 1024]⟩
abbrev S1024 : Shape := ⟨1, ![1024]⟩
abbrev S2048x2048 : Shape := ⟨2, ![2048, 2048]⟩
abbrev S1x2048 : Shape := ⟨2, ![1, 2048]⟩
abbrev S1x512x1024 : Shape := ⟨3, ![1, 512, 1024]⟩
abbrev S1x512x2048 : Shape := ⟨3, ![1, 512, 2048]⟩
abbrev S1x1x2048 : Shape := ⟨3, ![1, 1, 2048]⟩
abbrev S1024x2048 : Shape := ⟨2, ![1024, 2048]⟩
abbrev S512x1024 : Shape := ⟨2, ![512, 1024]⟩
abbrev S512x128 : Shape := ⟨2, ![512, 128]⟩
abbrev S512x2048 : Shape := ⟨2, ![512, 2048]⟩
abbrev S512 : Shape := ⟨1, ![512]⟩
abbrev S512x1 : Shape := ⟨2, ![512, 1]⟩

abbrev nBuf : Space → Nat
  | .hbm => 21
  | .vmem => 21
  | .smem => 0
  | _ => 0

abbrev bufTy : (tb : Table) → Fin (tcTables nBuf tb) → BufTy
  | .hbm, ⟨0, _⟩ => ⟨S4x2048x1024, .bf16⟩
  | .hbm, ⟨1, _⟩ => ⟨S8192x5120, .f32⟩
  | .hbm, ⟨2, _⟩ => ⟨S4x2048x1024, .bf16⟩
  | .hbm, ⟨3, _⟩ => ⟨S8192x4096, .bf16⟩
  | .hbm, ⟨4, _⟩ => ⟨S4x2048x2048, .f32⟩
  | .hbm, ⟨5, _⟩ => ⟨S4x6144, .f32⟩
  | .hbm, ⟨6, _⟩ => ⟨S1x1024x1024, .f32⟩
  | .hbm, ⟨7, _⟩ => ⟨S1x1024, .f32⟩
  | .hbm, ⟨8, _⟩ => ⟨S1x2048x2048, .f32⟩
  | .hbm, ⟨9, _⟩ => ⟨S2048, .f32⟩
  | .hbm, ⟨10, _⟩ => ⟨S4x2048x5120, .f32⟩
  | .hbm, ⟨11, _⟩ => ⟨S4x2048x4096, .bf16⟩
  | .hbm, ⟨12, _⟩ => ⟨S4x1x6144, .f32⟩
  | .hbm, ⟨13, _⟩ => ⟨S1024x1024, .f32⟩
  | .hbm, ⟨14, _⟩ => ⟨S1024x1024, .bf16⟩
  | .hbm, ⟨15, _⟩ => ⟨S1024, .f32⟩
  | .hbm, ⟨16, _⟩ => ⟨S2048x2048, .f32⟩
  | .hbm, ⟨17, _⟩ => ⟨S2048x2048, .bf16⟩
  | .hbm, ⟨18, _⟩ => ⟨S1x1024, .f32⟩
  | .hbm, ⟨19, _⟩ => ⟨S1x2048, .f32⟩
  | .hbm, ⟨20, _⟩ => ⟨S4x2048x2048, .f32⟩
  | .local _ .vmem, ⟨0, _⟩ => ⟨S1x512x1024, .bf16⟩
  | .local _ .vmem, ⟨1, _⟩ => ⟨S1x512x1024, .bf16⟩
  | .local _ .vmem, ⟨2, _⟩ => ⟨S1x512x1024, .f32⟩
  | .local _ .vmem, ⟨3, _⟩ => ⟨S1x512x1024, .f32⟩
  | .local _ .vmem, ⟨4, _⟩ => ⟨S1024x1024, .bf16⟩
  | .local _ .vmem, ⟨5, _⟩ => ⟨S1x1024, .f32⟩
  | .local _ .vmem, ⟨6, _⟩ => ⟨S1x512x1024, .bf16⟩
  | .local _ .vmem, ⟨7, _⟩ => ⟨S1x512x1024, .bf16⟩
  | .local _ .vmem, ⟨8, _⟩ => ⟨S1x512x2048, .bf16⟩
  | .local _ .vmem, ⟨9, _⟩ => ⟨S1x512x2048, .bf16⟩
  | .local _ .vmem, ⟨10, _⟩ => ⟨S1x512x2048, .bf16⟩
  | .local _ .vmem, ⟨11, _⟩ => ⟨S1x512x2048, .bf16⟩
  | .local _ .vmem, ⟨12, _⟩ => ⟨S1x512x2048, .f32⟩
  | .local _ .vmem, ⟨13, _⟩ => ⟨S1x512x2048, .f32⟩
  | .local _ .vmem, ⟨14, _⟩ => ⟨S1x1x2048, .f32⟩
  | .local _ .vmem, ⟨15, _⟩ => ⟨S1x1x2048, .f32⟩
  | .local _ .vmem, ⟨16, _⟩ => ⟨S1024x2048, .bf16⟩
  | .local _ .vmem, ⟨17, _⟩ => ⟨S1024x2048, .bf16⟩
  | .local _ .vmem, ⟨18, _⟩ => ⟨S1x2048, .f32⟩
  | .local _ .vmem, ⟨19, _⟩ => ⟨S1x512x2048, .f32⟩
  | .local _ .vmem, ⟨20, _⟩ => ⟨S1x512x2048, .f32⟩
  | _, _ => ⟨S4x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![arg0.toNat, c0_i32.toNat, c2_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1024x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x512x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference6Ideal.lean ====
abbrev S4x2048x1024 : Shape := ⟨3, ![4, 2048, 1024]⟩
abbrev S8192x5120 : Shape := ⟨2, ![8192, 5120]⟩
abbrev S8192x4096 : Shape := ⟨2, ![8192, 4096]⟩
abbrev S4x2048x2048 : Shape := ⟨3, ![4, 2048, 2048]⟩
abbrev S4x6144 : Shape := ⟨2, ![4, 6144]⟩
abbrev S1x1024x1024 : Shape := ⟨3, ![1, 1024, 1024]⟩
abbrev S1x1024 : Shape := ⟨2, ![1, 1024]⟩
abbrev S1x2048x2048 : Shape := ⟨3, ![1, 2048, 2048]⟩
abbrev S2048 : Shape := ⟨1, ![2048]⟩
abbrev S4x2048x4x2x128 : Shape := ⟨5, ![4, 2048, 4, 2, 128]⟩
abbrev S4x2048x2x4x128 : Shape := ⟨5, ![4, 2048, 2, 4, 128]⟩
abbrev S4x2048x5120 : Shape := ⟨3, ![4, 2048, 5120]⟩
abbrev S4x2048x4096 : Shape := ⟨3, ![4, 2048, 4096]⟩
abbrev S4x2048 : Shape := ⟨2, ![4, 2048]⟩
abbrev S4x1x2048 : Shape := ⟨3, ![4, 1, 2048]⟩
abbrev S1024x1024 : Shape := ⟨2, ![1024, 1024]⟩
abbrev S1024 : Shape := ⟨1, ![1024]⟩
abbrev S2048x2048 : Shape := ⟨2, ![2048, 2048]⟩
abbrev S_ : Shape := ⟨0, ![]⟩
abbrev S1x1x1024 : Shape := ⟨3, ![1, 1, 1024]⟩
abbrev S1024x2048 : Shape := ⟨2, ![1024, 2048]⟩
abbrev S4x2048x1 : Shape := ⟨3, ![4, 2048, 1]⟩
abbrev S1x1x2048 : Shape := ⟨3, ![1, 1, 2048]⟩

abbrev nBuf : Space → Nat
  | .hbm => 93
  | .vmem => 0
  | .smem => 0
  | _ => 0

abbrev bufTy : (tb : Table) → Fin (tcTables nBuf tb) → BufTy
  | .hbm, ⟨0, _⟩ => ⟨S4x2048x1024, .bf16⟩
  | .hbm, ⟨1, _⟩ => ⟨S8192x5120, .f32⟩
  | .hbm, ⟨2, _⟩ => ⟨S4x2048x1024, .bf16⟩
  | .hbm, ⟨3, _⟩ => ⟨S8192x4096, .bf16⟩
  | .hbm, ⟨4, _⟩ => ⟨S4x2048x2048, .f32⟩
  | .hbm, ⟨5, _⟩ => ⟨S4x6144, .f32⟩
  | .hbm, ⟨6, _⟩ => ⟨S1x1024x1024, .f32⟩
  | .hbm, ⟨7, _⟩ => ⟨S1x1024, .f32⟩
  | .hbm, ⟨8, _⟩ => ⟨S1x2048x2048, .f32⟩
  | .hbm, ⟨9, _⟩ => ⟨S2048, .f32⟩
  | .hbm, ⟨10, _⟩ => ⟨S4x2048x4x2x128, .bf16⟩
  | .hbm, ⟨11, _⟩ => ⟨S4x2048x2x4x128, .bf16⟩
  | .hbm, ⟨12, _⟩ => ⟨S4x2048x1024, .bf16⟩
  | .hbm, ⟨13, _⟩ => ⟨S4x2048x5120, .f32⟩
  | .hbm, ⟨14, _⟩ => ⟨S4x2048x4096, .bf16⟩
  | .hbm, ⟨15, _⟩ => ⟨S4x2048x1024, .f32⟩
  | .hbm, ⟨16, _⟩ => ⟨S4x2048x2048, .bf16⟩
  | .hbm, ⟨17, _⟩ => ⟨S4x2048x2048, .bf16⟩
  | .hbm, ⟨18, _⟩ => ⟨S4x2048, .f32⟩
  | .hbm, ⟨19, _⟩ => ⟨S4x1x2048, .f32⟩
  | .hbm, ⟨20, _⟩ => ⟨S1024x1024, .f32⟩
  | .hbm, ⟨21, _⟩ => ⟨S1024, .f32⟩
  | .hbm, ⟨22, _⟩ => ⟨S2048x2048, .f32⟩
  | .hbm, ⟨23, _⟩ => ⟨S4x2048x1024, .f32⟩
  | .hbm, ⟨24, _⟩ => ⟨S4x2048x1024, .f32⟩
  | .hbm, ⟨25, _⟩ => ⟨S4x2048x1024, .f32⟩
  | .hbm, ⟨26, _⟩ => ⟨S_, .f32⟩
  | .hbm, ⟨27, _⟩ => ⟨S4x2048x1024, .f32⟩
  | .hbm, ⟨28, _⟩ => ⟨S4x2048x1024, .f32⟩
  | .hbm, ⟨29, _⟩ => ⟨S4x2048x1024, .f32⟩
  | .hbm, ⟨30, _⟩ => ⟨S_, .f32⟩
  | .hbm, ⟨31, _⟩ => ⟨S4x2048x1024, .f32⟩
  | .hbm, ⟨32, _⟩ => ⟨S4x2048x1024, .f32⟩
  | .hbm, ⟨33, _⟩ => ⟨S4x2048x1024, .f32⟩
  | .hbm, ⟨34, _⟩ => ⟨S_, .f32⟩
  | .hbm, ⟨35, _⟩ => ⟨S4x2048x1024, .f32⟩
  | .hbm, ⟨36, _⟩ => ⟨S4x2048x1024, .f32⟩
  | .hbm, ⟨37, _⟩ => ⟨S_, .f32⟩
  | .hbm, ⟨38, _⟩ => ⟨S4x2048x1024, .f32⟩
  | .hbm, ⟨39, _⟩ => ⟨S4x2048x1024, .f32⟩
  | .hbm, ⟨40, _⟩ => ⟨S4x2048x1024, .f32⟩
  | .hbm, ⟨41, _⟩ => ⟨S4x2048x1024, .f32⟩
  | .hbm, ⟨42, _⟩ => ⟨S1x1x1024, .f32⟩
  | .hbm, ⟨43, _⟩ => ⟨S4x2048x1024, .f32⟩
  | .hbm, ⟨44, _⟩ => ⟨S4x2048x1024, .f32⟩
  | .hbm, ⟨45, _⟩ => ⟨S4x2048x1024, .f32⟩
  | .hbm, ⟨46, _⟩ => ⟨S4x2048x1024, .f32⟩
  | .hbm, ⟨47, _⟩ => ⟨S_, .f32⟩
  | .hbm, ⟨48, _⟩ => ⟨S4x2048x1024, .f32⟩
  | .hbm, ⟨49, _⟩ => ⟨S4x2048x1024, .f32⟩
  | .hbm, ⟨50, _⟩ => ⟨S_, .f32⟩
  | .hbm, ⟨51, _⟩ => ⟨S4x2048x1024, .f32⟩
  | .hbm, ⟨52, _⟩ => ⟨S4x2048x1024, .f32⟩
  | .hbm, ⟨53, _⟩ => ⟨S4x2048x1024, .f32⟩
  | .hbm, ⟨54, _⟩ => ⟨S4x2048x1024, .f32⟩
  | .hbm, ⟨55, _⟩ => ⟨S4x2048x1024, .f32⟩
  | .hbm, ⟨56, _⟩ => ⟨S_, .f32⟩
  | .hbm, ⟨57, _⟩ => ⟨S4x2048x1024, .f32⟩
  | .hbm, ⟨58, _⟩ => ⟨S4x2048x1024, .f32⟩
  | .hbm, ⟨59, _⟩ => ⟨S_, .f32⟩
  | .hbm, ⟨60, _⟩ => ⟨S4x2048x1024, .f32⟩
  | .hbm, ⟨61, _⟩ => ⟨S4x2048x1024, .f32⟩
  | .hbm, ⟨62, _⟩ => ⟨S4x2048x1024, .f32⟩
  | .hbm, ⟨63, _⟩ => ⟨S4x2048x1024, .f32⟩
  | .hbm, ⟨64, _⟩ => ⟨S4x2048x2048, .f32⟩
  | .hbm, ⟨65, _⟩ => ⟨S1024x2048, .f32⟩
  | .hbm, ⟨66, _⟩ => ⟨S4x2048x2048, .f32⟩
  | .hbm, ⟨67, _⟩ => ⟨S4x2048x2048, .f32⟩
  | .hbm, ⟨68, _⟩ => ⟨S4x2048x2048, .f32⟩
  | .hbm, ⟨69, _⟩ => ⟨S4x2048x1024, .f32⟩
  | .hbm, ⟨70, _⟩ => ⟨S1024x2048, .f32⟩
  | .hbm, ⟨71, _⟩ => ⟨S4x2048x2048, .f32⟩
  | .hbm, ⟨72, _⟩ => ⟨S4x2048x2048, .f32⟩
  | .hbm, ⟨73, _⟩ => ⟨S4x2048x2048, .f32⟩
  | .hbm, ⟨74, _⟩ => ⟨S4x2048x2048, .f32⟩
  | .hbm, ⟨75, _⟩ => ⟨S4x2048x2048, .f32⟩
  | .hbm, ⟨76, _⟩ => ⟨S4x2048x2048, .f32⟩
  | .hbm, ⟨77, _⟩ => ⟨S4x2048x2048, .f32⟩
  | .hbm, ⟨78, _⟩ => ⟨S_, .f32⟩
  | .hbm, ⟨79, _⟩ => ⟨S4x2048, .f32⟩
  | .hbm, ⟨80, _⟩ => ⟨S4x2048x1, .f32⟩
  | .hbm, ⟨81, _⟩ => ⟨S_, .f32⟩
  | .hbm, ⟨82, _⟩ => ⟨S4x2048x1, .f32⟩
  | .hbm, ⟨83, _⟩ => ⟨S4x2048x1, .f32⟩
  | .hbm, ⟨84, _⟩ => ⟨S_, .f32⟩
  | .hbm, ⟨85, _⟩ => ⟨S4x2048x1, .f32⟩
  | .hbm, ⟨86, _⟩ => ⟨S4x2048x1, .f32⟩
  | .hbm, ⟨87, _⟩ => ⟨S4x2048x1, .f32⟩
  | .hbm, ⟨88, _⟩ => ⟨S4x2048x2048, .f32⟩
  | .hbm, ⟨89, _⟩ => ⟨S4x2048x2048, .f32⟩
  | .hbm, ⟨90, _⟩ => ⟨S1x1x2048, .f32⟩
  | .hbm, ⟨91, _⟩ => ⟨S4x2048x2048, .f32⟩
  | .hbm, ⟨92, _⟩ => ⟨S4x2048x2048, .f32⟩
  | _, _ => ⟨S4x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_0 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_1 : Ref sig .tc := ⟨.hbm, 34, rfl⟩
abbrev main_v22 : Ref sig .tc := ⟨.hbm, 35, rfl⟩
abbrev main_v23 : Ref sig .tc := ⟨.hbm, 36, rfl⟩
abbrev main_cst_2 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_3 : Ref sig .tc := ⟨.hbm, 47, rfl⟩
abbrev main_v33 : Ref sig .tc := ⟨.hbm, 48, rfl⟩
abbrev main_v34 : Ref sig .tc := ⟨.hbm, 49, rfl⟩
abbrev main_cst_4 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_5 : Ref sig .tc := ⟨.hbm, 56, rfl⟩
abbrev main_v40 : Ref sig .tc := ⟨.hbm, 57, rfl⟩
abbrev main_v41 : Ref sig .tc := ⟨.hbm, 58, rfl⟩
abbrev main_cst_6 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_cst_7 : Ref sig .tc := ⟨.hbm, 78, rfl⟩
abbrev main_v60 : Ref sig .tc := ⟨.hbm, 79, rfl⟩
abbrev main_v61 : Ref sig .tc := ⟨.hbm, 80, rfl⟩
abbrev main_cst_8 : Ref sig .tc := ⟨.hbm, 81, rfl⟩
abbrev main_v62 : Ref sig .tc := ⟨.hbm, 82, rfl⟩
abbrev main_v63 : Ref sig .tc := ⟨.hbm, 83, rfl⟩
abbrev main_cst_9 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩

abbrev nD : Nat := 1
abbrev τ : Topo := Topo.v7x

variable {F : FTy → Type} [FloatOps F]
-- ==== Kernel7.lean ====
abbrev S256x5120 : Shape := ⟨2, ![256, 5120]⟩
abbrev S4x256x1024 : Shape := ⟨3, ![4, 256, 1024]⟩
abbrev S4x1024x256 : Shape := ⟨3, ![4, 1024, 256]⟩
abbrev S4x2x1x512 : Shape := ⟨4, ![4, 2, 1, 512]⟩
abbrev S1x64x16 : Shape := ⟨3, ![1, 64, 16]⟩
abbrev S1x128x64x64 : Shape := ⟨4, ![1, 128, 64, 64]⟩
abbrev S64x16 : Shape := ⟨2, ![64, 16]⟩
abbrev S1x1024 : Shape := ⟨2, ![1, 1024]⟩
abbrev S128x64x64 : Shape := ⟨3, ![128, 64, 64]⟩
abbrev S128x4096 : Shape := ⟨2, ![128, 4096]⟩
abbrev S128x1024 : Shape := ⟨2, ![128, 1024]⟩
abbrev S128x128 : Shape := ⟨2, ![128, 128]⟩
abbrev S1x128x1024 : Shape := ⟨3, ![1, 128, 1024]⟩
abbrev S1x1024x128 : Shape := ⟨3, ![1, 1024, 128]⟩
abbrev S1x1x1x512 : Shape := ⟨4, ![1, 1, 1, 512]⟩
abbrev S1x128 : Shape := ⟨2, ![1, 128]⟩
abbrev S128x512 : Shape := ⟨2, ![128, 512]⟩
abbrev S1x1x1x128 : Shape := ⟨4, ![1, 1, 1, 128]⟩
abbrev S1024x128 : Shape := ⟨2, ![1024, 128]⟩

abbrev nBuf : Space → Nat
  | .hbm => 17
  | .vmem => 22
  | .smem => 0
  | _ => 0

abbrev bufTy : (tb : Table) → Fin (tcTables nBuf tb) → BufTy
  | .hbm, ⟨0, _⟩ => ⟨S256x5120, .f32⟩
  | .hbm, ⟨1, _⟩ => ⟨S4x256x1024, .bf16⟩
  | .hbm, ⟨2, _⟩ => ⟨S4x1024x256, .bf16⟩
  | .hbm, ⟨3, _⟩ => ⟨S4x2x1x512, .f32⟩
  | .hbm, ⟨4, _⟩ => ⟨S4x2x1x512, .f32⟩
  | .hbm, ⟨5, _⟩ => ⟨S1x64x16, .f32⟩
  | .hbm, ⟨6, _⟩ => ⟨S1x128x64x64, .f32⟩
  | .hbm, ⟨7, _⟩ => ⟨S1x128x64x64, .f32⟩
  | .hbm, ⟨8, _⟩ => ⟨S64x16, .f32⟩
  | .hbm, ⟨9, _⟩ => ⟨S1x1024, .f32⟩
  | .hbm, ⟨10, _⟩ => ⟨S128x64x64, .f32⟩
  | .hbm, ⟨11, _⟩ => ⟨S128x4096, .f32⟩
  | .hbm, ⟨12, _⟩ => ⟨S128x64x64, .f32⟩
  | .hbm, ⟨13, _⟩ => ⟨S128x4096, .f32⟩
  | .hbm, ⟨14, _⟩ => ⟨S128x1024, .f32⟩
  | .hbm, ⟨15, _⟩ => ⟨S128x4096, .f32⟩
  | .hbm, ⟨16, _⟩ => ⟨S128x4096, .f32⟩
  | .local _ .vmem, ⟨0, _⟩ => ⟨S128x128, .f32⟩
  | .local _ .vmem, ⟨1, _⟩ => ⟨S128x128, .f32⟩
  | .local _ .vmem, ⟨2, _⟩ => ⟨S1x128x1024, .bf16⟩
  | .local _ .vmem, ⟨3, _⟩ => ⟨S1x128x1024, .bf16⟩
  | .local _ .vmem, ⟨4, _⟩ => ⟨S1x1024x128, .bf16⟩
  | .local _ .vmem, ⟨5, _⟩ => ⟨S1x1024x128, .bf16⟩
  | .local _ .vmem, ⟨6, _⟩ => ⟨S1x1x1x512, .f32⟩
  | .local _ .vmem, ⟨7, _⟩ => ⟨S1x1x1x512, .f32⟩
  | .local _ .vmem, ⟨8, _⟩ => ⟨S1x1x1x512, .f32⟩
  | .local _ .vmem, ⟨9, _⟩ => ⟨S1x1x1x512, .f32⟩
  | .local _ .vmem, ⟨10, _⟩ => ⟨S1x128, .f32⟩
  | .local _ .vmem, ⟨11, _⟩ => ⟨S1x128, .f32⟩
  | .local _ .vmem, ⟨12, _⟩ => ⟨S128x512, .f32⟩
  | .local _ .vmem, ⟨13, _⟩ => ⟨S128x512, .f32⟩
  | .local _ .vmem, ⟨14, _⟩ => ⟨S128x512, .f32⟩
  | .local _ .vmem, ⟨15, _⟩ => ⟨S128x512, .f32⟩
  | .local _ .vmem, ⟨16, _⟩ => ⟨S128x128, .f32⟩
  | .local _ .vmem, ⟨17, _⟩ => ⟨S128x128, .f32⟩
  | .local _ .vmem, ⟨18, _⟩ => ⟨S128x512, .f32⟩
  | .local _ .vmem, ⟨19, _⟩ => ⟨S128x512, .f32⟩
  | .local _ .vmem, ⟨20, _⟩ => ⟨S128x512, .f32⟩
  | .local _ .vmem, ⟨21, _⟩ => ⟨S128x512, .f32⟩
  | _, _ => ⟨S256x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c4_i32_3 : BitVec 32 := 4#32
  let v10 : BitVec 32 := Scalar.divsi arg0 c4_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c4_i32_3 c0_i32_6
  let v17 : BitVec 32 := Scalar.extui v16
  let c0_i32_7 : BitVec 32 := 0#32
  let v18 : BitVec 1 := Scalar.cmpi .slt c4_i32_3 c0_i32_7
  let v19 : BitVec 32 := Scalar.extui v18
  let v20 : BitVec 32 := Scalar.subi v17 v19
  let v21 : BitVec 1 := Scalar.cmpi .ne v15 v20
  let v22 : BitVec 32 := Scalar.remsi arg0 c4_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  let c0_i32_11 : BitVec 32 := 0#32
  ![v9.toNat, v26.toNat, c0_i32_10.toNat]

def cc0_transform_2 (i : grid0.Coords) : Fin 3 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c4_i32_3 : BitVec 32 := 4#32
  let v10 : BitVec 32 := Scalar.divsi arg0 c4_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c4_i32_3 c0_i32_6
  let v17 : BitVec 32 := Scalar.extui v16
  let c0_i32_7 : BitVec 32 := 0#32
  let v18 : BitVec 1 := Scalar.cmpi .slt c4_i32_3 c0_i32_7
  let v19 : BitVec 32 := Scalar.extui v18
  let v20 : BitVec 32 := Scalar.subi v17 v19
  let v21 : BitVec 1 := Scalar.cmpi .ne v15 v20
  let v22 : BitVec 32 := Scalar.remsi arg0 c4_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  let c0_i32_11 : BitVec 32 := 0#32
  ![v9.toNat, c0_i32_10.toNat, v26.toNat]

def cc0_transform_3 (i : grid0.Coords) : Fin 4 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c4_i32_3 : BitVec 32 := 4#32
  let v10 : BitVec 32 := Scalar.divsi arg0 c4_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c4_i32_3 c0_i32_6
  let v17 : BitVec 32 := Scalar.extui v16
  let c0_i32_7 : BitVec 32 := 0#32
  let v18 : BitVec 1 := Scalar.cmpi .slt c4_i32_3 c0_i32_7
  let v19 : BitVec 32 := Scalar.extui v18
  let v20 : BitVec 32 := Scalar.subi v17 v19
  let v21 : BitVec 1 := Scalar.cmpi .ne v15 v20
  let v22 : BitVec 32 := Scalar.remsi arg0 c4_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  let c0_i32_11 : BitVec 32 := 0#32
  let c0_i32_12 : BitVec 32 := 0#32
  ![v9.toNat, v26.toNat, c0_i32_10.toNat, c0_i32_11.toNat]

def cc0_transform_4 (i : grid0.Coords) : Fin 4 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c4_i32_3 : BitVec 32 := 4#32
  let v10 : BitVec 32 := Scalar.divsi arg0 c4_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c4_i32_3 c0_i32_6
  let v17 : BitVec 32 := Scalar.extui v16
  let c0_i32_7 : BitVec 32 := 0#32
  let v18 : BitVec 1 := Scalar.cmpi .slt c4_i32_3 c0_i32_7
  let v19 : BitVec 32 := Scalar.extui v18
  let v20 : BitVec 32 := Scalar.subi v17 v19
  let v21 : BitVec 1 := Scalar.cmpi .ne v15 v20
  let v22 : BitVec 32 := Scalar.remsi arg0 c4_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  let c0_i32_11 : BitVec 32 := 0#32
  let c0_i32_12 : BitVec 32 := 0#32
  ![v9.toNat, v26.toNat, c0_i32_10.toNat, c0_i32_11.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference7Ideal.lean ====
abbrev S256x5120 : Shape := ⟨2, ![256, 5120]⟩
abbrev S4x256x1024 : Shape := ⟨3, ![4, 256, 1024]⟩
abbrev S4x1024x256 : Shape := ⟨3, ![4, 1024, 256]⟩
abbrev S4x2x1x512 : Shape := ⟨4, ![4, 2, 1, 512]⟩
abbrev S1x64x16 : Shape := ⟨3, ![1, 64, 16]⟩
abbrev S1x128x64x64 : Shape := ⟨4, ![1, 128, 64, 64]⟩
abbrev S128x1024 : Shape := ⟨2, ![128, 1024]⟩
abbrev S128x2x4x128 : Shape := ⟨4, ![128, 2, 4, 128]⟩
abbrev S4x2x128x1024 : Shape := ⟨4, ![4, 2, 128, 1024]⟩
abbrev S2x4x1024x128 : Shape := ⟨4, ![2, 4, 1024, 128]⟩
abbrev S128x2x4x1024 : Shape := ⟨4, ![128, 2, 4, 1024]⟩
abbrev S128x32x2x128 : Shape := ⟨4, ![128, 32, 2, 128]⟩
abbrev S128x32x1x128 : Shape := ⟨4, ![128, 32, 1, 128]⟩
abbrev S128x32x128 : Shape := ⟨3, ![128, 32, 128]⟩
abbrev S128x4096 : Shape := ⟨2, ![128, 4096]⟩
abbrev S2x4x1x512 : Shape := ⟨4, ![2, 4, 1, 512]⟩
abbrev S1x4096 : Shape := ⟨2, ![1, 4096]⟩
abbrev S4x1024x2x128 : Shape := ⟨4, ![4, 1024, 2, 128]⟩
abbrev S2x4x128x128 : Shape := ⟨4, ![2, 4, 128, 128]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S256x5120, .f32⟩
  | .hbm, ⟨1, _⟩ => ⟨S4x256x1024, .bf16⟩
  | .hbm, ⟨2, _⟩ => ⟨S4x1024x256, .bf16⟩
  | .hbm, ⟨3, _⟩ => ⟨S4x2x1x512, .f32⟩
  | .hbm, ⟨4, _⟩ => ⟨S4x2x1x512, .f32⟩
  | .hbm, ⟨5, _⟩ => ⟨S1x64x16, .f32⟩
  | .hbm, ⟨6, _⟩ => ⟨S1x128x64x64, .f32⟩
  | .hbm, ⟨7, _⟩ => ⟨S1x128x64x64, .f32⟩
  | .hbm, ⟨8, _⟩ => ⟨S128x1024, .f32⟩
  | .hbm, ⟨9, _⟩ => ⟨S128x2x4x128, .f32⟩
  | .hbm, ⟨10, _⟩ => ⟨S4x256x1024, .f32⟩
  | .hbm, ⟨11, _⟩ => ⟨S4x2x128x1024, .f32⟩
  | .hbm, ⟨12, _⟩ => ⟨S2x4x1024x128, .f32⟩
  | .hbm, ⟨13, _⟩ => ⟨S128x2x4x1024, .f32⟩
  | .hbm, ⟨14, _⟩ => ⟨S128x32x2x128, .f32⟩
  | .hbm, ⟨15, _⟩ => ⟨S128x32x1x128, .f32⟩
  | .hbm, ⟨16, _⟩ => ⟨S128x32x128, .f32⟩
  | .hbm, ⟨17, _⟩ => ⟨S128x4096, .f32⟩
  | .hbm, ⟨18, _⟩ => ⟨S128x32x1x128, .f32⟩
  | .hbm, ⟨19, _⟩ => ⟨S128x32x128, .f32⟩
  | .hbm, ⟨20, _⟩ => ⟨S128x4096, .f32⟩
  | .hbm, ⟨21, _⟩ => ⟨S2x4x1x512, .f32⟩
  | .hbm, ⟨22, _⟩ => ⟨S1x4096, .f32⟩
  | .hbm, ⟨23, _⟩ => ⟨S2x4x1x512, .f32⟩
  | .hbm, ⟨24, _⟩ => ⟨S1x4096, .f32⟩
  | .hbm, ⟨25, _⟩ => ⟨S128x4096, .f32⟩
  | .hbm, ⟨26, _⟩ => ⟨S128x4096, .f32⟩
  | .hbm, ⟨27, _⟩ => ⟨S128x4096, .f32⟩
  | .hbm, ⟨28, _⟩ => ⟨S128x4096, .f32⟩
  | .hbm, ⟨29, _⟩ => ⟨S128x4096, .f32⟩
  | .hbm, ⟨30, _⟩ => ⟨S128x4096, .f32⟩
  | .hbm, ⟨31, _⟩ => ⟨S128x4096, .f32⟩
  | .hbm, ⟨32, _⟩ => ⟨S128x4096, .f32⟩
  | .hbm, ⟨33, _⟩ => ⟨S128x4096, .f32⟩
  | .hbm, ⟨34, _⟩ => ⟨S128x4096, .f32⟩
  | .hbm, ⟨35, _⟩ => ⟨S128x4096, .f32⟩
  | .hbm, ⟨36, _⟩ => ⟨S128x4096, .f32⟩
  | .hbm, ⟨37, _⟩ => ⟨S128x4096, .f32⟩
  | .hbm, ⟨38, _⟩ => ⟨S128x4096, .f32⟩
  | .hbm, ⟨39, _⟩ => ⟨S128x32x128, .f32⟩
  | .hbm, ⟨40, _⟩ => ⟨S128x32x128, .f32⟩
  | .hbm, ⟨41, _⟩ => ⟨S128x32x1x128, .f32⟩
  | .hbm, ⟨42, _⟩ => ⟨S128x32x1x128, .f32⟩
  | .hbm, ⟨43, _⟩ => ⟨S128x32x2x128, .f32⟩
  | .hbm, ⟨44, _⟩ => ⟨S128x2x4x1024, .f32⟩
  | .hbm, ⟨45, _⟩ => ⟨S4x1024x256, .f32⟩
  | .hbm, ⟨46, _⟩ => ⟨S4x1024x2x128, .f32⟩
  | .hbm, ⟨47, _⟩ => ⟨S2x4x128x128, .f32⟩
  | .hbm, ⟨48, _⟩ => ⟨S128x2x4x128, .f32⟩
  | .hbm, ⟨49, _⟩ => ⟨S128x1024, .f32⟩
  | .hbm, ⟨50, _⟩ => ⟨S1x1024, .f32⟩
  | .hbm, ⟨51, _⟩ => ⟨S128x1024, .f32⟩
  | .hbm, ⟨52, _⟩ => ⟨S128x1024, .f32⟩
  | .hbm, ⟨53, _⟩ => ⟨S128x1024, .f32⟩
  | _, _ => ⟨S256x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩

abbrev nD : Nat := 1
abbrev τ : Topo := Topo.v7x

variable {F : FTy → Type} [FloatOps F]
-- ==== Kernel8.lean ====
abbrev S1x64x64 : Shape := ⟨3, ![1, 64, 64]⟩
abbrev S1x64 : Shape := ⟨2, ![1, 64]⟩
abbrev S1x64x64x16 : Shape := ⟨4, ![1, 64, 64, 16]⟩
abbrev S1x64x16x64 : Shape := ⟨4, ![1, 64, 16, 64]⟩
abbrev S64x64 : Shape := ⟨2, ![64, 64]⟩
abbrev S64 : Shape := ⟨1, ![64]⟩
abbrev S64x64x16 : Shape := ⟨3, ![64, 64, 16]⟩
abbrev S64x16x64 : Shape := ⟨3, ![64, 16, 64]⟩
abbrev S64x1x64 : Shape := ⟨3, ![64, 1, 64]⟩
abbrev S64x1x1 : Shape := ⟨3, ![64, 1, 1]⟩
abbrev S4x256x1024 : Shape := ⟨3, ![4, 256, 1024]⟩
abbrev S4x1024x256 : Shape := ⟨3, ![4, 1024, 256]⟩
abbrev S4x2x1x512 : Shape := ⟨4, ![4, 2, 1, 512]⟩
abbrev S4x8x512 : Shape := ⟨3, ![4, 8, 512]⟩
abbrev S8x1x64 : Shape := ⟨3, ![8, 1, 64]⟩
abbrev S8x1x1 : Shape := ⟨3, ![8, 1, 1]⟩
abbrev S8x16x64 : Shape := ⟨3, ![8, 16, 64]⟩
abbrev S1x256x1024 : Shape := ⟨3, ![1, 256, 1024]⟩
abbrev S1x1024x256 : Shape := ⟨3, ![1, 1024, 256]⟩
abbrev S1x2x1x512 : Shape := ⟨4, ![1, 2, 1, 512]⟩
abbrev S1x8x512 : Shape := ⟨3, ![1, 8, 512]⟩
abbrev S16x64 : Shape := ⟨2, ![16, 64]⟩
abbrev S1x16x64 : Shape := ⟨3, ![1, 16, 64]⟩
abbrev S16x1024 : Shape := ⟨2, ![16, 1024]⟩
abbrev S256x1024 : Shape := ⟨2, ![256, 1024]⟩
abbrev S1024x256 : Shape := ⟨2, ![1024, 256]⟩
abbrev S1x1x64 : Shape := ⟨3, ![1, 1, 64]⟩
abbrev S1x512 : Shape := ⟨2, ![1, 512]⟩
abbrev S1x1x1x512 : Shape := ⟨4, ![1, 1, 1, 512]⟩
abbrev S8x512 : Shape := ⟨2, ![8, 512]⟩

abbrev nBuf : Space → Nat
  | .hbm => 25
  | .vmem => 40
  | .smem => 0
  | _ => 0

abbrev bufTy : (tb : Table) → Fin (tcTables nBuf tb) → BufTy
  | .hbm, ⟨0, _⟩ => ⟨S1x64x64, .f32⟩
  | .hbm, ⟨1, _⟩ => ⟨S1x64x64, .f32⟩
  | .hbm, ⟨2, _⟩ => ⟨S1x64, .f32⟩
  | .hbm, ⟨3, _⟩ => ⟨S1x64x64x16, .f32⟩
  | .hbm, ⟨4, _⟩ => ⟨S1x64x64x16, .f32⟩
  | .hbm, ⟨5, _⟩ => ⟨S1x64x16x64, .f32⟩
  | .hbm, ⟨6, _⟩ => ⟨S1x64x16x64, .f32⟩
  | .hbm, ⟨7, _⟩ => ⟨S64x64, .f32⟩
  | .hbm, ⟨8, _⟩ => ⟨S64x64, .f32⟩
  | .hbm, ⟨9, _⟩ => ⟨S64, .f32⟩
  | .hbm, ⟨10, _⟩ => ⟨S64x64x16, .f32⟩
  | .hbm, ⟨11, _⟩ => ⟨S64x64x16, .f32⟩
  | .hbm, ⟨12, _⟩ => ⟨S64x16x64, .f32⟩
  | .hbm, ⟨13, _⟩ => ⟨S64x16x64, .f32⟩
  | .hbm, ⟨14, _⟩ => ⟨S64x1x64, .f32⟩
  | .hbm, ⟨15, _⟩ => ⟨S64x1x64, .f32⟩
  | .hbm, ⟨16, _⟩ => ⟨S64x1x1, .f32⟩
  | .hbm, ⟨17, _⟩ => ⟨S64x16x64, .f32⟩
  | .hbm, ⟨18, _⟩ => ⟨S64x16x64, .f32⟩
  | .hbm, ⟨19, _⟩ => ⟨S4x256x1024, .bf16⟩
  | .hbm, ⟨20, _⟩ => ⟨S4x1024x256, .bf16⟩
  | .hbm, ⟨21, _⟩ => ⟨S4x2x1x512, .f32⟩
  | .hbm, ⟨22, _⟩ => ⟨S4x2x1x512, .f32⟩
  | .hbm, ⟨23, _⟩ => ⟨S4x8x512, .f32⟩
  | .hbm, ⟨24, _⟩ => ⟨S4x8x512, .f32⟩
  | .local _ .vmem, ⟨0, _⟩ => ⟨S8x1x64, .f32⟩
  | .local _ .vmem, ⟨1, _⟩ => ⟨S8x1x64, .f32⟩
  | .local _ .vmem, ⟨2, _⟩ => ⟨S8x1x64, .f32⟩
  | .local _ .vmem, ⟨3, _⟩ => ⟨S8x1x64, .f32⟩
  | .local _ .vmem, ⟨4, _⟩ => ⟨S8x1x64, .f32⟩
  | .local _ .vmem, ⟨5, _⟩ => ⟨S8x1x64, .f32⟩
  | .local _ .vmem, ⟨6, _⟩ => ⟨S8x1x64, .f32⟩
  | .local _ .vmem, ⟨7, _⟩ => ⟨S8x1x64, .f32⟩
  | .local _ .vmem, ⟨8, _⟩ => ⟨S8x1x1, .f32⟩
  | .local _ .vmem, ⟨9, _⟩ => ⟨S8x1x1, .f32⟩
  | .local _ .vmem, ⟨10, _⟩ => ⟨S8x1x1, .f32⟩
  | .local _ .vmem, ⟨11, _⟩ => ⟨S8x1x1, .f32⟩
  | .local _ .vmem, ⟨12, _⟩ => ⟨S8x16x64, .f32⟩
  | .local _ .vmem, ⟨13, _⟩ => ⟨S8x16x64, .f32⟩
  | .local _ .vmem, ⟨14, _⟩ => ⟨S8x16x64, .f32⟩
  | .local _ .vmem, ⟨15, _⟩ => ⟨S8x16x64, .f32⟩
  | .local _ .vmem, ⟨16, _⟩ => ⟨S8x16x64, .f32⟩
  | .local _ .vmem, ⟨17, _⟩ => ⟨S8x16x64, .f32⟩
  | .local _ .vmem, ⟨18, _⟩ => ⟨S8x16x64, .f32⟩
  | .local _ .vmem, ⟨19, _⟩ => ⟨S8x16x64, .f32⟩
  | .local _ .vmem, ⟨20, _⟩ => ⟨S8x16x64, .f32⟩
  | .local _ .vmem, ⟨21, _⟩ => ⟨S8x16x64, .f32⟩
  | .local _ .vmem, ⟨22, _⟩ => ⟨S8x16x64, .f32⟩
  | .local _ .vmem, ⟨23, _⟩ => ⟨S8x16x64, .f32⟩
  | .local _ .vmem, ⟨24, _⟩ => ⟨S8x16x64, .f32⟩
  | .local _ .vmem, ⟨25, _⟩ => ⟨S8x16x64, .f32⟩
  | .local _ .vmem, ⟨26, _⟩ => ⟨S8x16x64, .f32⟩
  | .local _ .vmem, ⟨27, _⟩ => ⟨S8x16x64, .f32⟩
  | .local _ .vmem, ⟨28, _⟩ => ⟨S1x256x1024, .bf16⟩
  | .local _ .vmem, ⟨29, _⟩ => ⟨S1x256x1024, .bf16⟩
  | .local _ .vmem, ⟨30, _⟩ => ⟨S1x1024x256, .bf16⟩
  | .local _ .vmem, ⟨31, _⟩ => ⟨S1x1024x256, .bf16⟩
  | .local _ .vmem, ⟨32, _⟩ => ⟨S1x2x1x512, .f32⟩
  | .local _ .vmem, ⟨33, _⟩ => ⟨S1x2x1x512, .f32⟩
  | .local _ .vmem, ⟨34, _⟩ => ⟨S1x2x1x512, .f32⟩
  | .local _ .vmem, ⟨35, _⟩ => ⟨S1x2x1x512, .f32⟩
  | .local _ .vmem, ⟨36, _⟩ => ⟨S1x8x512, .f32⟩
  | .local _ .vmem, ⟨37, _⟩ => ⟨S1x8x512, .f32⟩
  | .local _ .vmem, ⟨38, _⟩ => ⟨S1x8x512, .f32⟩
  | .local _ .vmem, ⟨39, _⟩ => ⟨S1x8x512, .f32⟩
  | _, _ => ⟨S1x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12_0 : Ref sig .tc := ⟨.hbm, 19, rfl⟩
abbrev main_v12_1 : Ref sig .tc := ⟨.hbm, 20, rfl⟩
abbrev main_v12_2 : Ref sig .tc := ⟨.hbm, 21, rfl⟩
abbrev main_v12_3 : Ref sig .tc := ⟨.hbm, 22, rfl⟩
abbrev main_v12_4 : Ref sig .tc := ⟨.hbm, 23, rfl⟩
abbrev main_v12_5 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![v0.toNat, c0_i32_0.toNat, c0_i32_1.toNat]

def cc0_transform_1 (i : grid0.Coords) : Fin 3 → Nat :=
  let arg0 : BitVec 32 := BitVec.ofNat 32 (i 0).val
  let c4_i32 : BitVec 32 := 4#32
  let v0 : BitVec 32 := Scalar.addi arg0 c4_i32
  let c0_i32 : BitVec 32 := 0#32
  let c0_i32_0 : BitVec 32 := 0#32
  let c0_i32_1 : BitVec 32 := 0#32
  ![v0.toNat, c0_i32.toNat, c0_i32_0.toNat]

def cc0_transform_2 (i : grid0.Coords) : Fin 3 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![v0.toNat, c0_i32_0.toNat, c0_i32_1.toNat]

def cc0_transform_3 (i : grid0.Coords) : Fin 3 → Nat :=
  let arg0 : BitVec 32 := BitVec.ofNat 32 (i 0).val
  let c4_i32 : BitVec 32 := 4#32
  let v0 : BitVec 32 := Scalar.addi arg0 c4_i32
  let c0_i32 : BitVec 32 := 0#32
  let c0_i32_0 : BitVec 32 := 0#32
  let c0_i32_1 : BitVec 32 := 0#32
  ![v0.toNat, c0_i32.toNat, c0_i32_0.toNat]

def cc0_transform_4 (i : grid0.Coords) : Fin 3 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![v0.toNat, c0_i32_0.toNat, c0_i32_1.toNat]

def cc0_transform_5 (i : grid0.Coords) : Fin 3 → Nat :=
  let arg0 : BitVec 32 := BitVec.ofNat 32 (i 0).val
  let c4_i32 : BitVec 32 := 4#32
  let v0 : BitVec 32 := Scalar.addi arg0 c4_i32
  let c0_i32 : BitVec 32 := 0#32
  let c0_i32_0 : BitVec 32 := 0#32
  let c0_i32_1 : BitVec 32 := 0#32
  ![v0.toNat, c0_i32.toNat, c0_i32_0.toNat]

def cc0_transform_6 (i : grid0.Coords) : Fin 3 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![v0.toNat, c0_i32_0.toNat, c0_i32_1.toNat]

def cc0_transform_7 (i : grid0.Coords) : Fin 3 → Nat :=
  let arg0 : BitVec 32 := BitVec.ofNat 32 (i 0).val
  let c4_i32 : BitVec 32 := 4#32
  let v0 : BitVec 32 := Scalar.addi arg0 c4_i32
  let c0_i32 : BitVec 32 := 0#32
  let c0_i32_0 : BitVec 32 := 0#32
  let c0_i32_1 : BitVec 32 := 0#32
  ![v0.toNat, c0_i32.toNat, c0_i32_0.toNat]

def cc0_transform_8 (i : grid0.Coords) : Fin 3 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![v0.toNat, c0_i32_0.toNat, c0_i32_1.toNat]

def cc0_transform_9 (i : grid0.Coords) : Fin 3 → Nat :=
  let arg0 : BitVec 32 := BitVec.ofNat 32 (i 0).val
  let c4_i32 : BitVec 32 := 4#32
  let v0 : BitVec 32 := Scalar.addi arg0 c4_i32
  let c0_i32 : BitVec 32 := 0#32
  let c0_i32_0 : BitVec 32 := 0#32
  let c0_i32_1 : BitVec 32 := 0#32
  ![v0.toNat, c0_i32.toNat, c0_i32_0.toNat]

def cc0_transform_10 (i : grid0.Coords) : Fin 3 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![v0.toNat, c0_i32_0.toNat, c0_i32_1.toNat]

def cc0_transform_11 (i : grid0.Coords) : Fin 3 → Nat :=
  let arg0 : BitVec 32 := BitVec.ofNat 32 (i 0).val
  let c4_i32 : BitVec 32 := 4#32
  let v0 : BitVec 32 := Scalar.addi arg0 c4_i32
  let c0_i32 : BitVec 32 := 0#32
  let c0_i32_0 : BitVec 32 := 0#32
  let c0_i32_1 : BitVec 32 := 0#32
  ![v0.toNat, c0_i32.toNat, c0_i32_0.toNat]

def cc0_transform_12 (i : grid0.Coords) : Fin 3 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![v0.toNat, c0_i32_0.toNat, c0_i32_1.toNat]

def cc0_transform_13 (i : grid0.Coords) : Fin 3 → Nat :=
  let arg0 : BitVec 32 := BitVec.ofNat 32 (i 0).val
  let c4_i32 : BitVec 32 := 4#32
  let v0 : BitVec 32 := Scalar.addi arg0 c4_i32
  let c0_i32 : BitVec 32 := 0#32
  let c0_i32_0 : BitVec 32 := 0#32
  let c0_i32_1 : BitVec 32 := 0#32
  ![v0.toNat, c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_17 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x1x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x1x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x1x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x16x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x16x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x16x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x16x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x16x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x16x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S8x16x64 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S8x16x64 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x1024x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x2x1x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x2x1x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x8x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x8x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== Reference8Ideal.lean ====
abbrev S1x64x64 : Shape := ⟨3, ![1, 64, 64]⟩
abbrev S1x64 : Shape := ⟨2, ![1, 64]⟩
abbrev S1x64x64x16 : Shape := ⟨4, ![1, 64, 64, 16]⟩
abbrev S1x64x16x64 : Shape := ⟨4, ![1, 64, 16, 64]⟩
abbrev S64 : Shape := ⟨1, ![64]⟩
abbrev S64x1 : Shape := ⟨2, ![64, 1]⟩
abbrev S64x64 : Shape := ⟨2, ![64, 64]⟩
abbrev S_ : Shape := ⟨0, ![]⟩
abbrev S64x64x1 : Shape := ⟨3, ![64, 64, 1]⟩
abbrev S64x64x16 : Shape := ⟨3, ![64, 64, 16]⟩
abbrev S8 : Shape := ⟨1, ![8]⟩
abbrev S8x1 : Shape := ⟨2, ![8, 1]⟩
abbrev S1x8 : Shape := ⟨2, ![1, 8]⟩
abbrev S8x8 : Shape := ⟨2, ![8, 8]⟩
abbrev S1x8x1x8 : Shape := ⟨4, ![1, 8, 1, 8]⟩
abbrev S2x8x16x8 : Shape := ⟨4, ![2, 8, 16, 8]⟩
abbrev S256x8 : Shape := ⟨2, ![256, 8]⟩
abbrev S256x8x1 : Shape := ⟨3, ![256, 8, 1]⟩
abbrev S256x8x64 : Shape := ⟨3, ![256, 8, 64]⟩
abbrev S256x4x1x128 : Shape := ⟨4, ![256, 4, 1, 128]⟩
abbrev S256x4x2x128 : Shape := ⟨4, ![256, 4, 2, 128]⟩
abbrev S256x1024 : Shape := ⟨2, ![256, 1024]⟩
abbrev S64x16x64 : Shape := ⟨3, ![64, 16, 64]⟩
abbrev S2x4x128x64 : Shape := ⟨4, ![2, 4, 128, 64]⟩
abbrev S4x2x128x64 : Shape := ⟨4, ![4, 2, 128, 64]⟩
abbrev S4x256x1x64 : Shape := ⟨4, ![4, 256, 1, 64]⟩
abbrev S4x256x2x64 : Shape := ⟨4, ![4, 256, 2, 64]⟩
abbrev S4x256x128 : Shape := ⟨3, ![4, 256, 128]⟩
abbrev S4x256x256 : Shape := ⟨3, ![4, 256, 256]⟩
abbrev S4x256x1x256 : Shape := ⟨4, ![4, 256, 1, 256]⟩
abbrev S4x256x4x256 : Shape := ⟨4, ![4, 256, 4, 256]⟩
abbrev S4x256x1024 : Shape := ⟨3, ![4, 256, 1024]⟩
abbrev S1x256x1024 : Shape := ⟨3, ![1, 256, 1024]⟩
abbrev S4x1024x256 : Shape := ⟨3, ![4, 1024, 256]⟩
abbrev S2x4x512 : Shape := ⟨3, ![2, 4, 512]⟩
abbrev S4x2x512 : Shape := ⟨3, ![4, 2, 512]⟩
abbrev S4x2x1x512 : Shape := ⟨4, ![4, 2, 1, 512]⟩
abbrev S4x1x2x512 : Shape := ⟨4, ![4, 1, 2, 512]⟩
abbrev S4x4x2x512 : Shape := ⟨4, ![4, 4, 2, 512]⟩
abbrev S4x8x512 : Shape := ⟨3, ![4, 8, 512]⟩

abbrev nBuf : Space → Nat
  | .hbm => 131
  | .vmem => 0
  | .smem => 0
  | _ => 0

abbrev hbmTy0_0 (i : Nat) : BufTy := match i % 128 with
  | 0 => ⟨S1x64x64, .f32⟩
  | 1 => ⟨S1x64x64, .f32⟩
  | 2 => ⟨S1x64, .f32⟩
  | 3 => ⟨S1x64x64x16, .f32⟩
  | 4 => ⟨S1x64x64x16, .f32⟩
  | 5 => ⟨S1x64x16x64, .f32⟩
  | 6 => ⟨S1x64x16x64, .f32⟩
  | 7 => ⟨S64, .f32⟩
  | 8 => ⟨S64, .f32⟩
  | 9 => ⟨S64x1, .f32⟩
  | 10 => ⟨S64x64, .f32⟩
  | 11 => ⟨S_, .f32⟩
  | 12 => ⟨S64x64, .f32⟩
  | 13 => ⟨S64x64, .f32⟩
  | 14 => ⟨S64x64, .f32⟩
  | 15 => ⟨S64x64, .f32⟩
  | 16 => ⟨S64x64, .f32⟩
  | 17 => ⟨S64x64, .f32⟩
  | 18 => ⟨S64x64, .f32⟩
  | 19 => ⟨S64x64, .f32⟩
  | 20 => ⟨S64x64, .f32⟩
  | 21 => ⟨S64x64, .f32⟩
  | 22 => ⟨S64x64, .f32⟩
  | 23 => ⟨S64x64, .f32⟩
  | 24 => ⟨S64x64, .f32⟩
  | 25 => ⟨S64x64, .f32⟩
  | 26 => ⟨S64x64, .f32⟩
  | 27 => ⟨S64x64, .f32⟩
  | 28 => ⟨S64x64, .f32⟩
  | 29 => ⟨S_, .f32⟩
  | 30 => ⟨S64x64, .f32⟩
  | 31 => ⟨S64x64, .f32⟩
  | 32 => ⟨S64x64, .f32⟩
  | 33 => ⟨S64x64, .f32⟩
  | 34 => ⟨S64x64, .f32⟩
  | 35 => ⟨S64x64, .f32⟩
  | 36 => ⟨S64x64x1, .f32⟩
  | 37 => ⟨S64x64, .f32⟩
  | 38 => ⟨S_, .f32⟩
  | 39 => ⟨S64x64, .f32⟩
  | 40 => ⟨S64x64, .f32⟩
  | 41 => ⟨S64x64, .f32⟩
  | 42 => ⟨S64x64, .f32⟩
  | 43 => ⟨S64x64, .f32⟩
  | 44 => ⟨S64x64x1, .f32⟩
  | 45 => ⟨S64x64x16, .f32⟩
  | 46 => ⟨S64x64x16, .f32⟩
  | 47 => ⟨S64x64x16, .f32⟩
  | 48 => ⟨S64x64x16, .f32⟩
  | 49 => ⟨S64x64x16, .f32⟩
  | 50 => ⟨S64x64x16, .f32⟩
  | 51 => ⟨S64x64x16, .f32⟩
  | 52 => ⟨S64x64x16, .f32⟩
  | 53 => ⟨S64x64x16, .f32⟩
  | 54 => ⟨S64x64x16, .f32⟩
  | 55 => ⟨S64x64x16, .f32⟩
  | 56 => ⟨S64x64x16, .f32⟩
  | 57 => ⟨S64x64x16, .f32⟩
  | 58 => ⟨S64x64x16, .f32⟩
  | 59 => ⟨S8, .i32⟩
  | 60 => ⟨S8x1, .i32⟩
  | 61 => ⟨S1x8, .i32⟩
  | 62 => ⟨S8x8, .i32⟩
  | 63 => ⟨S8x8, .i32⟩
  | 64 => ⟨S8x8, .i1⟩
  | 65 => ⟨S1x8x1x8, .i1⟩
  | 66 => ⟨S2x8x16x8, .i1⟩
  | 67 => ⟨S256x8, .i1⟩
  | 68 => ⟨S256x8x1, .i1⟩
  | 69 => ⟨S256x8x64, .i1⟩
  | 70 => ⟨S256x4x1x128, .i1⟩
  | 71 => ⟨S256x4x2x128, .i1⟩
  | 72 => ⟨S256x1024, .i1⟩
  | 73 => ⟨S64x16x64, .f32⟩
  | 74 => ⟨S64x16x64, .f32⟩
  | 75 => ⟨S2x4x128x64, .f32⟩
  | 76 => ⟨S4x2x128x64, .f32⟩
  | 77 => ⟨S4x256x1x64, .f32⟩
  | 78 => ⟨S4x256x2x64, .f32⟩
  | 79 => ⟨S4x256x128, .f32⟩
  | 80 => ⟨S2x4x128x64, .f32⟩
  | 81 => ⟨S4x2x128x64, .f32⟩
  | 82 => ⟨S4x256x1x64, .f32⟩
  | 83 => ⟨S4x256x2x64, .f32⟩
  | 84 => ⟨S4x256x128, .f32⟩
  | 85 => ⟨S4x256x256, .f32⟩
  | 86 => ⟨S4x256x1x256, .f32⟩
  | 87 => ⟨S4x256x4x256, .f32⟩
  | 88 => ⟨S4x256x1024, .f32⟩
  | 89 => ⟨S1x256x1024, .i1⟩
  | 90 => ⟨S4x256x1024, .i1⟩
  | 91 => ⟨S_, .f32⟩
  | 92 => ⟨S4x256x1024, .f32⟩
  | 93 => ⟨S4x256x1024, .f32⟩
  | 94 => ⟨S64x16x64, .f32⟩
  | 95 => ⟨S64x16x64, .f32⟩
  | 96 => ⟨S64x16x64, .f32⟩
  | 97 => ⟨S2x4x128x64, .f32⟩
  | 98 => ⟨S4x2x128x64, .f32⟩
  | 99 => ⟨S4x256x1x64, .f32⟩
  | 100 => ⟨S4x256x2x64, .f32⟩
  | 101 => ⟨S4x256x128, .f32⟩
  | 102 => ⟨S2x4x128x64, .f32⟩
  | 103 => ⟨S4x2x128x64, .f32⟩
  | 104 => ⟨S4x256x1x64, .f32⟩
  | 105 => ⟨S4x256x2x64, .f32⟩
  | 106 => ⟨S4x256x128, .f32⟩
  | 107 => ⟨S4x256x256, .f32⟩
  | 108 => ⟨S4x256x1x256, .f32⟩
  | 109 => ⟨S4x256x4x256, .f32⟩
  | 110 => ⟨S4x256x1024, .f32⟩
  | 111 => ⟨S1x256x1024, .i1⟩
  | 112 => ⟨S4x256x1024, .i1⟩
  | 113 => ⟨S_, .f32⟩
  | 114 => ⟨S4x256x1024, .f32⟩
  | 115 => ⟨S4x256x1024, .f32⟩
  | 116 => ⟨S4x1024x256, .f32⟩
  | 117 => ⟨S2x4x512, .f32⟩
  | 118 => ⟨S4x2x512, .f32⟩
  | 119 => ⟨S2x4x512, .f32⟩
  | 120 => ⟨S4x2x512, .f32⟩
  | 121 => ⟨S4x256x1024, .bf16⟩
  | 122 => ⟨S4x1024x256, .bf16⟩
  | 123 => ⟨S4x2x1x512, .f32⟩
  | 124 => ⟨S4x2x1x512, .f32⟩
  | 125 => ⟨S4x1x2x512, .f32⟩
  | 126 => ⟨S4x4x2x512, .f32⟩
  | 127 => ⟨S4x8x512, .f32⟩
  | _ => ⟨S1x64x64, .f32⟩

abbrev hbmTy0_1 (i : Nat) : BufTy := match i % 128 with
  | 0 => ⟨S4x1x2x512, .f32⟩
  | 1 => ⟨S4x4x2x512, .f32⟩
  | 2 => ⟨S4x8x512, .f32⟩
  | _ => ⟨S1x64x64, .f32⟩

abbrev hbmTy (i : Nat) : BufTy := match i / 128 with
  | 0 => hbmTy0_0 i
  | 1 => hbmTy0_1 i
  | _ => ⟨S1x64x64, .f32⟩

abbrev bufTy : (tb : Table) → Fin (tcTables nBuf tb) → BufTy
  | .hbm, ⟨i, _⟩ => hbmTy i
  | _, _ => ⟨S1x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_0 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_1 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_cst_2 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_cst_3 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩
abbrev main_v106 : Ref sig .tc := ⟨.hbm, 118, rfl⟩
abbrev main_v107 : Ref sig .tc := ⟨.hbm, 119, rfl⟩
abbrev main_v108 : Ref sig .tc := ⟨.hbm, 120, rfl⟩
abbrev main_v109 : Ref sig .tc := ⟨.hbm, 121, rfl⟩
abbrev main_v110 : Ref sig .tc := ⟨.hbm, 122, rfl⟩
abbrev main_v111 : Ref sig .tc := ⟨.hbm, 123, rfl⟩
abbrev main_v112 : Ref sig .tc := ⟨.hbm, 124, rfl⟩
abbrev main_v113 : Ref sig .tc := ⟨.hbm, 125, rfl⟩
abbrev main_v114 : Ref sig .tc := ⟨.hbm, 126, rfl⟩
abbrev main_v115 : Ref sig .tc := ⟨.hbm, 127, rfl⟩
abbrev main_v116 : Ref sig .tc := ⟨.hbm, 128, rfl⟩
abbrev main_v117 : Ref sig .tc := ⟨.hbm, 129, rfl⟩
abbrev main_v118 : Ref sig .tc := ⟨.hbm, 130, rfl⟩

abbrev nD : Nat := 1
abbrev τ : Topo := Topo.v7x

variable {F : FTy → Type} [FloatOps F]
-- ==== Proof.InProj.Body.lean ====
module

public import proofs.«01_k».proof.Proof.Gen.KernelIdeal.Skeleton
public import proofs.«01_k».proof.Proof.Gen.KernelIdeal.Frame
public import Idealize.ShloMosaic.Lib.Pipeline.ValueKit
public import Idealize.ShloMosaic.Lib.VecWindow

@[expose] public section

set_option maxRecDepth 16384

noncomputable section

namespace Cert.InProj.Main

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat)

variable {F : FTy → Type} [FloatOps F]

local notation "𝕄" => MT nD τ sig Unit (Elt F) ℕ (UR sig nD τ) ℕ

/-- The first branch is taken exactly at the first row step of a column tile. -/
theorem first_iff (t : Fin cfg0.N) : k0_cond1 (grid0.coords t) = 1#1 ↔ t.val % 9 = 0 :=
  (by decide +kernel : ∀ t : Fin grid0.N, k0_cond1 (grid0.coords t) = 1#1 ↔ t.val % 9 = 0) t

/-- The second branch is taken exactly at every other row step. -/
theorem later_iff (t : Fin cfg0.N) : k0_cond2 (grid0.coords t) = 1#1 ↔ ¬ t.val % 9 = 0 :=
  (by decide +kernel : ∀ t : Fin grid0.N, k0_cond2 (grid0.coords t) = 1#1 ↔ ¬ t.val % 9 = 0) t

set_option maxHeartbeats 1000000 in
/-- At the first row step of a column tile the body stores the weight tile into the scratch buffer, multiplies the
    sample rows by it, and leaves the prompt output alone. -/
theorem body_first (c : Dev nD) (i : grid0.Coords)
    (arg2 : Memref sig .tc .vmem S1024x2048 .bf16) (harg2 : arg2.IsWhole)
    (arg3 : Memref sig .tc .vmem S256x2048 .bf16) (harg3 : arg3.IsWhole)
    (arg4 : Memref sig .tc .vmem S2048x1280 .f32) (harg4 : arg4.IsWhole)
    (arg5 : Memref sig .tc .vmem S1024x1280 .f32) (harg5 : arg5.IsWhole)
    (arg6 : Memref sig .tc .vmem S256x1280 .f32) (harg6 : arg6.IsWhole)
    (arg7 : Memref sig .tc .vmem S2048x1280 .bf16) (harg7 : arg7.IsWhole)
    (h1 : k0_cond1 i = 1#1) (h2 : ¬ k0_cond2 i = 1#1)
    (x : Vec F S1024x2048 .bf16) (s : Vec F S256x2048 .bf16) (w : Vec F S2048x1280 .f32) (p : Vec F S1024x1280 .f32)
    (K : PUnit → sProp 𝕄) :
    iprop(owns (c : Thread nD τ) arg2 fullShare x ∗ owns (c : Thread nD τ) arg3 fullShare s
        ∗ owns (c : Thread nD τ) arg4 fullShare w ∗ owns (c : Thread nD τ) arg5 fullShare p
        ∗ (∃ d, owns (c : Thread nD τ) arg6 fullShare d) ∗ (∃ d, owns (c : Thread nD τ) arg7 fullShare d)
        ∗ (iprop(owns (c : Thread nD τ) arg2 fullShare x ∗ owns (c : Thread nD τ) arg3 fullShare s
            ∗ owns (c : Thread nD τ) arg4 fullShare w ∗ owns (c : Thread nD τ) arg5 fullShare p
            ∗ owns (c : Thread nD τ) arg6 fullShare (k0_pay2 s (k0_pay1 w))
            ∗ owns (c : Thread nD τ) arg7 fullShare (k0_pay1 w)) -∗ K ⟨⟩))
      ⊢ wp frame (wpE (defs₀ (F := F)) Variants.none c none) Set.univ
          (cc0_in_proj i arg2 harg2 arg3 harg3 arg4 harg4 arg5 harg5 arg6 harg6 arg7 harg7) K := by
  rw [cc0_in_proj_eq_skeleton]; unfold cc0_in_proj_skel
  unfold owns
  iintro ⟨⟨%f2, %e2, A2⟩, ⟨%f3, %e3, A3⟩, ⟨%f4, %e4, A4⟩, ⟨%f5, %e5, A5⟩, ⟨%d6, %f6, -, A6⟩, ⟨%d7, %f7, -, A7⟩, Hk⟩
  obtain rfl := harg2.eq_unread e2; obtain rfl := harg3.eq_unread e3; obtain rfl := harg4.eq_unread e4
  obtain rfl := harg5.eq_unread e5
  sl_exec (disch := first | sl_exact h1 | sl_exact h2)
  sl_step
  iapply Hk
  isplitl [A2]
  · iexists _; isplitr; · ipureintro; exact harg2.read_unread _
    iexact A2
  isplitl [A3]
  · iexists _; isplitr; · ipureintro; exact harg3.read_unread _
    iexact A3
  isplitl [A4]
  · iexists _; isplitr; · ipureintro; exact harg4.read_unread _
    iexact A4
  isplitl [A5]
  · iexists _; isplitr; · ipureintro; exact harg5.read_unread _
    iexact A5
  isplitl [A6]
  · iexists _; isplitr; swap; · iexact A6
    ipureintro
    sl_unfold_words
    rw [View.read_writes_full, View.readCov_full, View.readAt_full, View.readAt_full, harg3.read_unread, harg4.read_unread]
  · iexists _; isplitr; swap; · iexact A7
    ipureintro
    sl_unfold_words
    rw [View.read_writes_full, View.readAt_full, harg4.read_unread]

set_option maxHeartbeats 1000000 in
/-- At every other row step the body multiplies the prompt rows by the weight tile the scratch buffer holds, and leaves
    everything else alone. -/
theorem body_later (c : Dev nD) (i : grid0.Coords)
    (arg2 : Memref sig .tc .vmem S1024x2048 .bf16) (harg2 : arg2.IsWhole)
    (arg3 : Memref sig .tc .vmem S256x2048 .bf16) (harg3 : arg3.IsWhole)
    (arg4 : Memref sig .tc .vmem S2048x1280 .f32) (harg4 : arg4.IsWhole)
    (arg5 : Memref sig .tc .vmem S1024x1280 .f32) (harg5 : arg5.IsWhole)
    (arg6 : Memref sig .tc .vmem S256x1280 .f32) (harg6 : arg6.IsWhole)
    (arg7 : Memref sig .tc .vmem S2048x1280 .bf16) (harg7 : arg7.IsWhole)
    (h1 : ¬ k0_cond1 i = 1#1) (h2 : k0_cond2 i = 1#1)
    (x : Vec F S1024x2048 .bf16) (s : Vec F S256x2048 .bf16) (w : Vec F S2048x1280 .f32)
    (q : Vec F S256x1280 .f32) (wt : Vec F S2048x1280 .bf16)
    (K : PUnit → sProp 𝕄) :
    iprop(owns (c : Thread nD τ) arg2 fullShare x ∗ owns (c : Thread nD τ) arg3 fullShare s
        ∗ owns (c : Thread nD τ) arg4 fullShare w ∗ (∃ d, owns (c : Thread nD τ) arg5 fullShare d)
        ∗ owns (c : Thread nD τ) arg6 fullShare q ∗ owns (c : Thread nD τ) arg7 fullShare wt
        ∗ (iprop(owns (c : Thread nD τ) arg2 fullShare x ∗ owns (c : Thread nD τ) arg3 fullShare s
            ∗ owns (c : Thread nD τ) arg4 fullShare w ∗ owns (c : Thread nD τ) arg5 fullShare (k0_pay3 x wt)
            ∗ owns (c : Thread nD τ) arg6 fullShare q
            ∗ owns (c : Thread nD τ) arg7 fullShare wt) -∗ K ⟨⟩))
      ⊢ wp frame (wpE (defs₀ (F := F)) Variants.none c none) Set.univ
          (cc0_in_proj i arg2 harg2 arg3 harg3 arg4 harg4 arg5 harg5 arg6 harg6 arg7 harg7) K := by
  rw [cc0_in_proj_eq_skeleton]; unfold cc0_in_proj_skel
  unfold owns
  iintro ⟨⟨%f2, %e2, A2⟩, ⟨%f3, %e3, A3⟩, ⟨%f4, %e4, A4⟩, ⟨%d5, %f5, -, A5⟩, ⟨%f6, %e6, A6⟩, ⟨%f7, %e7, A7⟩, Hk⟩
  obtain rfl := harg2.eq_unread e2; obtain rfl := harg3.eq_unread e3; obtain rfl := harg4.eq_unread e4
  obtain rfl := harg6.eq_unread e6; obtain rfl := harg7.eq_unread e7
  sl_exec (disch := first | sl_exact h1 | sl_exact h2)
  sl_step
  iapply Hk
  isplitl [A2]
  · iexists _; isplitr; · ipureintro; exact harg2.read_unread _
    iexact A2
  isplitl [A3]
  · iexists _; isplitr; · ipureintro; exact harg3.read_unread _
    iexact A3
  isplitl [A4]
  · iexists _; isplitr; · ipureintro; exact harg4.read_unread _
    iexact A4
  isplitl [A5]
  · iexists _; isplitr; swap; · iexact A5
    ipureintro
    sl_unfold_words
    rw [View.read_writes_full, View.readAt_full, View.readAt_full, harg2.read_unread, harg7.read_unread]
  isplitl [A6]
  · iexists _; isplitr; · ipureintro; exact harg6.read_unread _
    iexact A6
  · iexists _; isplitr; · ipureintro; exact harg7.read_unread _
    iexact A7

end Cert.InProj.Main

end
-- ==== Proof.InProj.Run.lean ====
module

public import proofs.«01_k».proof.Proof.InProj.Body

@[expose] public section

set_option maxRecDepth 16384

noncomputable section

namespace Cert.InProj.Main

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The weight tile of point `t`'s column tile, rounded to bfloat16 as the scratch buffer holds it. -/
def tile (c : Dev nD) (t : Fin cfg0.N) : Vec F S2048x1280 .bf16 := k0_pay1 (iblk m c 2 t)

/-- What the scratch buffer holds before point `n`: nothing known before the first point, then the weight tile of the
    point just run. -/
def holdsTile (c : Dev nD) (n : ℕ) (d : Vec F S2048x1280 .bf16) : Prop :=
  ∀ t : Fin cfg0.N, t.val + 1 = n → d = tile m c t

/-- The proof data: each input's buffer keeps its block, the prompt output's ends at the product of the point's prompt
    rows and weight tile, the sample output's at the product of the sample rows and the weight tile; between points the
    scratch buffer holds the weight tile. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay3 (iblk m c 0 t) (tile m c t)
    | ⟨4, _⟩ => k0_pay2 (iblk m c 1 t) (tile m c t)
  Φ n := iprop((∃ d, ⌜holdsTile m c n.val d⌝ ∗ owns (c : Thread nD τ) (Memref.whole cc0_scratch0) fullShare d)
    ∗ (∃ r, prngReg c r))
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) :
    (dats m 0 c).after 3 t = k0_pay3 (iblk m c 0 t) (tile m c t) := by dsimp only [dats]
theorem after_4 (c : Dev nD) (t : Fin cfg0.N) :
    (dats m 0 c).after 4 t = k0_pay2 (iblk m c 1 t) (tile m c t) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-- The point before `t`. -/
abbrev prev (t : Fin cfg0.N) : Fin cfg0.N := ⟨t.val - 1, Nat.lt_of_le_of_lt (Nat.sub_le _ _) t.isLt⟩

theorem fetched_2 (c : Dev nD) (t : Fin cfg0.N) (d) : (dats m 0 c).fetched 2 t d = iblk m c 2 t := by
  unfold Dat.fetched Dat.blockOf iblk; rw [A_eq]; rfl
theorem fetched_1 (c : Dev nD) (t : Fin cfg0.N) (d) : (dats m 0 c).fetched 1 t d = iblk m c 1 t := by
  unfold Dat.fetched Dat.blockOf iblk; rw [A_eq]; rfl

/-- Within a column tile the weight block does not move. -/
theorem iblk_2_prev (c : Dev nD) (t : Fin cfg0.N) (h : ¬ t.val % 9 = 0) : iblk m c 2 t = iblk m c 2 (prev t) := by
  have hf : (cfg0.win 2).fetch t = false := by
    rw [← Bool.not_eq_true]; exact fun e => h ((fetch0_2 t).mp e)
  obtain ⟨ht, hix⟩ := (cfg0.win 2).index_eq_of_fetch rfl t hf
  have d : (cfg0.win 2).block.Idx → Elt F (cfg0.win 2).elt := iblk m c 2 t
  rw [← fetched_2 m c t d, ← fetched_2 m c (prev t) d]
  exact (dats m 0 c).fetched_congr 2 hix rfl d

/-- The sample rows' block never moves. -/
theorem iblk_1_prev (c : Dev nD) (t : Fin cfg0.N) (h : ¬ t.val % 9 = 0) : iblk m c 1 t = iblk m c 1 (prev t) := by
  have hN : t.val < 36 := lt_of_lt_of_eq t.isLt N_0
  have hf : (cfg0.win 1).fetch t = false := by
    rw [← Bool.not_eq_true]; exact fun e => h (by have := (fetch0_1 t).mp e; omega)
  obtain ⟨ht, hix⟩ := (cfg0.win 1).index_eq_of_fetch rfl t hf
  have d : (cfg0.win 1).block.Idx → Elt F (cfg0.win 1).elt := iblk m c 1 t
  rw [← fetched_1 m c t d, ← fetched_1 m c (prev t) d]
  exact (dats m 0 c).fetched_congr 1 hix rfl d

theorem tile_prev (c : Dev nD) (t : Fin cfg0.N) (h : ¬ t.val % 9 = 0) : tile m c t = tile m c (prev t) := by
  unfold tile; rw [iblk_2_prev m c t h]

/-! ## Where the outputs are idle -/

theorem idle_3 (t : Fin cfg0.N) : cfg0.idle 3 (grid0.coords t) = decide (t.val % 9 = 0) :=
  (by decide +kernel : ∀ t : Fin grid0.N, cfg0.idle 3 (grid0.coords t) = decide (t.val % 9 = 0)) t
theorem idle_4 (t : Fin cfg0.N) : cfg0.idle 4 (grid0.coords t) = !decide (t.val % 9 = 0) :=
  (by decide +kernel : ∀ t : Fin grid0.N, cfg0.idle 4 (grid0.coords t) = !decide (t.val % 9 = 0)) t
theorem flush_3 (t : Fin cfg0.N) : (cfg0.win 3).flush t = !decide (t.val % 9 = 0) :=
  (by decide +kernel : ∀ t : Fin grid0.N, win0_3.flush t = !decide (t.val % 9 = 0)) t

/-- After the first row step of a column tile, the sample output's buffer holds the sample product. -/
theorem before_4 (c : Dev nD) : ∀ (n : ℕ) (h : n < cfg0.N) (d), ¬ n % 9 = 0 →
    (dats m 0 c).before 4 ⟨n, h⟩ d = (dats m 0 c).after 4 ⟨n, h⟩
  | 0, _, _, h0 => absurd rfl h0
  | n + 1, h, d, h0 => by
    have hn : n < cfg0.N := Nat.lt_of_succ_lt h
    have hfl : (cfg0.win 4).flush ⟨n, hn⟩ = false := by
      rw [← Bool.not_eq_true]; exact fun e => h0 (by have : n % 9 = 8 := (flush0_4 ⟨n, hn⟩).mp e; omega)
    have hstep : (dats m 0 c).after 4 ⟨n + 1, h⟩ = (dats m 0 c).after 4 ⟨n, hn⟩ := by
      rw [after_4, after_4, tile_prev m c ⟨n + 1, h⟩ h0, iblk_1_prev m c ⟨n + 1, h⟩ h0]; rfl
    rw [(dats m 0 c).before_of_pos 4 ⟨n + 1, h⟩ (Nat.succ_ne_zero n) rfl d]
    simp only [Nat.add_sub_cancel]
    rw [hfl, if_neg Bool.false_ne_true, hstep]
    unfold Dat.left
    rw [idle_4 ⟨n, hn⟩]
    by_cases hz : n % 9 = 0
    · simp only [hz, decide_true, Bool.not_true]; rfl
    · simp only [hz, decide_false, Bool.not_false]; exact before_4 c n hn d hz

/-! ## The body at every point -/

theorem leaves_in0 (c : Dev nD) (t : Fin cfg0.N) : (dats m 0 c).leavesExact 0 t
    = owns (c : Thread nD τ) (st0_0 t) fullShare (iblk m c 0 t) := by
  unfold Dat.leavesExact; rw [show cfg0.idle 0 (cfg0.grid.coords t) = false from rfl, after_0]
theorem leaves_in1 (c : Dev nD) (t : Fin cfg0.N) : (dats m 0 c).leavesExact 1 t
    = owns (c : Thread nD τ) (st0_1 t) fullShare (iblk m c 1 t) := by
  unfold Dat.leavesExact; rw [show cfg0.idle 1 (cfg0.grid.coords t) = false from rfl, after_1]
theorem leaves_in2 (c : Dev nD) (t : Fin cfg0.N) : (dats m 0 c).leavesExact 2 t
    = owns (c : Thread nD τ) (st0_2 t) fullShare (iblk m c 2 t) := by
  unfold Dat.leavesExact; rw [show cfg0.idle 2 (cfg0.grid.coords t) = false from rfl, after_2]

theorem leaves3_first (c : Dev nD) (t : Fin cfg0.N) (h : t.val % 9 = 0) : (dats m 0 c).leavesExact 3 t
    = iprop(∃ d, owns (c : Thread nD τ) (st0_3 t) fullShare ((dats m 0 c).before 3 t d)) :=
  (dats m 0 c).leavesExact_idle 3 t ((idle_3 t).trans (decide_eq_true h))
    ((flush_3 t).trans (by rw [decide_eq_true h]; rfl))
theorem leaves3_later (c : Dev nD) (t : Fin cfg0.N) (h : ¬ t.val % 9 = 0) : (dats m 0 c).leavesExact 3 t
    = owns (c : Thread nD τ) (st0_3 t) fullShare ((dats m 0 c).after 3 t) := by
  unfold Dat.leavesExact; rw [(idle_3 t).trans (decide_eq_false h)]
theorem leaves4_first (c : Dev nD) (t : Fin cfg0.N) (h : t.val % 9 = 0) : (dats m 0 c).leavesExact 4 t
    = owns (c : Thread nD τ) (st0_4 t) fullShare ((dats m 0 c).after 4 t) := by
  have hi : cfg0.idle 4 (cfg0.grid.coords t) = false := (idle_4 t).trans (by rw [decide_eq_true h]; rfl)
  unfold Dat.leavesExact; rw [hi]
theorem leaves4_later (c : Dev nD) (t : Fin cfg0.N) (h : ¬ t.val % 9 = 0) :
    owns (c : Thread nD τ) (st0_4 t) fullShare ((dats m 0 c).after 4 t) ⊢ ((dats m 0 c).leavesExact 4 t : sProp 𝕄) := by
  have hi : cfg0.idle 4 (cfg0.grid.coords t) = true := (idle_4 t).trans (by rw [decide_eq_false h]; rfl)
  unfold Dat.leavesExact; rw [hi]
  cases (cfg0.win 4).flush t
  · rw [← before_4 m c t.val t.isLt ((dats m 0 c).after 4 t) h]
    iintro H; iexists ((dats m 0 c).after 4 t); iexact H
  · exact .rfl

/-- What the body is called with at a point, the windows one by one. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- What the body returns at a point. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

theorem Φ_eq (c : Dev nD) (n : Fin (cfg0.N + 1)) : (dats m 0 c).Φ n
    = iprop((∃ d, ⌜holdsTile m c n.val d⌝ ∗ owns (c : Thread nD τ) (Memref.whole cc0_scratch0) fullShare d)
        ∗ (∃ r, prngReg c r)) := by dsimp only [dats]

/-- After point `t` the scratch buffer holds point `t`'s weight tile. -/
theorem holdsTile_succ (c : Dev nD) (t : Fin cfg0.N) : holdsTile m c (t.val + 1) (tile m c t) := fun t' h => by
  rw [show t' = t from Fin.ext (by omega)]

set_option maxHeartbeats 800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).owesAt () t.succ = (dats m 0 c).owesAt () t.castSucc from rfl, Φ_eq, Φ_eq,
    leaves_in0, leaves_in1, leaves_in2, Fin.val_succ, Fin.val_castSucc]
  by_cases h0 : t.val % 9 = 0
  · rw [leaves3_first m c t h0, leaves4_first m c t h0, after_4]
    iintro ⟨⟨⟨%ds, -, HS⟩, Hg⟩, Ho, ⟨%d0, H0⟩, ⟨%d1, H1⟩, ⟨%d2, H2⟩, ⟨%d3, H3⟩, ⟨%d4, H4⟩⟩
    iapply (body_first c (grid0.coords t) _ _ _ _ _ _ _ _ _ _ _ _ ((first_iff t).mpr h0)
      (fun h => (later_iff t).mp h h0) (iblk m c 0 t) (iblk m c 1 t) (iblk m c 2 t) ((dats m 0 c).before 3 t d3) _)
    isplitl [H0]; · iexact H0
    isplitl [H1]; · iexact H1
    isplitl [H2]; · iexact H2
    isplitl [H3]; · iexact H3
    isplitl [H4]; · iexists _; iexact H4
    isplitl [HS]; · iexists _; iexact HS
    iintro ⟨H0, H1, H2, H3, H4, HS⟩
    isplitl [HS Hg]
    · isplitl [HS]
      · iexists (tile m c t)
        isplitr; · ipureintro; exact holdsTile_succ m c t
        iexact HS
      iexact Hg
    isplitl [Ho]; · iexact Ho
    isplitl [H0]; · iexact H0
    isplitl [H1]; · iexact H1
    isplitl [H2]; · iexact H2
    isplitl [H3]; · iexists _; iexact H3
    iexact H4
  · rw [leaves3_later m c t h0, after_3]
    iintro ⟨⟨⟨%ds, %hs, HS⟩, Hg⟩, Ho, ⟨%d0, H0⟩, ⟨%d1, H1⟩, ⟨%d2, H2⟩, ⟨%d3, H3⟩, ⟨%d4, H4⟩⟩
    have hds : ds = tile m c t := by
      rw [tile_prev m c t h0]; exact hs (prev t) (by show t.val - 1 + 1 = t.val; omega)
    subst hds
    rw [before_4 m c t.val t.isLt d4 h0]
    iapply (body_later c (grid0.coords t) _ _ _ _ _ _ _ _ _ _ _ _ (fun h => h0 ((first_iff t).mp h))
      ((later_iff t).mpr h0) (iblk m c 0 t) (iblk m c 1 t) (iblk m c 2 t) ((dats m 0 c).after 4 t) (tile m c t) _)
    isplitl [H0]; · iexact H0
    isplitl [H1]; · iexact H1
    isplitl [H2]; · iexact H2
    isplitl [H3]; · iexists _; iexact H3
    isplitl [H4]; · iexact H4
    isplitl [HS]; · iexact HS
    iintro ⟨H0, H1, H2, H3, H4, HS⟩
    isplitl [HS Hg]
    · isplitl [HS]
      · iexists (tile m c t)
        isplitr; · ipureintro; exact holdsTile_succ m c t
        iexact HS
      iexact Hg
    isplitl [Ho]; · iexact Ho
    isplitl [H0]; · iexact H0
    isplitl [H1]; · iexact H1
    isplitl [H2]; · iexact H2
    isplitl [H3]; · iexact H3
    iapply (leaves4_later m c t h0); iexact H4

theorem body_row (t : Fin cfg0.N) :
    defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ := fun t => by
  rw [bigSep_W0, bigSep_W0, body_row]
  exact triple_restated (sound_body m c t) rfl .rfl fun _ => .rfl

/-- The buffers the kernel keeps beside its windows: the scratch buffer at some contents and the generator register. -/
theorem kept_eq (c : Dev nD) : (Pipeline.ΦA spec0 c : sProp 𝕄)
    = iprop((∃ d, owns (c : Thread nD τ) (Memref.whole cc0_scratch0) fullShare d) ∗ (∃ r, prngReg c r)) := by
  unfold Pipeline.ΦA; rw [scopedRest0_eq]; simp only [owns_whole]; try rfl

theorem Φ_first (c : Dev nD) : (Pipeline.ΦA spec0 c : sProp 𝕄) ⊢ (dats m 0 c).Φ 0 := by
  rw [kept_eq, Φ_eq]
  iintro ⟨⟨%d, H⟩, Hg⟩
  isplitl [H]
  · iexists d
    isplitr; · ipureintro; exact fun t h => absurd h (Nat.succ_ne_zero _)
    iexact H
  iexact Hg

theorem Φ_last (c : Dev nD) : (dats m 0 c).Φ (Fin.last cfg0.N) ⊢ (Pipeline.ΦA spec0 c : sProp 𝕄) := by
  rw [kept_eq, Φ_eq]
  iintro ⟨⟨%d, -, H⟩, Hg⟩
  isplitl [H]; · iexists d; iexact H
  iexact Hg

set_option backward.isDefEq.respectTransparency.types false in
/-- The run: every execution ends with each array the windows stage at what the write-backs left there, every other
    array as the region found it, and every counter at zero. -/
theorem run_main : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := Φ_first m) (hout := Φ_last m)

/-- The same run, told of the arrays alone. -/
theorem run_arrays : θ_run defs (onTc (τ := τ) (main (F := F))) (s₀ m ρ) (Pipeline.FramePost cfgs (dats m) 0 (V m)) :=
  (θ_run defs _ _).mono (fun _ h => h.1) (run_main m ρ)

/-- The arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_arrays m ρ))
    ((θ_run defs _ _).mono (fun _ h => h.2) (run_main m ρ))

end Cert.InProj.Main

end
-- ==== Proof.InProj.Common.lean ====
module

public import Idealize.ShloMosaic.Lib.Pipeline.ValueKit

@[expose] public section

noncomputable section

namespace Cert.InProj

open Idealize.ShloMosaic

variable {α : Type}

/-- A leading unit axis dropped: row `k`, column `n` of the matrix is row `k`, column `n` of the one member. -/
theorem dropUnit_at {K N : ℕ} (x : (⟨3, ![1, K, N]⟩ : Shape).Idx → α)
    (h : (⟨3, ![1, K, N]⟩ : Shape).ShapeCasts ⟨2, ![K, N]⟩) (k : Fin K) (n : Fin N) :
    shapeCast ⟨2, ![K, N]⟩ x h (ix2 k n) = x (ix3 0 k n) :=
  shapeCast_apply _ _ _ _ (by rw [Shape.rowMajor_val_three, Shape.rowMajor_val_two]; simp)

/-- Two leading axes joined: row `r` of the matrix is row `r % B` of member `r / B`. -/
theorem joinRows_at {A B K R : ℕ} (x : (⟨3, ![A, B, K]⟩ : Shape).Idx → α)
    (h : (⟨3, ![A, B, K]⟩ : Shape).ShapeCasts ⟨2, ![R, K]⟩) (r : Fin R) (k : Fin K) (h1 : r.val / B < A) (h2 : r.val % B < B) :
    shapeCast ⟨2, ![R, K]⟩ x h (ix2 r k) = x (ix3 ⟨r.val / B, h1⟩ ⟨r.val % B, h2⟩ k) :=
  shapeCast_apply _ _ _ _ (by
    rw [Shape.rowMajor_val_three, Shape.rowMajor_val_two]
    show (r.val / B * B + r.val % B) * K + k.val = r.val * K + k.val
    rw [Nat.div_add_mod'])

end Cert.InProj

end
-- ==== Proof.InProj.Value.lean ====
module

public import proofs.«01_k».proof.Proof.InProj.Run
public import proofs.«01_k».proof.Proof.InProj.Common
public import proofs.«01_k».proof.Proof.Gen.ReferenceIdeal
public import Idealize.ShloMosaic.Lib.StableHlo.Run
public import Idealize.ShloMosaic.Lib.Pointwise
public import Idealize.ShloMosaic.Lib.Claim

@[expose] public section

set_option maxRecDepth 16384

noncomputable section

namespace Cert.InProj.Main

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ)

/-- The weight columns the reference multiplies by. -/
abbrev refW (W : FVec Ideal Cert.ReferenceIdeal.S1x2048x10368 .f32) : FVec Ideal Cert.ReferenceIdeal.S2048x5120 .f32 :=
  shapeCast Cert.ReferenceIdeal.S2048x5120
    (extractStridedSlice Cert.ReferenceIdeal.S1x2048x5120 ![0, 0, 0] W Cert.ReferenceIdeal.Gen.slices_S1x2048x10368_S1x2048x5120_0_0_0)
    Cert.ReferenceIdeal.Gen.shapeCasts_S1x2048x5120_S2048x5120

/-- The reference's prompt projection. -/
abbrev refPrompt (X : FVec Ideal Cert.ReferenceIdeal.S4x2048x2048 .bf16) (W : FVec Ideal Cert.ReferenceIdeal.S1x2048x10368 .f32) :
    FVec Ideal Cert.ReferenceIdeal.S8192x5120 .f32 :=
  Host.dotGeneral Cert.ReferenceIdeal.dot_S8192x2048_S2048x5120_S8192x5120_1_0_0_1_n_n none
    (shapeCast Cert.ReferenceIdeal.S8192x2048 (extf .f32 X Cert.ReferenceIdeal.Gen.bitsLt_bf16_f32)
      Cert.ReferenceIdeal.Gen.shapeCasts_S4x2048x2048_S8192x2048) (refW W)

/-- The reference's sample projection. -/
abbrev refSample (X : FVec Ideal Cert.ReferenceIdeal.S128x2048 .f32) (S : FVec Ideal Cert.ReferenceIdeal.S1x128x2048 .f32)
    (W : FVec Ideal Cert.ReferenceIdeal.S1x2048x10368 .f32) : FVec Ideal Cert.ReferenceIdeal.S256x5120 .f32 :=
  Host.dotGeneral Cert.ReferenceIdeal.dot_S256x2048_S2048x5120_S256x5120_1_0_0_1_n_n none
    (concatenate Cert.ReferenceIdeal.S256x2048 0 [⟨Cert.ReferenceIdeal.S128x2048, X⟩,
      ⟨Cert.ReferenceIdeal.S128x2048, shapeCast Cert.ReferenceIdeal.S128x2048 S Cert.ReferenceIdeal.Gen.shapeCasts_S1x128x2048_S128x2048⟩]
      Cert.ReferenceIdeal.Gen.concatenates_S128x2048_S128x2048_S256x2048_d0) (refW W)

/-- Every window's index at a point. -/
theorem idx : ∀ t : Fin cfg0.N, win0_0.index t = ![t.val % 9 - 1, 0] ∧ win0_1.index t = ![0, 0]
    ∧ win0_2.index t = ![0, t.val / 9 * 1280] ∧ win0_3.index t = ![t.val % 9 - 1, t.val / 9]
    ∧ win0_4.index t = ![0, t.val / 9] ∧ t.val / 9 < 4 :=
  (by decide +kernel : ∀ t : Fin grid0.N, _)

/-- The weight array the windows read is the layer's weight, its leading unit axis dropped. -/
theorem V_weight (c : Dev nD) : V m c main_v0
    = shapeCast S2048x10368 (m ((c : Thread nD τ).loc main_arg3)) shapeCasts_S1x2048x10368_S2048x10368 := by
  entry_read; rfl

/-- The prompt rows the windows read are the prompt array, its two leading axes joined. -/
theorem V_prompt (c : Dev nD) : V m c main_v4
    = shapeCast S8192x2048 (m ((c : Thread nD τ).loc main_arg0)) shapeCasts_S4x2048x2048_S8192x2048 := by
  entry_read; rfl

/-- The element of the weight block at row `k`, column `b`. -/
theorem read_weight (c : Dev nD) (t : Fin cfg0.N) (k : Fin 2048) (b : Fin 1280) (h : t.val / 9 * 1280 + b.val < 10368) :
    iblk m c 2 t (ix2 k b) = m ((c : Thread nD τ).loc main_arg3) (ix3 0 k ⟨t.val / 9 * 1280 + b.val, h⟩) := by
  have he : ((cfg0.win 2).blk t).view.emb (ix2 k b) = (ix2 k ⟨t.val / 9 * 1280 + b.val, h⟩ : S2048x10368.Idx) := by
    refine Shape.idx_ext₂ ((win0_2.rect_emb_val_off t (ix2 k b) 0).trans ?_) ((win0_2.rect_emb_val_off t (ix2 k b) 1).trans ?_)
    · rw [(idx t).2.2.1]; exact Nat.zero_add _
    · rw [(idx t).2.2.1]; rfl
  unfold iblk
  rw [View.read_apply, he]
  exact (congrFun (V_weight m c) _).trans (dropUnit_at _ _ _ _)

/-- The element of the prompt block at row `a`, column `k`. -/
theorem read_prompt (c : Dev nD) (t : Fin cfg0.N) (a : Fin 1024) (k : Fin 2048) (h : (t.val % 9 - 1) * 1024 + a.val < 8192) :
    iblk m c 0 t (ix2 a k) = m ((c : Thread nD τ).loc main_arg0)
      (ix3 ⟨((t.val % 9 - 1) * 1024 + a.val) / 2048, by omega⟩ ⟨((t.val % 9 - 1) * 1024 + a.val) % 2048, by omega⟩ k) := by
  have he : ((cfg0.win 0).blk t).view.emb (ix2 a k) = (ix2 ⟨(t.val % 9 - 1) * 1024 + a.val, h⟩ k : S8192x2048.Idx) := by
    refine Shape.idx_ext₂ ((win0_0.rect_emb_val_off t (ix2 a k) 0).trans ?_) ((win0_0.rect_emb_val_off t (ix2 a k) 1).trans ?_)
    · rw [(idx t).1]; rfl
    · rw [(idx t).1]; exact (congrArg (· + _) (Nat.zero_mul _)).trans (Nat.zero_add _)
  unfold iblk
  rw [View.read_apply, he]
  exact (congrFun (V_prompt m c) _).trans (joinRows_at _ _ _ _ _ _)

theorem point_prompt (c : Dev nD) (t : Fin cfg0.N) (y) : k0_pay3 (iblk m c 0 t) (tile m c t) y
    = refPrompt (m ((c : Thread nD τ).loc main_arg0)) (m ((c : Thread nD τ).loc main_arg3)) (((cfg0.win 3).blk t).view.emb y) := by
  unfold tile
  have ht := (idx t).2.2.2.2.2
  obtain ⟨a, b, rfl⟩ : ∃ (a : Fin 1024) (b : Fin 1280), y = ix2 a b := ⟨y 0, y 1, eq_ix2 y⟩
  have he : ((cfg0.win 3).blk t).view.emb (ix2 a b)
      = (ix2 ⟨(t.val % 9 - 1) * 1024 + a.val, by omega⟩ ⟨t.val / 9 * 1280 + b.val, by omega⟩ : S8192x5120.Idx) := by
    refine Shape.idx_ext₂ ((win0_3.rect_emb_val_off t (ix2 a b) 0).trans ?_) ((win0_3.rect_emb_val_off t (ix2 a b) 1).trans ?_)
    · rw [(idx t).2.2.2.1]; rfl
    · rw [(idx t).2.2.2.1]; rfl
  rw [he]
  pointwise [k0_pay3, k0_pay1, refPrompt, refW]
  refine Finset.sum_congr rfl fun k _ => ?_
  rw [read_weight m c t k b (by omega), read_prompt m c t a k (by omega)]

theorem final_prompt (c : Dev nD) : (dats m 0 c).arrAt 3 (cfgs 0).N
    = refPrompt (m ((c : Thread nD τ).loc main_arg0)) (m ((c : Thread nD τ).loc main_arg3)) := by
  refine (dats m 0 c).arrAt_eq_of_covers 3 _ (by decide +kernel) fun t _ y => ?_
  blk_simp
  rw [after_3]
  exact point_prompt m c t y

/-- The sample rows: the current ones over the carried ones. -/
abbrev rows (X : FVec Ideal S128x2048 .f32) (S : FVec Ideal S1x128x2048 .f32) : FVec Ideal S256x2048 .f32 :=
  concatenate S256x2048 0 [⟨S128x2048, X⟩, ⟨S128x2048, shapeCast S128x2048 S shapeCasts_S1x128x2048_S128x2048⟩]
    concatenates_S128x2048_S128x2048_S256x2048_d0

/-- The array of sample rows the windows read. -/
theorem V_sample (c : Dev nD) : V m c main_v3
    = truncf (F := Ideal) .bf16 (rows (m ((c : Thread nD τ).loc main_arg1)) (m ((c : Thread nD τ).loc main_arg2))) bitsLt_bf16_f32 := by
  entry_read; rfl

/-- The sample block is the whole array. -/
theorem read_sample (c : Dev nD) (t : Fin cfg0.N) (a : Fin 256) (k : Fin 2048) :
    iblk m c 1 t (ix2 a k) = V m c main_v3 (ix2 a k) := by
  have he : ((cfg0.win 1).blk t).view.emb (ix2 a k) = (ix2 a k : S256x2048.Idx) := by
    refine Shape.idx_ext₂ ((win0_1.rect_emb_val_off t (ix2 a k) 0).trans ?_) ((win0_1.rect_emb_val_off t (ix2 a k) 1).trans ?_)
    · rw [(idx t).2.1]; exact (congrArg (· + _) (Nat.zero_mul _)).trans (Nat.zero_add _)
    · rw [(idx t).2.1]; exact (congrArg (· + _) (Nat.zero_mul _)).trans (Nat.zero_add _)
  unfold iblk
  rw [View.read_apply, he]
  rfl

/-- The reference's product at a row and a column, whatever the rows. -/
theorem refSample_at (L : FVec Ideal Cert.ReferenceIdeal.S256x2048 .f32) (W : FVec Ideal Cert.ReferenceIdeal.S1x2048x10368 .f32)
    (a : Fin 256) (n : Fin 5120) (h : n.val < 10368) :
    Host.dotGeneral Cert.ReferenceIdeal.dot_S256x2048_S2048x5120_S256x5120_1_0_0_1_n_n none L (refW W) (ix2 a n)
      = ∑ k : Fin 2048, L (ix2 a k) * W (ix3 0 k ⟨n.val, h⟩) := by
  pointwise [refW]

/-- The kernel's sample product at a row and a column. -/
theorem paySample_at (L : Vec Ideal S256x2048 .bf16) (W : Vec Ideal S2048x1280 .f32) (a : Fin 256) (b : Fin 1280) :
    k0_pay2 L (k0_pay1 W) (ix2 a b) = ∑ k : Fin 2048, L (ix2 a k) * W (ix2 k b) := by
  pointwise [k0_pay2, k0_pay1]

theorem point_sample (c : Dev nD) (t : Fin cfg0.N) (y) : k0_pay2 (iblk m c 1 t) (tile m c t) y
    = refSample (m ((c : Thread nD τ).loc main_arg1)) (m ((c : Thread nD τ).loc main_arg2)) (m ((c : Thread nD τ).loc main_arg3))
        (((cfg0.win 4).blk t).view.emb y) := by
  unfold tile
  have ht := (idx t).2.2.2.2.2
  obtain ⟨a, b, rfl⟩ : ∃ (a : Fin 256) (b : Fin 1280), y = ix2 a b := ⟨y 0, y 1, eq_ix2 y⟩
  have he : ((cfg0.win 4).blk t).view.emb (ix2 a b) = (ix2 a ⟨t.val / 9 * 1280 + b.val, by omega⟩ : S256x5120.Idx) := by
    refine Shape.idx_ext₂ ((win0_4.rect_emb_val_off t (ix2 a b) 0).trans ?_) ((win0_4.rect_emb_val_off t (ix2 a b) 1).trans ?_)
    · rw [(idx t).2.2.2.2.1]; exact (congrArg (· + _) (Nat.zero_mul _)).trans (Nat.zero_add _)
    · rw [(idx t).2.2.2.2.1]; rfl
  rw [he, paySample_at]
  refine Eq.trans (Finset.sum_congr rfl fun k _ => ?_) (refSample_at _ _ a _ (by show _ < 10368; omega)).symm
  rw [read_weight m c t k b (by omega), read_sample m c t a k, V_sample]
  rfl

theorem final_sample (c : Dev nD) : (dats m 0 c).arrAt 4 (cfgs 0).N
    = refSample (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after_4]
  exact point_sample m c t y

end Cert.InProj.Main

end
-- ==== Proof.InProj.Pair.lean ====
/- The main projection against its reference: both programs end with the two products, and leave their arguments alone. -/
module

public import proofs.«01_k».proof.Defs
public import proofs.«01_k».proof.Proof.Gen.Kernel
public import proofs.«01_k».proof.Proof.InProj.Value

@[expose] public section

set_option maxRecDepth 16384

noncomputable section

namespace Cert.InProj.Main

open Idealize.ShloMosaic Idealize.SL.Sem

/-- The kernel as written and its idealization have one body table. -/
theorem table_eq : Cert.Kernel.defs₀ (F := Bits) = Cert.KernelIdeal.defs₀ (F := Bits) := by
  unfold Cert.Kernel.defs₀ Cert.KernelIdeal.defs₀
  refine congrArg Defs.onTc ?_
  funext l a
  match l, a with
  | 0, (t, s) => rfl

theorem defs_eq : Cert.Kernel.defs (F := Bits) = Cert.KernelIdeal.defs (F := Bits) :=
  congrArg (Pipeline.defs Cert.KernelIdeal.pcfgs) table_eq

/-- The kernel as written, at the hardware's own floats: the run is stated for any float instance. -/
theorem frame_kernel : Cert.quiescent_Kernel := fun m ρ _ => by
  rw [defs_eq]
  exact Cert.InProj.Main.frame (F := Bits) m ρ

/-- The reference ends with its counters at zero and its arguments as it found them. -/
theorem frame_reference : Cert.quiescent_ReferenceIdeal := by
  intro m g _
  refine (θ_run Cert.ReferenceIdeal.defs _ _).mono (fun r h => ⟨h, sem_eq_zero_of_no_sems (by decide) r.2⟩) ?_
  hlo_run

/-- Over the reals the projection's two results are the reference's. -/
theorem algebraic : Cert.algebraic_KernelIdeal_ReferenceIdeal := by
  pair_intro
  · run_from Cert.InProj.Main.run_arrays m g
  · hlo_run
    · exact (final_prompt m c).symm
    · rw [(hagree c).2.1, (hagree c).2.2.1]
      exact (final_sample m c).symm

end Cert.InProj.Main

end
-- ==== Proof.LzProj.Body.lean ====
module

public import proofs.«01_k».proof.Proof.Gen.Kernel2Ideal.Skeleton
public import proofs.«01_k».proof.Proof.Gen.Kernel2Ideal.Frame
public import Idealize.ShloMosaic.Lib.Pipeline.ValueKit
public import Idealize.ShloMosaic.Lib.VecWindow

@[expose] public section

set_option maxRecDepth 16384

noncomputable section

namespace Cert.InProj.Lz

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat)

variable {F : FTy → Type} [FloatOps F]

local notation "𝕄" => MT nD τ sig Unit (Elt F) ℕ (UR sig nD τ) ℕ

/-- The first branch is taken exactly at the first row step of a column tile. -/
theorem first_iff (t : Fin cfg0.N) : k0_cond1 (grid0.coords t) = 1#1 ↔ t.val % 9 = 0 :=
  (by decide +kernel : ∀ t : Fin grid0.N, k0_cond1 (grid0.coords t) = 1#1 ↔ t.val % 9 = 0) t

/-- The second branch is taken exactly at every other row step. -/
theorem later_iff (t : Fin cfg0.N) : k0_cond2 (grid0.coords t) = 1#1 ↔ ¬ t.val % 9 = 0 :=
  (by decide +kernel : ∀ t : Fin grid0.N, k0_cond2 (grid0.coords t) = 1#1 ↔ ¬ t.val % 9 = 0) t

set_option maxHeartbeats 1000000 in
/-- At the first row step of a column tile the body stores the weight tile into the scratch buffer, multiplies the
    sample rows by it, and leaves the prompt output alone. -/
theorem body_first (c : Dev nD) (i : grid0.Coords)
    (arg2 : Memref sig .tc .vmem S1024x2048 .bf16) (harg2 : arg2.IsWhole)
    (arg3 : Memref sig .tc .vmem S256x2048 .bf16) (harg3 : arg3.IsWhole)
    (arg4 : Memref sig .tc .vmem S2048x1152 .f32) (harg4 : arg4.IsWhole)
    (arg5 : Memref sig .tc .vmem S1024x1152 .f32) (harg5 : arg5.IsWhole)
    (arg6 : Memref sig .tc .vmem S256x1152 .f32) (harg6 : arg6.IsWhole)
    (arg7 : Memref sig .tc .vmem S2048x1152 .bf16) (harg7 : arg7.IsWhole)
    (h1 : k0_cond1 i = 1#1) (h2 : ¬ k0_cond2 i = 1#1)
    (x : Vec F S1024x2048 .bf16) (s : Vec F S256x2048 .bf16) (w : Vec F S2048x1152 .f32) (p : Vec F S1024x1152 .f32)
    (K : PUnit → sProp 𝕄) :
    iprop(owns (c : Thread nD τ) arg2 fullShare x ∗ owns (c : Thread nD τ) arg3 fullShare s
        ∗ owns (c : Thread nD τ) arg4 fullShare w ∗ owns (c : Thread nD τ) arg5 fullShare p
        ∗ (∃ d, owns (c : Thread nD τ) arg6 fullShare d) ∗ (∃ d, owns (c : Thread nD τ) arg7 fullShare d)
        ∗ (iprop(owns (c : Thread nD τ) arg2 fullShare x ∗ owns (c : Thread nD τ) arg3 fullShare s
            ∗ owns (c : Thread nD τ) arg4 fullShare w ∗ owns (c : Thread nD τ) arg5 fullShare p
            ∗ owns (c : Thread nD τ) arg6 fullShare (k0_pay2 s (k0_pay1 w))
            ∗ owns (c : Thread nD τ) arg7 fullShare (k0_pay1 w)) -∗ K ⟨⟩))
      ⊢ wp frame (wpE (defs₀ (F := F)) Variants.none c none) Set.univ
          (cc0_in_proj i arg2 harg2 arg3 harg3 arg4 harg4 arg5 harg5 arg6 harg6 arg7 harg7) K := by
  rw [cc0_in_proj_eq_skeleton]; unfold cc0_in_proj_skel
  unfold owns
  iintro ⟨⟨%f2, %e2, A2⟩, ⟨%f3, %e3, A3⟩, ⟨%f4, %e4, A4⟩, ⟨%f5, %e5, A5⟩, ⟨%d6, %f6, -, A6⟩, ⟨%d7, %f7, -, A7⟩, Hk⟩
  obtain rfl := harg2.eq_unread e2; obtain rfl := harg3.eq_unread e3; obtain rfl := harg4.eq_unread e4
  obtain rfl := harg5.eq_unread e5
  sl_exec (disch := first | sl_exact h1 | sl_exact h2)
  sl_step
  iapply Hk
  isplitl [A2]
  · iexists _; isplitr; · ipureintro; exact harg2.read_unread _
    iexact A2
  isplitl [A3]
  · iexists _; isplitr; · ipureintro; exact harg3.read_unread _
    iexact A3
  isplitl [A4]
  · iexists _; isplitr; · ipureintro; exact harg4.read_unread _
    iexact A4
  isplitl [A5]
  · iexists _; isplitr; · ipureintro; exact harg5.read_unread _
    iexact A5
  isplitl [A6]
  · iexists _; isplitr; swap; · iexact A6
    ipureintro
    sl_unfold_words
    rw [View.read_writes_full, View.readCov_full, View.readAt_full, View.readAt_full, harg3.read_unread, harg4.read_unread]
  · iexists _; isplitr; swap; · iexact A7
    ipureintro
    sl_unfold_words
    rw [View.read_writes_full, View.readAt_full, harg4.read_unread]

set_option maxHeartbeats 1000000 in
/-- At every other row step the body multiplies the prompt rows by the weight tile the scratch buffer holds, and leaves
    everything else alone. -/
theorem body_later (c : Dev nD) (i : grid0.Coords)
    (arg2 : Memref sig .tc .vmem S1024x2048 .bf16) (harg2 : arg2.IsWhole)
    (arg3 : Memref sig .tc .vmem S256x2048 .bf16) (harg3 : arg3.IsWhole)
    (arg4 : Memref sig .tc .vmem S2048x1152 .f32) (harg4 : arg4.IsWhole)
    (arg5 : Memref sig .tc .vmem S1024x1152 .f32) (harg5 : arg5.IsWhole)
    (arg6 : Memref sig .tc .vmem S256x1152 .f32) (harg6 : arg6.IsWhole)
    (arg7 : Memref sig .tc .vmem S2048x1152 .bf16) (harg7 : arg7.IsWhole)
    (h1 : ¬ k0_cond1 i = 1#1) (h2 : k0_cond2 i = 1#1)
    (x : Vec F S1024x2048 .bf16) (s : Vec F S256x2048 .bf16) (w : Vec F S2048x1152 .f32)
    (q : Vec F S256x1152 .f32) (wt : Vec F S2048x1152 .bf16)
    (K : PUnit → sProp 𝕄) :
    iprop(owns (c : Thread nD τ) arg2 fullShare x ∗ owns (c : Thread nD τ) arg3 fullShare s
        ∗ owns (c : Thread nD τ) arg4 fullShare w ∗ (∃ d, owns (c : Thread nD τ) arg5 fullShare d)
        ∗ owns (c : Thread nD τ) arg6 fullShare q ∗ owns (c : Thread nD τ) arg7 fullShare wt
        ∗ (iprop(owns (c : Thread nD τ) arg2 fullShare x ∗ owns (c : Thread nD τ) arg3 fullShare s
            ∗ owns (c : Thread nD τ) arg4 fullShare w ∗ owns (c : Thread nD τ) arg5 fullShare (k0_pay3 x wt)
            ∗ owns (c : Thread nD τ) arg6 fullShare q
            ∗ owns (c : Thread nD τ) arg7 fullShare wt) -∗ K ⟨⟩))
      ⊢ wp frame (wpE (defs₀ (F := F)) Variants.none c none) Set.univ
          (cc0_in_proj i arg2 harg2 arg3 harg3 arg4 harg4 arg5 harg5 arg6 harg6 arg7 harg7) K := by
  rw [cc0_in_proj_eq_skeleton]; unfold cc0_in_proj_skel
  unfold owns
  iintro ⟨⟨%f2, %e2, A2⟩, ⟨%f3, %e3, A3⟩, ⟨%f4, %e4, A4⟩, ⟨%d5, %f5, -, A5⟩, ⟨%f6, %e6, A6⟩, ⟨%f7, %e7, A7⟩, Hk⟩
  obtain rfl := harg2.eq_unread e2; obtain rfl := harg3.eq_unread e3; obtain rfl := harg4.eq_unread e4
  obtain rfl := harg6.eq_unread e6; obtain rfl := harg7.eq_unread e7
  sl_exec (disch := first | sl_exact h1 | sl_exact h2)
  sl_step
  iapply Hk
  isplitl [A2]
  · iexists _; isplitr; · ipureintro; exact harg2.read_unread _
    iexact A2
  isplitl [A3]
  · iexists _; isplitr; · ipureintro; exact harg3.read_unread _
    iexact A3
  isplitl [A4]
  · iexists _; isplitr; · ipureintro; exact harg4.read_unread _
    iexact A4
  isplitl [A5]
  · iexists _; isplitr; swap; · iexact A5
    ipureintro
    sl_unfold_words
    rw [View.read_writes_full, View.readAt_full, View.readAt_full, harg2.read_unread, harg7.read_unread]
  isplitl [A6]
  · iexists _; isplitr; · ipureintro; exact harg6.read_unread _
    iexact A6
  · iexists _; isplitr; · ipureintro; exact harg7.read_unread _
    iexact A7

end Cert.InProj.Lz

end
-- ==== Proof.LzProj.Run.lean ====
module

public import proofs.«01_k».proof.Proof.LzProj.Body

@[expose] public section

set_option maxRecDepth 16384

noncomputable section

namespace Cert.InProj.Lz

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The weight tile of point `t`'s column tile, rounded to bfloat16 as the scratch buffer holds it. -/
def tile (c : Dev nD) (t : Fin cfg0.N) : Vec F S2048x1152 .bf16 := k0_pay1 (iblk m c 2 t)

/-- What the scratch buffer holds before point `n`: nothing known before the first point, then the weight tile of the
    point just run. -/
def holdsTile (c : Dev nD) (n : ℕ) (d : Vec F S2048x1152 .bf16) : Prop :=
  ∀ t : Fin cfg0.N, t.val + 1 = n → d = tile m c t

/-- The proof data: each input's buffer keeps its block, the prompt output's ends at the product of the point's prompt
    rows and weight tile, the sample output's at the product of the sample rows and the weight tile; between points the
    scratch buffer holds the weight tile. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay3 (iblk m c 0 t) (tile m c t)
    | ⟨4, _⟩ => k0_pay2 (iblk m c 1 t) (tile m c t)
  Φ n := iprop((∃ d, ⌜holdsTile m c n.val d⌝ ∗ owns (c : Thread nD τ) (Memref.whole cc0_scratch0) fullShare d)
    ∗ (∃ r, prngReg c r))
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) :
    (dats m 0 c).after 3 t = k0_pay3 (iblk m c 0 t) (tile m c t) := by dsimp only [dats]
theorem after_4 (c : Dev nD) (t : Fin cfg0.N) :
    (dats m 0 c).after 4 t = k0_pay2 (iblk m c 1 t) (tile m c t) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-- The point before `t`. -/
abbrev prev (t : Fin cfg0.N) : Fin cfg0.N := ⟨t.val - 1, Nat.lt_of_le_of_lt (Nat.sub_le _ _) t.isLt⟩

theorem fetched_2 (c : Dev nD) (t : Fin cfg0.N) (d) : (dats m 0 c).fetched 2 t d = iblk m c 2 t := by
  unfold Dat.fetched Dat.blockOf iblk; rw [A_eq]; rfl
theorem fetched_1 (c : Dev nD) (t : Fin cfg0.N) (d) : (dats m 0 c).fetched 1 t d = iblk m c 1 t := by
  unfold Dat.fetched Dat.blockOf iblk; rw [A_eq]; rfl

/-- Within a column tile the weight block does not move. -/
theorem iblk_2_prev (c : Dev nD) (t : Fin cfg0.N) (h : ¬ t.val % 9 = 0) : iblk m c 2 t = iblk m c 2 (prev t) := by
  have hf : (cfg0.win 2).fetch t = false := by
    rw [← Bool.not_eq_true]; exact fun e => h ((fetch0_2 t).mp e)
  obtain ⟨ht, hix⟩ := (cfg0.win 2).index_eq_of_fetch rfl t hf
  have d : (cfg0.win 2).block.Idx → Elt F (cfg0.win 2).elt := iblk m c 2 t
  rw [← fetched_2 m c t d, ← fetched_2 m c (prev t) d]
  exact (dats m 0 c).fetched_congr 2 hix rfl d

/-- The sample rows' block never moves. -/
theorem iblk_1_prev (c : Dev nD) (t : Fin cfg0.N) (h : ¬ t.val % 9 = 0) : iblk m c 1 t = iblk m c 1 (prev t) := by
  have hN : t.val < 9 := lt_of_lt_of_eq t.isLt N_0
  have hf : (cfg0.win 1).fetch t = false := by
    rw [← Bool.not_eq_true]; exact fun e => h (by have := (fetch0_1 t).mp e; omega)
  obtain ⟨ht, hix⟩ := (cfg0.win 1).index_eq_of_fetch rfl t hf
  have d : (cfg0.win 1).block.Idx → Elt F (cfg0.win 1).elt := iblk m c 1 t
  rw [← fetched_1 m c t d, ← fetched_1 m c (prev t) d]
  exact (dats m 0 c).fetched_congr 1 hix rfl d

theorem tile_prev (c : Dev nD) (t : Fin cfg0.N) (h : ¬ t.val % 9 = 0) : tile m c t = tile m c (prev t) := by
  unfold tile; rw [iblk_2_prev m c t h]

/-! ## Where the outputs are idle -/

theorem idle_3 (t : Fin cfg0.N) : cfg0.idle 3 (grid0.coords t) = decide (t.val % 9 = 0) :=
  (by decide +kernel : ∀ t : Fin grid0.N, cfg0.idle 3 (grid0.coords t) = decide (t.val % 9 = 0)) t
theorem idle_4 (t : Fin cfg0.N) : cfg0.idle 4 (grid0.coords t) = !decide (t.val % 9 = 0) :=
  (by decide +kernel : ∀ t : Fin grid0.N, cfg0.idle 4 (grid0.coords t) = !decide (t.val % 9 = 0)) t
theorem flush_3 (t : Fin cfg0.N) : (cfg0.win 3).flush t = !decide (t.val % 9 = 0) :=
  (by decide +kernel : ∀ t : Fin grid0.N, win0_3.flush t = !decide (t.val % 9 = 0)) t

/-- After the first row step of a column tile, the sample output's buffer holds the sample product. -/
theorem before_4 (c : Dev nD) : ∀ (n : ℕ) (h : n < cfg0.N) (d), ¬ n % 9 = 0 →
    (dats m 0 c).before 4 ⟨n, h⟩ d = (dats m 0 c).after 4 ⟨n, h⟩
  | 0, _, _, h0 => absurd rfl h0
  | n + 1, h, d, h0 => by
    have hn : n < cfg0.N := Nat.lt_of_succ_lt h
    have hfl : (cfg0.win 4).flush ⟨n, hn⟩ = false := by
      rw [← Bool.not_eq_true]; exact fun e => h0 (by have : n % 9 = 8 := (flush0_4 ⟨n, hn⟩).mp e; omega)
    have hstep : (dats m 0 c).after 4 ⟨n + 1, h⟩ = (dats m 0 c).after 4 ⟨n, hn⟩ := by
      rw [after_4, after_4, tile_prev m c ⟨n + 1, h⟩ h0, iblk_1_prev m c ⟨n + 1, h⟩ h0]; rfl
    rw [(dats m 0 c).before_of_pos 4 ⟨n + 1, h⟩ (Nat.succ_ne_zero n) rfl d]
    simp only [Nat.add_sub_cancel]
    rw [hfl, if_neg Bool.false_ne_true, hstep]
    unfold Dat.left
    rw [idle_4 ⟨n, hn⟩]
    by_cases hz : n % 9 = 0
    · simp only [hz, decide_true, Bool.not_true]; rfl
    · simp only [hz, decide_false, Bool.not_false]; exact before_4 c n hn d hz

/-! ## The body at every point -/

theorem leaves_in0 (c : Dev nD) (t : Fin cfg0.N) : (dats m 0 c).leavesExact 0 t
    = owns (c : Thread nD τ) (st0_0 t) fullShare (iblk m c 0 t) := by
  unfold Dat.leavesExact; rw [show cfg0.idle 0 (cfg0.grid.coords t) = false from rfl, after_0]
theorem leaves_in1 (c : Dev nD) (t : Fin cfg0.N) : (dats m 0 c).leavesExact 1 t
    = owns (c : Thread nD τ) (st0_1 t) fullShare (iblk m c 1 t) := by
  unfold Dat.leavesExact; rw [show cfg0.idle 1 (cfg0.grid.coords t) = false from rfl, after_1]
theorem leaves_in2 (c : Dev nD) (t : Fin cfg0.N) : (dats m 0 c).leavesExact 2 t
    = owns (c : Thread nD τ) (st0_2 t) fullShare (iblk m c 2 t) := by
  unfold Dat.leavesExact; rw [show cfg0.idle 2 (cfg0.grid.coords t) = false from rfl, after_2]

theorem leaves3_first (c : Dev nD) (t : Fin cfg0.N) (h : t.val % 9 = 0) : (dats m 0 c).leavesExact 3 t
    = iprop(∃ d, owns (c : Thread nD τ) (st0_3 t) fullShare ((dats m 0 c).before 3 t d)) :=
  (dats m 0 c).leavesExact_idle 3 t ((idle_3 t).trans (decide_eq_true h))
    ((flush_3 t).trans (by rw [decide_eq_true h]; rfl))
theorem leaves3_later (c : Dev nD) (t : Fin cfg0.N) (h : ¬ t.val % 9 = 0) : (dats m 0 c).leavesExact 3 t
    = owns (c : Thread nD τ) (st0_3 t) fullShare ((dats m 0 c).after 3 t) := by
  unfold Dat.leavesExact; rw [(idle_3 t).trans (decide_eq_false h)]
theorem leaves4_first (c : Dev nD) (t : Fin cfg0.N) (h : t.val % 9 = 0) : (dats m 0 c).leavesExact 4 t
    = owns (c : Thread nD τ) (st0_4 t) fullShare ((dats m 0 c).after 4 t) := by
  have hi : cfg0.idle 4 (cfg0.grid.coords t) = false := (idle_4 t).trans (by rw [decide_eq_true h]; rfl)
  unfold Dat.leavesExact; rw [hi]
theorem leaves4_later (c : Dev nD) (t : Fin cfg0.N) (h : ¬ t.val % 9 = 0) :
    owns (c : Thread nD τ) (st0_4 t) fullShare ((dats m 0 c).after 4 t) ⊢ ((dats m 0 c).leavesExact 4 t : sProp 𝕄) := by
  have hi : cfg0.idle 4 (cfg0.grid.coords t) = true := (idle_4 t).trans (by rw [decide_eq_false h]; rfl)
  unfold Dat.leavesExact; rw [hi]
  cases (cfg0.win 4).flush t
  · rw [← before_4 m c t.val t.isLt ((dats m 0 c).after 4 t) h]
    iintro H; iexists ((dats m 0 c).after 4 t); iexact H
  · exact .rfl

/-- What the body is called with at a point, the windows one by one. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- What the body returns at a point. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

theorem Φ_eq (c : Dev nD) (n : Fin (cfg0.N + 1)) : (dats m 0 c).Φ n
    = iprop((∃ d, ⌜holdsTile m c n.val d⌝ ∗ owns (c : Thread nD τ) (Memref.whole cc0_scratch0) fullShare d)
        ∗ (∃ r, prngReg c r)) := by dsimp only [dats]

/-- After point `t` the scratch buffer holds point `t`'s weight tile. -/
theorem holdsTile_succ (c : Dev nD) (t : Fin cfg0.N) : holdsTile m c (t.val + 1) (tile m c t) := fun t' h => by
  rw [show t' = t from Fin.ext (by omega)]

set_option maxHeartbeats 800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).owesAt () t.succ = (dats m 0 c).owesAt () t.castSucc from rfl, Φ_eq, Φ_eq,
    leaves_in0, leaves_in1, leaves_in2, Fin.val_succ, Fin.val_castSucc]
  by_cases h0 : t.val % 9 = 0
  · rw [leaves3_first m c t h0, leaves4_first m c t h0, after_4]
    iintro ⟨⟨⟨%ds, -, HS⟩, Hg⟩, Ho, ⟨%d0, H0⟩, ⟨%d1, H1⟩, ⟨%d2, H2⟩, ⟨%d3, H3⟩, ⟨%d4, H4⟩⟩
    iapply (body_first c (grid0.coords t) _ _ _ _ _ _ _ _ _ _ _ _ ((first_iff t).mpr h0)
      (fun h => (later_iff t).mp h h0) (iblk m c 0 t) (iblk m c 1 t) (iblk m c 2 t) ((dats m 0 c).before 3 t d3) _)
    isplitl [H0]; · iexact H0
    isplitl [H1]; · iexact H1
    isplitl [H2]; · iexact H2
    isplitl [H3]; · iexact H3
    isplitl [H4]; · iexists _; iexact H4
    isplitl [HS]; · iexists _; iexact HS
    iintro ⟨H0, H1, H2, H3, H4, HS⟩
    isplitl [HS Hg]
    · isplitl [HS]
      · iexists (tile m c t)
        isplitr; · ipureintro; exact holdsTile_succ m c t
        iexact HS
      iexact Hg
    isplitl [Ho]; · iexact Ho
    isplitl [H0]; · iexact H0
    isplitl [H1]; · iexact H1
    isplitl [H2]; · iexact H2
    isplitl [H3]; · iexists _; iexact H3
    iexact H4
  · rw [leaves3_later m c t h0, after_3]
    iintro ⟨⟨⟨%ds, %hs, HS⟩, Hg⟩, Ho, ⟨%d0, H0⟩, ⟨%d1, H1⟩, ⟨%d2, H2⟩, ⟨%d3, H3⟩, ⟨%d4, H4⟩⟩
    have hds : ds = tile m c t := by
      rw [tile_prev m c t h0]; exact hs (prev t) (by show t.val - 1 + 1 = t.val; omega)
    subst hds
    rw [before_4 m c t.val t.isLt d4 h0]
    iapply (body_later c (grid0.coords t) _ _ _ _ _ _ _ _ _ _ _ _ (fun h => h0 ((first_iff t).mp h))
      ((later_iff t).mpr h0) (iblk m c 0 t) (iblk m c 1 t) (iblk m c 2 t) ((dats m 0 c).after 4 t) (tile m c t) _)
    isplitl [H0]; · iexact H0
    isplitl [H1]; · iexact H1
    isplitl [H2]; · iexact H2
    isplitl [H3]; · iexists _; iexact H3
    isplitl [H4]; · iexact H4
    isplitl [HS]; · iexact HS
    iintro ⟨H0, H1, H2, H3, H4, HS⟩
    isplitl [HS Hg]
    · isplitl [HS]
      · iexists (tile m c t)
        isplitr; · ipureintro; exact holdsTile_succ m c t
        iexact HS
      iexact Hg
    isplitl [Ho]; · iexact Ho
    isplitl [H0]; · iexact H0
    isplitl [H1]; · iexact H1
    isplitl [H2]; · iexact H2
    isplitl [H3]; · iexact H3
    iapply (leaves4_later m c t h0); iexact H4

theorem body_row (t : Fin cfg0.N) :
    defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ := fun t => by
  rw [bigSep_W0, bigSep_W0, body_row]
  exact triple_restated (sound_body m c t) rfl .rfl fun _ => .rfl

/-- The buffers the kernel keeps beside its windows: the scratch buffer at some contents and the generator register. -/
theorem kept_eq (c : Dev nD) : (Pipeline.ΦA spec0 c : sProp 𝕄)
    = iprop((∃ d, owns (c : Thread nD τ) (Memref.whole cc0_scratch0) fullShare d) ∗ (∃ r, prngReg c r)) := by
  unfold Pipeline.ΦA; rw [scopedRest0_eq]; simp only [owns_whole]; try rfl

theorem Φ_first (c : Dev nD) : (Pipeline.ΦA spec0 c : sProp 𝕄) ⊢ (dats m 0 c).Φ 0 := by
  rw [kept_eq, Φ_eq]
  iintro ⟨⟨%d, H⟩, Hg⟩
  isplitl [H]
  · iexists d
    isplitr; · ipureintro; exact fun t h => absurd h (Nat.succ_ne_zero _)
    iexact H
  iexact Hg

theorem Φ_last (c : Dev nD) : (dats m 0 c).Φ (Fin.last cfg0.N) ⊢ (Pipeline.ΦA spec0 c : sProp 𝕄) := by
  rw [kept_eq, Φ_eq]
  iintro ⟨⟨%d, -, H⟩, Hg⟩
  isplitl [H]; · iexists d; iexact H
  iexact Hg

set_option backward.isDefEq.respectTransparency.types false in
/-- The run: every execution ends with each array the windows stage at what the write-backs left there, every other
    array as the region found it, and every counter at zero. -/
theorem run_main : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := Φ_first m) (hout := Φ_last m)

/-- The same run, told of the arrays alone. -/
theorem run_arrays : θ_run defs (onTc (τ := τ) (main (F := F))) (s₀ m ρ) (Pipeline.FramePost cfgs (dats m) 0 (V m)) :=
  (θ_run defs _ _).mono (fun _ h => h.1) (run_main m ρ)

/-- The arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_arrays m ρ))
    ((θ_run defs _ _).mono (fun _ h => h.2) (run_main m ρ))

end Cert.InProj.Lz

end
-- ==== Proof.LzProj.Value.lean ====
module

public import proofs.«01_k».proof.Proof.LzProj.Run
public import proofs.«01_k».proof.Proof.InProj.Common
public import proofs.«01_k».proof.Proof.Gen.Reference2Ideal
public import Idealize.ShloMosaic.Lib.StableHlo.Run
public import Idealize.ShloMosaic.Lib.Pointwise
public import Idealize.ShloMosaic.Lib.Claim

@[expose] public section

set_option maxRecDepth 16384

noncomputable section

namespace Cert.InProj.Lz

open Cert.Kernel2Ideal Cert.Kernel2Ideal.Gen
open Idealize.ShloMosaic Idealize.ShloMosaic.TcCoe Idealize.SL.Sem
open Idealize.ShloMosaic.Pipeline (Dat)

variable (m : (ℓ : Loc nD τ sig) → Buf (Elt Ideal) ℓ)

/-- The weight columns the reference multiplies by. -/
abbrev refW (W : FVec Ideal Cert.Reference2Ideal.S1x2048x10368 .f32) : FVec Ideal Cert.Reference2Ideal.S2048x1152 .f32 :=
  shapeCast Cert.Reference2Ideal.S2048x1152
    (extractStridedSlice Cert.Reference2Ideal.S1x2048x1152 ![0, 0, 5120] W Cert.Reference2Ideal.Gen.slices_S1x2048x10368_S1x2048x1152_0_0_5120)
    Cert.Reference2Ideal.Gen.shapeCasts_S1x2048x1152_S2048x1152

/-- The reference's prompt projection. -/
abbrev refPrompt (X : FVec Ideal Cert.Reference2Ideal.S4x2048x2048 .bf16) (W : FVec Ideal Cert.Reference2Ideal.S1x2048x10368 .f32) :
    FVec Ideal Cert.Reference2Ideal.S8192x1152 .f32 :=
  Host.dotGeneral Cert.Reference2Ideal.dot_S8192x2048_S2048x1152_S8192x1152_1_0_0_1_n_n none
    (shapeCast Cert.Reference2Ideal.S8192x2048 (extf .f32 X Cert.Reference2Ideal.Gen.bitsLt_bf16_f32)
      Cert.Reference2Ideal.Gen.shapeCasts_S4x2048x2048_S8192x2048) (refW W)

/-- The reference's sample projection. -/
abbrev refSample (X : FVec Ideal Cert.Reference2Ideal.S128x2048 .f32) (S : FVec Ideal Cert.Reference2Ideal.S1x128x2048 .f32)
    (W : FVec Ideal Cert.Reference2Ideal.S1x2048x10368 .f32) : FVec Ideal Cert.Reference2Ideal.S256x1152 .f32 :=
  Host.dotGeneral Cert.Reference2Ideal.dot_S256x2048_S2048x1152_S256x1152_1_0_0_1_n_n none
    (concatenate Cert.Reference2Ideal.S256x2048 0 [⟨Cert.Reference2Ideal.S128x2048, X⟩,
      ⟨Cert.Reference2Ideal.S128x2048, shapeCast Cert.Reference2Ideal.S128x2048 S Cert.Reference2Ideal.Gen.shapeCasts_S1x128x2048_S128x2048⟩]
      Cert.Reference2Ideal.Gen.concatenates_S128x2048_S128x2048_S256x2048_d0) (refW W)

/-- Every window's index at a point. -/
theorem idx : ∀ t : Fin cfg0.N, win0_0.index t = ![t.val % 9 - 1, 0] ∧ win0_1.index t = ![0, 0]
    ∧ win0_2.index t = ![0, t.val / 9 * 1152 + 5120] ∧ win0_3.index t = ![t.val % 9 - 1, t.val / 9]
    ∧ win0_4.index t = ![0, t.val / 9] ∧ t.val / 9 < 1 :=
  (by decide +kernel : ∀ t : Fin grid0.N, _)

/-- The weight array the windows read is the layer's weight, its leading unit axis dropped. -/
theorem V_weight (c : Dev nD) : V m c main_v0
    = shapeCast S2048x10368 (m ((c : Thread nD τ).loc main_arg3)) shapeCasts_S1x2048x10368_S2048x10368 := by
  entry_read; rfl

/-- The prompt rows the windows read are the prompt array, its two leading axes joined. -/
theorem V_prompt (c : Dev nD) : V m c main_v4
    = shapeCast S8192x2048 (m ((c : Thread nD τ).loc main_arg0)) shapeCasts_S4x2048x2048_S8192x2048 := by
  entry_read; rfl

/-- The element of the weight block at row `k`, column `b`. -/
theorem read_weight (c : Dev nD) (t : Fin cfg0.N) (k : Fin 2048) (b : Fin 1152) (h : 5120 + (t.val / 9 * 1152 + b.val) < 10368) :
    iblk m c 2 t (ix2 k b) = m ((c : Thread nD τ).loc main_arg3) (ix3 0 k ⟨5120 + (t.val / 9 * 1152 + b.val), h⟩) := by
  have he : ((cfg0.win 2).blk t).view.emb (ix2 k b) = (ix2 k ⟨5120 + (t.val / 9 * 1152 + b.val), h⟩ : S2048x10368.Idx) := by
    refine Shape.idx_ext₂ ((win0_2.rect_emb_val_off t (ix2 k b) 0).trans ?_) ((win0_2.rect_emb_val_off t (ix2 k b) 1).trans ?_)
    · rw [(idx t).2.2.1]; exact Nat.zero_add _
    · rw [(idx t).2.2.1]; show t.val / 9 * 1152 + 5120 + b.val = 5120 + (t.val / 9 * 1152 + b.val); omega
  unfold iblk
  rw [View.read_apply, he]
  exact (congrFun (V_weight m c) _).trans (dropUnit_at _ _ _ _)

/-- The element of the prompt block at row `a`, column `k`. -/
theorem read_prompt (c : Dev nD) (t : Fin cfg0.N) (a : Fin 1024) (k : Fin 2048) (h : (t.val % 9 - 1) * 1024 + a.val < 8192) :
    iblk m c 0 t (ix2 a k) = m ((c : Thread nD τ).loc main_arg0)
      (ix3 ⟨((t.val % 9 - 1) * 1024 + a.val) / 2048, by omega⟩ ⟨((t.val % 9 - 1) * 1024 + a.val) % 2048, by omega⟩ k) := by
  have he : ((cfg0.win 0).blk t).view.emb (ix2 a k) = (ix2 ⟨(t.val % 9 - 1) * 1024 + a.val, h⟩ k : S8192x2048.Idx) := by
    refine Shape.idx_ext₂ ((win0_0.rect_emb_val_off t (ix2 a k) 0).trans ?_) ((win0_0.rect_emb_val_off t (ix2 a k) 1).trans ?_)
    · rw [(idx t).1]; rfl
    · rw [(idx t).1]; exact (congrArg (· + _) (Nat.zero_mul _)).trans (Nat.zero_add _)
  unfold iblk
  rw [View.read_apply, he]
  exact (congrFun (V_prompt m c) _).trans (joinRows_at _ _ _ _ _ _)

theorem point_prompt (c : Dev nD) (t : Fin cfg0.N) (y) : k0_pay3 (iblk m c 0 t) (tile m c t) y
    = refPrompt (m ((c : Thread nD τ).loc main_arg0)) (m ((c : Thread nD τ).loc main_arg3)) (((cfg0.win 3).blk t).view.emb y) := by
  unfold tile
  have ht := (idx t).2.2.2.2.2
  obtain ⟨a, b, rfl⟩ : ∃ (a : Fin 1024) (b : Fin 1152), y = ix2 a b := ⟨y 0, y 1, eq_ix2 y⟩
  have he : ((cfg0.win 3).blk t).view.emb (ix2 a b)
      = (ix2 ⟨(t.val % 9 - 1) * 1024 + a.val, by omega⟩ ⟨t.val / 9 * 1152 + b.val, by omega⟩ : S8192x1152.Idx) := by
    refine Shape.idx_ext₂ ((win0_3.rect_emb_val_off t (ix2 a b) 0).trans ?_) ((win0_3.rect_emb_val_off t (ix2 a b) 1).trans ?_)
    · rw [(idx t).2.2.2.1]; rfl
    · rw [(idx t).2.2.2.1]; rfl
  rw [he]
  pointwise [k0_pay3, k0_pay1, refPrompt, refW]
  refine Finset.sum_congr rfl fun k _ => ?_
  rw [read_weight m c t k b (by omega), read_prompt m c t a k (by omega)]

theorem final_prompt (c : Dev nD) : (dats m 0 c).arrAt 3 (cfgs 0).N
    = refPrompt (m ((c : Thread nD τ).loc main_arg0)) (m ((c : Thread nD τ).loc main_arg3)) := by
  refine (dats m 0 c).arrAt_eq_of_covers 3 _ (by decide +kernel) fun t _ y => ?_
  blk_simp
  rw [after_3]
  exact point_prompt m c t y

/-- The sample rows: the current ones over the carried ones. -/
abbrev rows (X : FVec Ideal S128x2048 .f32) (S : FVec Ideal S1x128x2048 .f32) : FVec Ideal S256x2048 .f32 :=
  concatenate S256x2048 0 [⟨S128x2048, X⟩, ⟨S128x2048, shapeCast S128x2048 S shapeCasts_S1x128x2048_S128x2048⟩]
    concatenates_S128x2048_S128x2048_S256x2048_d0

/-- The array of sample rows the windows read. -/
theorem V_sample (c : Dev nD) : V m c main_v3
    = truncf (F := Ideal) .bf16 (rows (m ((c : Thread nD τ).loc main_arg1)) (m ((c : Thread nD τ).loc main_arg2))) bitsLt_bf16_f32 := by
  entry_read; rfl

/-- The sample block is the whole array. -/
theorem read_sample (c : Dev nD) (t : Fin cfg0.N) (a : Fin 256) (k : Fin 2048) :
    iblk m c 1 t (ix2 a k) = V m c main_v3 (ix2 a k) := by
  have he : ((cfg0.win 1).blk t).view.emb (ix2 a k) = (ix2 a k : S256x2048.Idx) := by
    refine Shape.idx_ext₂ ((win0_1.rect_emb_val_off t (ix2 a k) 0).trans ?_) ((win0_1.rect_emb_val_off t (ix2 a k) 1).trans ?_)
    · rw [(idx t).2.1]; exact (congrArg (· + _) (Nat.zero_mul _)).trans (Nat.zero_add _)
    · rw [(idx t).2.1]; exact (congrArg (· + _) (Nat.zero_mul _)).trans (Nat.zero_add _)
  unfold iblk
  rw [View.read_apply, he]
  rfl

/-- The reference's product at a row and a column, whatever the rows. -/
theorem refSample_at (L : FVec Ideal Cert.Reference2Ideal.S256x2048 .f32) (W : FVec Ideal Cert.Reference2Ideal.S1x2048x10368 .f32)
    (a : Fin 256) (n : Fin 1152) (h : 5120 + n.val < 10368) :
    Host.dotGeneral Cert.Reference2Ideal.dot_S256x2048_S2048x1152_S256x1152_1_0_0_1_n_n none L (refW W) (ix2 a n)
      = ∑ k : Fin 2048, L (ix2 a k) * W (ix3 0 k ⟨5120 + n.val, h⟩) := by
  pointwise [refW]

/-- The kernel's sample product at a row and a column. -/
theorem paySample_at (L : Vec Ideal S256x2048 .bf16) (W : Vec Ideal S2048x1152 .f32) (a : Fin 256) (b : Fin 1152) :
    k0_pay2 L (k0_pay1 W) (ix2 a b) = ∑ k : Fin 2048, L (ix2 a k) * W (ix2 k b) := by
  pointwise [k0_pay2, k0_pay1]

theorem point_sample (c : Dev nD) (t : Fin cfg0.N) (y) : k0_pay2 (iblk m c 1 t) (tile m c t) y
    = refSample (m ((c : Thread nD τ).loc main_arg1)) (m ((c : Thread nD τ).loc main_arg2)) (m ((c : Thread nD τ).loc main_arg3))
        (((cfg0.win 4).blk t).view.emb y) := by
  unfold tile
  have ht := (idx t).2.2.2.2.2
  obtain ⟨a, b, rfl⟩ : ∃ (a : Fin 256) (b : Fin 1152), y = ix2 a b := ⟨y 0, y 1, eq_ix2 y⟩
  have he : ((cfg0.win 4).blk t).view.emb (ix2 a b) = (ix2 a ⟨t.val / 9 * 1152 + b.val, by omega⟩ : S256x1152.Idx) := by
    refine Shape.idx_ext₂ ((win0_4.rect_emb_val_off t (ix2 a b) 0).trans ?_) ((win0_4.rect_emb_val_off t (ix2 a b) 1).trans ?_)
    · rw [(idx t).2.2.2.2.1]; exact (congrArg (· + _) (Nat.zero_mul _)).trans (Nat.zero_add _)
    · rw [(idx t).2.2.2.2.1]; rfl
  rw [he, paySample_at]
  refine Eq.trans (Finset.sum_congr rfl fun k _ => ?_) (refSample_at _ _ a _ (by show 5120 + (_ + _) < 10368; omega)).symm
  rw [read_weight m c t k b (by omega), read_sample m c t a k, V_sample]
  rfl

theorem final_sample (c : Dev nD) : (dats m 0 c).arrAt 4 (cfgs 0).N
    = refSample (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after_4]
  exact point_sample m c t y

end Cert.InProj.Lz

end
-- ==== Proof.LzProj.Pair.lean ====
/- The main projection against its reference: both programs end with the two products, and leave their arguments alone. -/
module

public import proofs.«01_k».proof.Defs
public import proofs.«01_k».proof.Proof.Gen.Kernel2
public import proofs.«01_k».proof.Proof.LzProj.Value

@[expose] public section

set_option maxRecDepth 16384

noncomputable section

namespace Cert.InProj.Lz

open Idealize.ShloMosaic Idealize.SL.Sem

/-- The kernel as written and its idealization have one body table. -/
theorem table_eq : Cert.Kernel2.defs₀ (F := Bits) = Cert.Kernel2Ideal.defs₀ (F := Bits) := by
  unfold Cert.Kernel2.defs₀ Cert.Kernel2Ideal.defs₀
  refine congrArg Defs.onTc ?_
  funext l a
  match l, a with
  | 0, (t, s) => rfl

theorem defs_eq : Cert.Kernel2.defs (F := Bits) = Cert.Kernel2Ideal.defs (F := Bits) :=
  congrArg (Pipeline.defs Cert.Kernel2Ideal.pcfgs) table_eq

/-- The kernel as written, at the hardware's own floats: the run is stated for any float instance. -/
theorem frame_kernel : Cert.quiescent_Kernel2 := fun m ρ _ => by
  rw [defs_eq]
  exact Cert.InProj.Lz.frame (F := Bits) m ρ

/-- The reference ends with its counters at zero and its arguments as it found them. -/
theorem frame_reference : Cert.quiescent_Reference2Ideal := by
  intro m g _
  refine (θ_run Cert.Reference2Ideal.defs _ _).mono (fun r h => ⟨h, sem_eq_zero_of_no_sems (by decide) r.2⟩) ?_
  hlo_run

/-- Over the reals the projection's two results are the reference's. -/
theorem algebraic : Cert.algebraic_Kernel2Ideal_Reference2Ideal := by
  pair_intro
  · run_from Cert.InProj.Lz.run_arrays m g
  · hlo_run
    · exact (final_prompt m c).symm
    · rw [(hagree c).2.1, (hagree c).2.2.1]
      exact (final_sample m c).symm

end Cert.InProj.Lz

end
-- ==== Proof.GateProj.Body.lean ====
module

public import proofs.«01_k».proof.Proof.Gen.Kernel3Ideal.Skeleton
public import proofs.«01_k».proof.Proof.Gen.Kernel3Ideal.Frame
public import Idealize.ShloMosaic.Lib.Pipeline.ValueKit
public import Idealize.ShloMosaic.Lib.VecWindow

@[expose] public section

set_option maxRecDepth 16384

noncomputable section

namespace Cert.InProj.Gate

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat)

variable {F : FTy → Type} [FloatOps F]

local notation "𝕄" => MT nD τ sig Unit (Elt F) ℕ (UR sig nD τ) ℕ

/-- The first branch is taken exactly at the first row step of a column tile. -/
theorem first_iff (t : Fin cfg0.N) : k0_cond1 (grid0.coords t) = 1#1 ↔ t.val % 9 = 0 :=
  (by decide +kernel : ∀ t : Fin grid0.N, k0_cond1 (grid0.coords t) = 1#1 ↔ t.val % 9 = 0) t

/-- The second branch is taken exactly at every other row step. -/
theorem later_iff (t : Fin cfg0.N) : k0_cond2 (grid0.coords t) = 1#1 ↔ ¬ t.val % 9 = 0 :=
  (by decide +kernel : ∀ t : Fin grid0.N, k0_cond2 (grid0.coords t) = 1#1 ↔ ¬ t.val % 9 = 0) t

set_option maxHeartbeats 1000000 in
/-- At the first row step of a column tile the body stores the weight tile into the scratch buffer, multiplies the
    sample rows by it, and leaves the prompt output alone. -/
theorem body_first (c : Dev nD) (i : grid0.Coords)
    (arg2 : Memref sig .tc .vmem S1024x2048 .bf16) (harg2 : arg2.IsWhole)
    (arg3 : Memref sig .tc .vmem S256x2048 .bf16) (harg3 : arg3.IsWhole)
    (arg4 : Memref sig .tc .vmem S2048x1024 .f32) (harg4 : arg4.IsWhole)
    (arg5 : Memref sig .tc .vmem S1024x1024 .bf16) (harg5 : arg5.IsWhole)
    (arg6 : Memref sig .tc .vmem S256x1024 .bf16) (harg6 : arg6.IsWhole)
    (arg7 : Memref sig .tc .vmem S2048x1024 .bf16) (harg7 : arg7.IsWhole)
    (h1 : k0_cond1 i = 1#1) (h2 : ¬ k0_cond2 i = 1#1)
    (x : Vec F S1024x2048 .bf16) (s : Vec F S256x2048 .bf16) (w : Vec F S2048x1024 .f32) (p : Vec F S1024x1024 .bf16)
    (K : PUnit → sProp 𝕄) :
    iprop(owns (c : Thread nD τ) arg2 fullShare x ∗ owns (c : Thread nD τ) arg3 fullShare s
        ∗ owns (c : Thread nD τ) arg4 fullShare w ∗ owns (c : Thread nD τ) arg5 fullShare p
        ∗ (∃ d, owns (c : Thread nD τ) arg6 fullShare d) ∗ (∃ d, owns (c : Thread nD τ) arg7 fullShare d)
        ∗ (iprop(owns (c : Thread nD τ) arg2 fullShare x ∗ owns (c : Thread nD τ) arg3 fullShare s
            ∗ owns (c : Thread nD τ) arg4 fullShare w ∗ owns (c : Thread nD τ) arg5 fullShare p
            ∗ owns (c : Thread nD τ) arg6 fullShare (k0_pay2 s (k0_pay1 w))
            ∗ owns (c : Thread nD τ) arg7 fullShare (k0_pay1 w)) -∗ K ⟨⟩))
      ⊢ wp frame (wpE (defs₀ (F := F)) Variants.none c none) Set.univ
          (cc0_in_proj i arg2 harg2 arg3 harg3 arg4 harg4 arg5 harg5 arg6 harg6 arg7 harg7) K := by
  rw [cc0_in_proj_eq_skeleton]; unfold cc0_in_proj_skel
  unfold owns
  iintro ⟨⟨%f2, %e2, A2⟩, ⟨%f3, %e3, A3⟩, ⟨%f4, %e4, A4⟩, ⟨%f5, %e5, A5⟩, ⟨%d6, %f6, -, A6⟩, ⟨%d7, %f7, -, A7⟩, Hk⟩
  obtain rfl := harg2.eq_unread e2; obtain rfl := harg3.eq_unread e3; obtain rfl := harg4.eq_unread e4
  obtain rfl := harg5.eq_unread e5
  sl_exec (disch := first | sl_exact h1 | sl_exact h2)
  sl_step
  iapply Hk
  isplitl [A2]
  · iexists _; isplitr; · ipureintro; exact harg2.read_unread _
    iexact A2
  isplitl [A3]
  · iexists _; isplitr; · ipureintro; exact harg3.read_unread _
    iexact A3
  isplitl [A4]
  · iexists _; isplitr; · ipureintro; exact harg4.read_unread _
    iexact A4
  isplitl [A5]
  · iexists _; isplitr; · ipureintro; exact harg5.read_unread _
    iexact A5
  isplitl [A6]
  · iexists _; isplitr; swap; · iexact A6
    ipureintro
    sl_unfold_words
    rw [View.read_writes_full, View.readCov_full, View.readAt_full, View.readAt_full, harg3.read_unread, harg4.read_unread]
  · iexists _; isplitr; swap; · iexact A7
    ipureintro
    sl_unfold_words
    rw [View.read_writes_full, View.readAt_full, harg4.read_unread]

set_option maxHeartbeats 1000000 in
/-- At every other row step the body multiplies the prompt rows by the weight tile the scratch buffer holds, and leaves
    everything else alone. -/
theorem body_later (c : Dev nD) (i : grid0.Coords)
    (arg2 : Memref sig .tc .vmem S1024x2048 .bf16) (harg2 : arg2.IsWhole)
    (arg3 : Memref sig .tc .vmem S256x2048 .bf16) (harg3 : arg3.IsWhole)
    (arg4 : Memref sig .tc .vmem S2048x1024 .f32) (harg4 : arg4.IsWhole)
    (arg5 : Memref sig .tc .vmem S1024x1024 .bf16) (harg5 : arg5.IsWhole)
    (arg6 : Memref sig .tc .vmem S256x1024 .bf16) (harg6 : arg6.IsWhole)
    (arg7 : Memref sig .tc .vmem S2048x1024 .bf16) (harg7 : arg7.IsWhole)
    (h1 : ¬ k0_cond1 i = 1#1) (h2 : k0_cond2 i = 1#1)
    (x : Vec F S1024x2048 .bf16) (s : Vec F S256x2048 .bf16) (w : Vec F S2048x1024 .f32)
    (q : Vec F S256x1024 .bf16) (wt : Vec F S2048x1024 .bf16)
    (K : PUnit → sProp 𝕄) :
    iprop(owns (c : Thread nD τ) arg2 fullShare x ∗ owns (c : Thread nD τ) arg3 fullShare s
        ∗ owns (c : Thread nD τ) arg4 fullShare w ∗ (∃ d, owns (c : Thread nD τ) arg5 fullShare d)
        ∗ owns (c : Thread nD τ) arg6 fullShare q ∗ owns (c : Thread nD τ) arg7 fullShare wt
        ∗ (iprop(owns (c : Thread nD τ) arg2 fullShare x ∗ owns (c : Thread nD τ) arg3 fullShare s
            ∗ owns (c : Thread nD τ) arg4 fullShare w ∗ owns (c : Thread nD τ) arg5 fullShare (k0_pay3 x wt)
            ∗ owns (c : Thread nD τ) arg6 fullShare q
            ∗ owns (c : Thread nD τ) arg7 fullShare wt) -∗ K ⟨⟩))
      ⊢ wp frame (wpE (defs₀ (F := F)) Variants.none c none) Set.univ
          (cc0_in_proj i arg2 harg2 arg3 harg3 arg4 harg4 arg5 harg5 arg6 harg6 arg7 harg7) K := by
  rw [cc0_in_proj_eq_skeleton]; unfold cc0_in_proj_skel
  unfold owns
  iintro ⟨⟨%f2, %e2, A2⟩, ⟨%f3, %e3, A3⟩, ⟨%f4, %e4, A4⟩, ⟨%d5, %f5, -, A5⟩, ⟨%f6, %e6, A6⟩, ⟨%f7, %e7, A7⟩, Hk⟩
  obtain rfl := harg2.eq_unread e2; obtain rfl := harg3.eq_unread e3; obtain rfl := harg4.eq_unread e4
  obtain rfl := harg6.eq_unread e6; obtain rfl := harg7.eq_unread e7
  sl_exec (disch := first | sl_exact h1 | sl_exact h2)
  sl_step
  iapply Hk
  isplitl [A2]
  · iexists _; isplitr; · ipureintro; exact harg2.read_unread _
    iexact A2
  isplitl [A3]
  · iexists _; isplitr; · ipureintro; exact harg3.read_unread _
    iexact A3
  isplitl [A4]
  · iexists _; isplitr; · ipureintro; exact harg4.read_unread _
    iexact A4
  isplitl [A5]
  · iexists _; isplitr; swap; · iexact A5
    ipureintro
    sl_unfold_words
    rw [View.read_writes_full, View.readAt_full, View.readAt_full, harg2.read_unread, harg7.read_unread]
  isplitl [A6]
  · iexists _; isplitr; · ipureintro; exact harg6.read_unread _
    iexact A6
  · iexists _; isplitr; · ipureintro; exact harg7.read_unread _
    iexact A7

end Cert.InProj.Gate

end
-- ==== Proof.GateProj.Run.lean ====
module

public import proofs.«01_k».proof.Proof.GateProj.Body

@[expose] public section

set_option maxRecDepth 16384

noncomputable section

namespace Cert.InProj.Gate

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The weight tile of point `t`'s column tile, rounded to bfloat16 as the scratch buffer holds it. -/
def tile (c : Dev nD) (t : Fin cfg0.N) : Vec F S2048x1024 .bf16 := k0_pay1 (iblk m c 2 t)

/-- What the scratch buffer holds before point `n`: nothing known before the first point, then the weight tile of the
    point just run. -/
def holdsTile (c : Dev nD) (n : ℕ) (d : Vec F S2048x1024 .bf16) : Prop :=
  ∀ t : Fin cfg0.N, t.val + 1 = n → d = tile m c t

/-- The proof data: each input's buffer keeps its block, the prompt output's ends at the product of the point's prompt
    rows and weight tile, the sample output's at the product of the sample rows and the weight tile; between points the
    scratch buffer holds the weight tile. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay3 (iblk m c 0 t) (tile m c t)
    | ⟨4, _⟩ => k0_pay2 (iblk m c 1 t) (tile m c t)
  Φ n := iprop((∃ d, ⌜holdsTile m c n.val d⌝ ∗ owns (c : Thread nD τ) (Memref.whole cc0_scratch0) fullShare d)
    ∗ (∃ r, prngReg c r))
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) :
    (dats m 0 c).after 3 t = k0_pay3 (iblk m c 0 t) (tile m c t) := by dsimp only [dats]
theorem after_4 (c : Dev nD) (t : Fin cfg0.N) :
    (dats m 0 c).after 4 t = k0_pay2 (iblk m c 1 t) (tile m c t) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-- The point before `t`. -/
abbrev prev (t : Fin cfg0.N) : Fin cfg0.N := ⟨t.val - 1, Nat.lt_of_le_of_lt (Nat.sub_le _ _) t.isLt⟩

theorem fetched_2 (c : Dev nD) (t : Fin cfg0.N) (d) : (dats m 0 c).fetched 2 t d = iblk m c 2 t := by
  unfold Dat.fetched Dat.blockOf iblk; rw [A_eq]; rfl
theorem fetched_1 (c : Dev nD) (t : Fin cfg0.N) (d) : (dats m 0 c).fetched 1 t d = iblk m c 1 t := by
  unfold Dat.fetched Dat.blockOf iblk; rw [A_eq]; rfl

/-- Within a column tile the weight block does not move. -/
theorem iblk_2_prev (c : Dev nD) (t : Fin cfg0.N) (h : ¬ t.val % 9 = 0) : iblk m c 2 t = iblk m c 2 (prev t) := by
  have hf : (cfg0.win 2).fetch t = false := by
    rw [← Bool.not_eq_true]; exact fun e => h ((fetch0_2 t).mp e)
  obtain ⟨ht, hix⟩ := (cfg0.win 2).index_eq_of_fetch rfl t hf
  have d : (cfg0.win 2).block.Idx → Elt F (cfg0.win 2).elt := iblk m c 2 t
  rw [← fetched_2 m c t d, ← fetched_2 m c (prev t) d]
  exact (dats m 0 c).fetched_congr 2 hix rfl d

/-- The sample rows' block never moves. -/
theorem iblk_1_prev (c : Dev nD) (t : Fin cfg0.N) (h : ¬ t.val % 9 = 0) : iblk m c 1 t = iblk m c 1 (prev t) := by
  have hN : t.val < 36 := lt_of_lt_of_eq t.isLt N_0
  have hf : (cfg0.win 1).fetch t = false := by
    rw [← Bool.not_eq_true]; exact fun e => h (by have := (fetch0_1 t).mp e; omega)
  obtain ⟨ht, hix⟩ := (cfg0.win 1).index_eq_of_fetch rfl t hf
  have d : (cfg0.win 1).block.Idx → Elt F (cfg0.win 1).elt := iblk m c 1 t
  rw [← fetched_1 m c t d, ← fetched_1 m c (prev t) d]
  exact (dats m 0 c).fetched_congr 1 hix rfl d

theorem tile_prev (c : Dev nD) (t : Fin cfg0.N) (h : ¬ t.val % 9 = 0) : tile m c t = tile m c (prev t) := by
  unfold tile; rw [iblk_2_prev m c t h]

/-! ## Where the outputs are idle -/

theorem idle_3 (t : Fin cfg0.N) : cfg0.idle 3 (grid0.coords t) = decide (t.val % 9 = 0) :=
  (by decide +kernel : ∀ t : Fin grid0.N, cfg0.idle 3 (grid0.coords t) = decide (t.val % 9 = 0)) t
theorem idle_4 (t : Fin cfg0.N) : cfg0.idle 4 (grid0.coords t) = !decide (t.val % 9 = 0) :=
  (by decide +kernel : ∀ t : Fin grid0.N, cfg0.idle 4 (grid0.coords t) = !decide (t.val % 9 = 0)) t
theorem flush_3 (t : Fin cfg0.N) : (cfg0.win 3).flush t = !decide (t.val % 9 = 0) :=
  (by decide +kernel : ∀ t : Fin grid0.N, win0_3.flush t = !decide (t.val % 9 = 0)) t

/-- After the first row step of a column tile, the sample output's buffer holds the sample product. -/
theorem before_4 (c : Dev nD) : ∀ (n : ℕ) (h : n < cfg0.N) (d), ¬ n % 9 = 0 →
    (dats m 0 c).before 4 ⟨n, h⟩ d = (dats m 0 c).after 4 ⟨n, h⟩
  | 0, _, _, h0 => absurd rfl h0
  | n + 1, h, d, h0 => by
    have hn : n < cfg0.N := Nat.lt_of_succ_lt h
    have hfl : (cfg0.win 4).flush ⟨n, hn⟩ = false := by
      rw [← Bool.not_eq_true]; exact fun e => h0 (by have : n % 9 = 8 := (flush0_4 ⟨n, hn⟩).mp e; omega)
    have hstep : (dats m 0 c).after 4 ⟨n + 1, h⟩ = (dats m 0 c).after 4 ⟨n, hn⟩ := by
      rw [after_4, after_4, tile_prev m c ⟨n + 1, h⟩ h0, iblk_1_prev m c ⟨n + 1, h⟩ h0]; rfl
    rw [(dats m 0 c).before_of_pos 4 ⟨n + 1, h⟩ (Nat.succ_ne_zero n) rfl d]
    simp only [Nat.add_sub_cancel]
    rw [hfl, if_neg Bool.false_ne_true, hstep]
    unfold Dat.left
    rw [idle_4 ⟨n, hn⟩]
    by_cases hz : n % 9 = 0
    · simp only [hz, decide_true, Bool.not_true]; rfl
    · simp only [hz, decide_false, Bool.not_false]; exact before_4 c n hn d hz

/-! ## The body at every point -/

theorem leaves_in0 (c : Dev nD) (t : Fin cfg0.N) : (dats m 0 c).leavesExact 0 t
    = owns (c : Thread nD τ) (st0_0 t) fullShare (iblk m c 0 t) := by
  unfold Dat.leavesExact; rw [show cfg0.idle 0 (cfg0.grid.coords t) = false from rfl, after_0]
theorem leaves_in1 (c : Dev nD) (t : Fin cfg0.N) : (dats m 0 c).leavesExact 1 t
    = owns (c : Thread nD τ) (st0_1 t) fullShare (iblk m c 1 t) := by
  unfold Dat.leavesExact; rw [show cfg0.idle 1 (cfg0.grid.coords t) = false from rfl, after_1]
theorem leaves_in2 (c : Dev nD) (t : Fin cfg0.N) : (dats m 0 c).leavesExact 2 t
    = owns (c : Thread nD τ) (st0_2 t) fullShare (iblk m c 2 t) := by
  unfold Dat.leavesExact; rw [show cfg0.idle 2 (cfg0.grid.coords t) = false from rfl, after_2]

theorem leaves3_first (c : Dev nD) (t : Fin cfg0.N) (h : t.val % 9 = 0) : (dats m 0 c).leavesExact 3 t
    = iprop(∃ d, owns (c : Thread nD τ) (st0_3 t) fullShare ((dats m 0 c).before 3 t d)) :=
  (dats m 0 c).leavesExact_idle 3 t ((idle_3 t).trans (decide_eq_true h))
    ((flush_3 t).trans (by rw [decide_eq_true h]; rfl))
theorem leaves3_later (c : Dev nD) (t : Fin cfg0.N) (h : ¬ t.val % 9 = 0) : (dats m 0 c).leavesExact 3 t
    = owns (c : Thread nD τ) (st0_3 t) fullShare ((dats m 0 c).after 3 t) := by
  unfold Dat.leavesExact; rw [(idle_3 t).trans (decide_eq_false h)]
theorem leaves4_first (c : Dev nD) (t : Fin cfg0.N) (h : t.val % 9 = 0) : (dats m 0 c).leavesExact 4 t
    = owns (c : Thread nD τ) (st0_4 t) fullShare ((dats m 0 c).after 4 t) := by
  have hi : cfg0.idle 4 (cfg0.grid.coords t) = false := (idle_4 t).trans (by rw [decide_eq_true h]; rfl)
  unfold Dat.leavesExact; rw [hi]
theorem leaves4_later (c : Dev nD) (t : Fin cfg0.N) (h : ¬ t.val % 9 = 0) :
    owns (c : Thread nD τ) (st0_4 t) fullShare ((dats m 0 c).after 4 t) ⊢ ((dats m 0 c).leavesExact 4 t : sProp 𝕄) := by
  have hi : cfg0.idle 4 (cfg0.grid.coords t) = true := (idle_4 t).trans (by rw [decide_eq_false h]; rfl)
  unfold Dat.leavesExact; rw [hi]
  cases (cfg0.win 4).flush t
  · rw [← before_4 m c t.val t.isLt ((dats m 0 c).after 4 t) h]
    iintro H; iexists ((dats m 0 c).after 4 t); iexact H
  · exact .rfl

/-- What the body is called with at a point, the windows one by one. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- What the body returns at a point. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

theorem Φ_eq (c : Dev nD) (n : Fin (cfg0.N + 1)) : (dats m 0 c).Φ n
    = iprop((∃ d, ⌜holdsTile m c n.val d⌝ ∗ owns (c : Thread nD τ) (Memref.whole cc0_scratch0) fullShare d)
        ∗ (∃ r, prngReg c r)) := by dsimp only [dats]

/-- After point `t` the scratch buffer holds point `t`'s weight tile. -/
theorem holdsTile_succ (c : Dev nD) (t : Fin cfg0.N) : holdsTile m c (t.val + 1) (tile m c t) := fun t' h => by
  rw [show t' = t from Fin.ext (by omega)]

set_option maxHeartbeats 800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).owesAt () t.succ = (dats m 0 c).owesAt () t.castSucc from rfl, Φ_eq, Φ_eq,
    leaves_in0, leaves_in1, leaves_in2, Fin.val_succ, Fin.val_castSucc]
  by_cases h0 : t.val % 9 = 0
  · rw [leaves3_first m c t h0, leaves4_first m c t h0, after_4]
    iintro ⟨⟨⟨%ds, -, HS⟩, Hg⟩, Ho, ⟨%d0, H0⟩, ⟨%d1, H1⟩, ⟨%d2, H2⟩, ⟨%d3, H3⟩, ⟨%d4, H4⟩⟩
    iapply (body_first c (grid0.coords t) _ _ _ _ _ _ _ _ _ _ _ _ ((first_iff t).mpr h0)
      (fun h => (later_iff t).mp h h0) (iblk m c 0 t) (iblk m c 1 t) (iblk m c 2 t) ((dats m 0 c).before 3 t d3) _)
    isplitl [H0]; · iexact H0
    isplitl [H1]; · iexact H1
    isplitl [H2]; · iexact H2
    isplitl [H3]; · iexact H3
    isplitl [H4]; · iexists _; iexact H4
    isplitl [HS]; · iexists _; iexact HS
    iintro ⟨H0, H1, H2, H3, H4, HS⟩
    isplitl [HS Hg]
    · isplitl [HS]
      · iexists (tile m c t)
        isplitr; · ipureintro; exact holdsTile_succ m c t
        iexact HS
      iexact Hg
    isplitl [Ho]; · iexact Ho
    isplitl [H0]; · iexact H0
    isplitl [H1]; · iexact H1
    isplitl [H2]; · iexact H2
    isplitl [H3]; · iexists _; iexact H3
    iexact H4
  · rw [leaves3_later m c t h0, after_3]
    iintro ⟨⟨⟨%ds, %hs, HS⟩, Hg⟩, Ho, ⟨%d0, H0⟩, ⟨%d1, H1⟩, ⟨%d2, H2⟩, ⟨%d3, H3⟩, ⟨%d4, H4⟩⟩
    have hds : ds = tile m c t := by
      rw [tile_prev m c t h0]; exact hs (prev t) (by show t.val - 1 + 1 = t.val; omega)
    subst hds
    rw [before_4 m c t.val t.isLt d4 h0]
    iapply (body_later c (grid0.coords t) _ _ _ _ _ _ _ _ _ _ _ _ (fun h => h0 ((first_iff t).mp h))
      ((later_iff t).mpr h0) (iblk m c 0 t) (iblk m c 1 t) (iblk m c 2 t) ((dats m 0 c).after 4 t) (tile m c t) _)
    isplitl [H0]; · iexact H0
    isplitl [H1]; · iexact H1
    isplitl [H2]; · iexact H2
    isplitl [H3]; · iexists _; iexact H3
    isplitl [H4]; · iexact H4
    isplitl [HS]; · iexact HS
    iintro ⟨H0, H1, H2, H3, H4, HS⟩
    isplitl [HS Hg]
    · isplitl [HS]
      · iexists (tile m c t)
        isplitr; · ipureintro; exact holdsTile_succ m c t
        iexact HS
      iexact Hg
    isplitl [Ho]; · iexact Ho
    isplitl [H0]; · iexact H0
    isplitl [H1]; · iexact H1
    isplitl [H2]; · iexact H2
    isplitl [H3]; · iexact H3
    iapply (leaves4_later m c t h0); iexact H4

theorem body_row (t : Fin cfg0.N) :
    defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ := fun t => by
  rw [bigSep_W0, bigSep_W0, body_row]
  exact triple_restated (sound_body m c t) rfl .rfl fun _ => .rfl

/-- The buffers the kernel keeps beside its windows: the scratch buffer at some contents and the generator register. -/
theorem kept_eq (c : Dev nD) : (Pipeline.ΦA spec0 c : sProp 𝕄)
    = iprop((∃ d, owns (c : Thread nD τ) (Memref.whole cc0_scratch0) fullShare d) ∗ (∃ r, prngReg c r)) := by
  unfold Pipeline.ΦA; rw [scopedRest0_eq]; simp only [owns_whole]; try rfl

theorem Φ_first (c : Dev nD) : (Pipeline.ΦA spec0 c : sProp 𝕄) ⊢ (dats m 0 c).Φ 0 := by
  rw [kept_eq, Φ_eq]
  iintro ⟨⟨%d, H⟩, Hg⟩
  isplitl [H]
  · iexists d
    isplitr; · ipureintro; exact fun t h => absurd h (Nat.succ_ne_zero _)
    iexact H
  iexact Hg

theorem Φ_last (c : Dev nD) : (dats m 0 c).Φ (Fin.last cfg0.N) ⊢ (Pipeline.ΦA spec0 c : sProp 𝕄) := by
  rw [kept_eq, Φ_eq]
  iintro ⟨⟨%d, -, H⟩, Hg⟩
  isplitl [H]; · iexists d; iexact H
  iexact Hg

set_option backward.isDefEq.respectTransparency.types false in
/-- The run: every execution ends with each array the windows stage at what the write-backs left there, every other
    array as the region found it, and every counter at zero. -/
theorem run_main : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := Φ_first m) (hout := Φ_last m)

/-- The same run, told of the arrays alone. -/
theorem run_arrays : θ_run defs (onTc (τ := τ) (main (F := F))) (s₀ m ρ) (Pipeline.FramePost cfgs (dats m) 0 (V m)) :=
  (θ_run defs _ _).mono (fun _ h => h.1) (run_main m ρ)

/-- The arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_arrays m ρ))
    ((θ_run defs _ _).mono (fun _ h => h.2) (run_main m ρ))

end Cert.InProj.Gate

end
-- ==== Proof.InProj.Logistic.lean ====
/- The logistic function written with a hyperbolic tangent, over the extended reals. -/
module

public import Idealize.ShloMosaic.Lib.Pointwise
public import Idealize.ShloMosaic.Lib.IdealHost

@[expose] public section

namespace Cert.InProj

open Idealize.ShloMosaic

/-- The bit pattern of one half denotes one half. -/
theorem ofBits_half : Ideal.ofBits .f32 0x3F000000#32 = ((1 / 2 : ℝ) : EReal) := by
  simp [Ideal.ofBits, Ideal.ieee, -EReal.coe_mul]
  norm_num

theorem real_half_tanh (r : ℝ) : 1 / 2 * Real.tanh (1 / 2 * r) + 1 / 2 = (1 + Real.exp (-r))⁻¹ := by
  have h1 := Real.exp_pos (1 / 2 * r)
  have h2 : Real.exp (-r) = Real.exp (-(1 / 2 * r)) * Real.exp (-(1 / 2 * r)) := by
    rw [← Real.exp_add]; congr 1; ring
  have h3 : Real.exp (1 / 2 * r) * Real.exp (-(1 / 2 * r)) = 1 := by
    rw [← Real.exp_add, add_neg_cancel, Real.exp_zero]
  rw [Real.tanh_eq, h2]
  have h4 := Real.exp_pos (-(1 / 2 * r))
  generalize Real.exp (1 / 2 * r) = a at *
  generalize Real.exp (-(1 / 2 * r)) = b at *
  have hb : b = a⁻¹ := by field_simp; linarith
  subst hb
  field_simp
  ring

/-- Half the hyperbolic tangent of half the argument, plus a half, is the logistic function, at the infinities too. -/
theorem half_tanh (x : EReal) : ((1 / 2 : ℝ) : EReal) * Ideal.tanh (((1 / 2 : ℝ) : EReal) * x) + ((1 / 2 : ℝ) : EReal)
    = Ideal.div 1 (1 + Ideal.exp (-x)) := by
  have hp : (0 : ℝ) < 1 / 2 := by norm_num
  induction x with
  | bot =>
    rw [EReal.coe_mul_bot_of_pos hp, EReal.neg_bot]
    show ((1 / 2 : ℝ) : EReal) * (-1) + _ = Ideal.div 1 (1 + ⊤)
    have e : (1 : EReal) + ⊤ = ⊤ := rfl
    unfold Ideal.div
    rw [e, if_neg (by decide), EReal.inv_top, mul_zero, mul_neg, mul_one, ← EReal.coe_neg, ← EReal.coe_add]
    norm_num
  | top =>
    rw [EReal.coe_mul_top_of_pos hp, EReal.neg_top]
    show ((1 / 2 : ℝ) : EReal) * 1 + _ = Ideal.div 1 (1 + 0)
    unfold Ideal.div
    rw [add_zero, if_neg one_ne_zero, mul_one, ← EReal.coe_add, one_mul]
    have e : (1 : EReal)⁻¹ = 1 := by rw [← EReal.coe_one, ← EReal.coe_inv, inv_one]
    rw [e]
    norm_num
  | coe r =>
    have hq : (1 + Real.exp (-r)) ≠ 0 := by positivity
    rw [← EReal.coe_mul, ← EReal.coe_neg]
    show ((1 / 2 : ℝ) : EReal) * ((Real.tanh (1 / 2 * r) : ℝ) : EReal) + _ = Ideal.div 1 (1 + ((Real.exp (-r) : ℝ) : EReal))
    rw [← EReal.coe_mul, ← EReal.coe_add, real_half_tanh]
    unfold Ideal.div
    have e1 : (1 : EReal) + ((Real.exp (-r) : ℝ) : EReal) = ((1 + Real.exp (-r) : ℝ) : EReal) := by
      rw [EReal.coe_add, EReal.coe_one]
    rw [e1, if_neg (by exact_mod_cast hq), one_mul, EReal.coe_inv]

end Cert.InProj
-- ==== Proof.GateProj.Value.lean ====
module

public import proofs.«01_k».proof.Proof.GateProj.Run
public import proofs.«01_k».proof.Proof.InProj.Common
public import proofs.«01_k».proof.Proof.InProj.Logistic
public import proofs.«01_k».proof.Proof.Gen.Reference3Ideal
public import Idealize.ShloMosaic.Lib.StableHlo.Run
public import Idealize.ShloMosaic.Lib.Pointwise
public import Idealize.ShloMosaic.Lib.Claim

@[expose] public section

set_option maxRecDepth 16384

noncomputable section

namespace Cert.InProj.Gate

open Cert.Kernel3Ideal Cert.Kernel3Ideal.Gen
open Idealize.ShloMosaic Idealize.ShloMosaic.TcCoe Idealize.SL.Sem
open Idealize.ShloMosaic.Pipeline (Dat)

variable (m : (ℓ : Loc nD τ sig) → Buf (Elt Ideal) ℓ)

/-- The weight columns the reference multiplies by. -/
abbrev refW (W : FVec Ideal Cert.Reference3Ideal.S1x2048x10368 .f32) : FVec Ideal Cert.Reference3Ideal.S2048x4096 .f32 :=
  shapeCast Cert.Reference3Ideal.S2048x4096
    (extractStridedSlice Cert.Reference3Ideal.S1x2048x4096 ![0, 0, 6272] W Cert.Reference3Ideal.Gen.slices_S1x2048x10368_S1x2048x4096_0_0_6272)
    Cert.Reference3Ideal.Gen.shapeCasts_S1x2048x4096_S2048x4096

/-- The reference's prompt product, before the logistic function. -/
abbrev prePrompt (X : FVec Ideal Cert.Reference3Ideal.S4x2048x2048 .bf16) (W : FVec Ideal Cert.Reference3Ideal.S1x2048x10368 .f32) :
    FVec Ideal Cert.Reference3Ideal.S8192x4096 .f32 :=
  Host.dotGeneral Cert.Reference3Ideal.dot_S8192x2048_S2048x4096_S8192x4096_1_0_0_1_n_n none
    (shapeCast Cert.Reference3Ideal.S8192x2048 (extf .f32 X Cert.Reference3Ideal.Gen.bitsLt_bf16_f32)
      Cert.Reference3Ideal.Gen.shapeCasts_S4x2048x2048_S8192x2048) (refW W)

/-- The reference's sample product, before the logistic function. -/
abbrev preSample (X : FVec Ideal Cert.Reference3Ideal.S128x2048 .f32) (S : FVec Ideal Cert.Reference3Ideal.S1x128x2048 .f32)
    (W : FVec Ideal Cert.Reference3Ideal.S1x2048x10368 .f32) : FVec Ideal Cert.Reference3Ideal.S256x4096 .f32 :=
  Host.dotGeneral Cert.Reference3Ideal.dot_S256x2048_S2048x4096_S256x4096_1_0_0_1_n_n none
    (concatenate Cert.Reference3Ideal.S256x2048 0 [⟨Cert.Reference3Ideal.S128x2048, X⟩,
      ⟨Cert.Reference3Ideal.S128x2048, shapeCast Cert.Reference3Ideal.S128x2048 S Cert.Reference3Ideal.Gen.shapeCasts_S1x128x2048_S128x2048⟩]
      Cert.Reference3Ideal.Gen.concatenates_S128x2048_S128x2048_S256x2048_d0) (refW W)

/-- The reference's logistic function of a prompt array. -/
abbrev gatePrompt (P : FVec Ideal Cert.Reference3Ideal.S8192x4096 .f32) : FVec Ideal Cert.Reference3Ideal.S8192x4096 .bf16 :=
  truncf .bf16 (Host.divf
    (broadcastInDim Cert.Reference3Ideal.S8192x4096 ![] Cert.Reference3Ideal.Gen.bcast_S_S8192x4096
      (constant Cert.Reference3Ideal.S_ .f32 0x3F800000#32))
    (addf (broadcastInDim Cert.Reference3Ideal.S8192x4096 ![] Cert.Reference3Ideal.Gen.bcast_S_S8192x4096
      (constant Cert.Reference3Ideal.S_ .f32 0x3F800000#32)) (Host.exp (Host.negf P)))) Cert.Reference3Ideal.Gen.bitsLt_bf16_f32

/-- The reference's logistic function of a sample array. -/
abbrev gateSample (P : FVec Ideal Cert.Reference3Ideal.S256x4096 .f32) : FVec Ideal Cert.Reference3Ideal.S256x4096 .bf16 :=
  truncf .bf16 (Host.divf
    (broadcastInDim Cert.Reference3Ideal.S256x4096 ![] Cert.Reference3Ideal.Gen.bcast_S_S256x4096
      (constant Cert.Reference3Ideal.S_ .f32 0x3F800000#32))
    (addf (broadcastInDim Cert.Reference3Ideal.S256x4096 ![] Cert.Reference3Ideal.Gen.bcast_S_S256x4096
      (constant Cert.Reference3Ideal.S_ .f32 0x3F800000#32)) (Host.exp (Host.negf P)))) Cert.Reference3Ideal.Gen.bitsLt_bf16_f32

/-- The reference's prompt gates. -/
abbrev refPrompt (X : FVec Ideal Cert.Reference3Ideal.S4x2048x2048 .bf16) (W : FVec Ideal Cert.Reference3Ideal.S1x2048x10368 .f32) :
    FVec Ideal Cert.Reference3Ideal.S8192x4096 .bf16 := gatePrompt (prePrompt X W)

/-- The reference's sample gates. -/
abbrev refSample (X : FVec Ideal Cert.Reference3Ideal.S128x2048 .f32) (S : FVec Ideal Cert.Reference3Ideal.S1x128x2048 .f32)
    (W : FVec Ideal Cert.Reference3Ideal.S1x2048x10368 .f32) : FVec Ideal Cert.Reference3Ideal.S256x4096 .bf16 :=
  gateSample (preSample X S W)

/-- The logistic function at an element. -/
theorem gatePrompt_at (P : FVec Ideal Cert.Reference3Ideal.S8192x4096 .f32) (a : Fin 8192) (n : Fin 4096) :
    gatePrompt P (ix2 a n) = Ideal.div 1 (1 + Ideal.exp (-P (ix2 a n))) := by
  pointwise [gatePrompt]

theorem gateSample_at (P : FVec Ideal Cert.Reference3Ideal.S256x4096 .f32) (a : Fin 256) (n : Fin 4096) :
    gateSample P (ix2 a n) = Ideal.div 1 (1 + Ideal.exp (-P (ix2 a n))) := by
  pointwise [gateSample]

/-- The kernel's prompt gate at a row and a column. -/
theorem payPrompt_at (L : Vec Ideal S1024x2048 .bf16) (W : Vec Ideal S2048x1024 .f32) (a : Fin 1024) (b : Fin 1024) :
    k0_pay3 L (k0_pay1 W) (ix2 a b) = Ideal.div 1 (1 + Ideal.exp (-∑ k : Fin 2048, L (ix2 a k) * W (ix2 k b))) := by
  rw [← half_tanh, ← ofBits_half]
  pointwise [k0_pay3, k0_pay1]

/-- Every window's index at a point. -/
theorem idx : ∀ t : Fin cfg0.N, win0_0.index t = ![t.val % 9 - 1, 0] ∧ win0_1.index t = ![0, 0]
    ∧ win0_2.index t = ![0, t.val / 9 * 1024 + 6272] ∧ win0_3.index t = ![t.val % 9 - 1, t.val / 9]
    ∧ win0_4.index t = ![0, t.val / 9] ∧ t.val / 9 < 4 :=
  (by decide +kernel : ∀ t : Fin grid0.N, _)

/-- The weight array the windows read is the layer's weight, its leading unit axis dropped. -/
theorem V_weight (c : Dev nD) : V m c main_v0
    = shapeCast S2048x10368 (m ((c : Thread nD τ).loc main_arg3)) shapeCasts_S1x2048x10368_S2048x10368 := by
  entry_read; rfl

/-- The prompt rows the windows read are the prompt array, its two leading axes joined. -/
theorem V_prompt (c : Dev nD) : V m c main_v4
    = shapeCast S8192x2048 (m ((c : Thread nD τ).loc main_arg0)) shapeCasts_S4x2048x2048_S8192x2048 := by
  entry_read; rfl

/-- The element of the weight block at row `k`, column `b`. -/
theorem read_weight (c : Dev nD) (t : Fin cfg0.N) (k : Fin 2048) (b : Fin 1024) (h : 6272 + (t.val / 9 * 1024 + b.val) < 10368) :
    iblk m c 2 t (ix2 k b) = m ((c : Thread nD τ).loc main_arg3) (ix3 0 k ⟨6272 + (t.val / 9 * 1024 + b.val), h⟩) := by
  have he : ((cfg0.win 2).blk t).view.emb (ix2 k b) = (ix2 k ⟨6272 + (t.val / 9 * 1024 + b.val), h⟩ : S2048x10368.Idx) := by
    refine Shape.idx_ext₂ ((win0_2.rect_emb_val_off t (ix2 k b) 0).trans ?_) ((win0_2.rect_emb_val_off t (ix2 k b) 1).trans ?_)
    · rw [(idx t).2.2.1]; exact Nat.zero_add _
    · rw [(idx t).2.2.1]; show t.val / 9 * 1024 + 6272 + b.val = 6272 + (t.val / 9 * 1024 + b.val); omega
  unfold iblk
  rw [View.read_apply, he]
  exact (congrFun (V_weight m c) _).trans (dropUnit_at _ _ _ _)

/-- The element of the prompt block at row `a`, column `k`. -/
theorem read_prompt (c : Dev nD) (t : Fin cfg0.N) (a : Fin 1024) (k : Fin 2048) (h : (t.val % 9 - 1) * 1024 + a.val < 8192) :
    iblk m c 0 t (ix2 a k) = m ((c : Thread nD τ).loc main_arg0)
      (ix3 ⟨((t.val % 9 - 1) * 1024 + a.val) / 2048, by omega⟩ ⟨((t.val % 9 - 1) * 1024 + a.val) % 2048, by omega⟩ k) := by
  have he : ((cfg0.win 0).blk t).view.emb (ix2 a k) = (ix2 ⟨(t.val % 9 - 1) * 1024 + a.val, h⟩ k : S8192x2048.Idx) := by
    refine Shape.idx_ext₂ ((win0_0.rect_emb_val_off t (ix2 a k) 0).trans ?_) ((win0_0.rect_emb_val_off t (ix2 a k) 1).trans ?_)
    · rw [(idx t).1]; rfl
    · rw [(idx t).1]; exact (congrArg (· + _) (Nat.zero_mul _)).trans (Nat.zero_add _)
  unfold iblk
  rw [View.read_apply, he]
  exact (congrFun (V_prompt m c) _).trans (joinRows_at _ _ _ _ _ _)

theorem point_prompt (c : Dev nD) (t : Fin cfg0.N) (y) : k0_pay3 (iblk m c 0 t) (tile m c t) y
    = refPrompt (m ((c : Thread nD τ).loc main_arg0)) (m ((c : Thread nD τ).loc main_arg3)) (((cfg0.win 3).blk t).view.emb y) := by
  unfold tile
  have ht := (idx t).2.2.2.2.2
  obtain ⟨a, b, rfl⟩ : ∃ (a : Fin 1024) (b : Fin 1024), y = ix2 a b := ⟨y 0, y 1, eq_ix2 y⟩
  have he : ((cfg0.win 3).blk t).view.emb (ix2 a b)
      = (ix2 ⟨(t.val % 9 - 1) * 1024 + a.val, by omega⟩ ⟨t.val / 9 * 1024 + b.val, by omega⟩ : S8192x4096.Idx) := by
    refine Shape.idx_ext₂ ((win0_3.rect_emb_val_off t (ix2 a b) 0).trans ?_) ((win0_3.rect_emb_val_off t (ix2 a b) 1).trans ?_)
    · rw [(idx t).2.2.2.1]; rfl
    · rw [(idx t).2.2.2.1]; rfl
  rw [he, payPrompt_at]
  refine Eq.trans (congrArg (fun z => Ideal.div 1 (1 + Ideal.exp (-z))) ?_) (gatePrompt_at _ _ _).symm
  pointwise [prePrompt, refW]
  refine Finset.sum_congr rfl fun k _ => ?_
  rw [read_weight m c t k b (by omega), read_prompt m c t a k (by omega)]

theorem final_prompt (c : Dev nD) : (dats m 0 c).arrAt 3 (cfgs 0).N
    = refPrompt (m ((c : Thread nD τ).loc main_arg0)) (m ((c : Thread nD τ).loc main_arg3)) := by
  refine (dats m 0 c).arrAt_eq_of_covers 3 _ (by decide +kernel) fun t _ y => ?_
  blk_simp
  rw [after_3]
  exact point_prompt m c t y

/-- The sample rows: the current ones over the carried ones. -/
abbrev rows (X : FVec Ideal S128x2048 .f32) (S : FVec Ideal S1x128x2048 .f32) : FVec Ideal S256x2048 .f32 :=
  concatenate S256x2048 0 [⟨S128x2048, X⟩, ⟨S128x2048, shapeCast S128x2048 S shapeCasts_S1x128x2048_S128x2048⟩]
    concatenates_S128x2048_S128x2048_S256x2048_d0

/-- The array of sample rows the windows read. -/
theorem V_sample (c : Dev nD) : V m c main_v3
    = truncf (F := Ideal) .bf16 (rows (m ((c : Thread nD τ).loc main_arg1)) (m ((c : Thread nD τ).loc main_arg2))) bitsLt_bf16_f32 := by
  entry_read; rfl

/-- The sample block is the whole array. -/
theorem read_sample (c : Dev nD) (t : Fin cfg0.N) (a : Fin 256) (k : Fin 2048) :
    iblk m c 1 t (ix2 a k) = V m c main_v3 (ix2 a k) := by
  have he : ((cfg0.win 1).blk t).view.emb (ix2 a k) = (ix2 a k : S256x2048.Idx) := by
    refine Shape.idx_ext₂ ((win0_1.rect_emb_val_off t (ix2 a k) 0).trans ?_) ((win0_1.rect_emb_val_off t (ix2 a k) 1).trans ?_)
    · rw [(idx t).2.1]; exact (congrArg (· + _) (Nat.zero_mul _)).trans (Nat.zero_add _)
    · rw [(idx t).2.1]; exact (congrArg (· + _) (Nat.zero_mul _)).trans (Nat.zero_add _)
  unfold iblk
  rw [View.read_apply, he]
  rfl

/-- The reference's product at a row and a column, whatever the rows. -/
theorem refSample_at (L : FVec Ideal Cert.Reference3Ideal.S256x2048 .f32) (W : FVec Ideal Cert.Reference3Ideal.S1x2048x10368 .f32)
    (a : Fin 256) (n : Fin 4096) (h : 6272 + n.val < 10368) :
    Host.dotGeneral Cert.Reference3Ideal.dot_S256x2048_S2048x4096_S256x4096_1_0_0_1_n_n none L (refW W) (ix2 a n)
      = ∑ k : Fin 2048, L (ix2 a k) * W (ix3 0 k ⟨6272 + n.val, h⟩) := by
  pointwise [refW]

/-- The kernel's sample gate at a row and a column. -/
theorem paySample_at (L : Vec Ideal S256x2048 .bf16) (W : Vec Ideal S2048x1024 .f32) (a : Fin 256) (b : Fin 1024) :
    k0_pay2 L (k0_pay1 W) (ix2 a b) = Ideal.div 1 (1 + Ideal.exp (-∑ k : Fin 2048, L (ix2 a k) * W (ix2 k b))) := by
  rw [← half_tanh, ← ofBits_half]
  pointwise [k0_pay2, k0_pay1]

theorem point_sample (c : Dev nD) (t : Fin cfg0.N) (y) : k0_pay2 (iblk m c 1 t) (tile m c t) y
    = refSample (m ((c : Thread nD τ).loc main_arg1)) (m ((c : Thread nD τ).loc main_arg2)) (m ((c : Thread nD τ).loc main_arg3))
        (((cfg0.win 4).blk t).view.emb y) := by
  unfold tile
  have ht := (idx t).2.2.2.2.2
  obtain ⟨a, b, rfl⟩ : ∃ (a : Fin 256) (b : Fin 1024), y = ix2 a b := ⟨y 0, y 1, eq_ix2 y⟩
  have he : ((cfg0.win 4).blk t).view.emb (ix2 a b) = (ix2 a ⟨t.val / 9 * 1024 + b.val, by omega⟩ : S256x4096.Idx) := by
    refine Shape.idx_ext₂ ((win0_4.rect_emb_val_off t (ix2 a b) 0).trans ?_) ((win0_4.rect_emb_val_off t (ix2 a b) 1).trans ?_)
    · rw [(idx t).2.2.2.2.1]; exact (congrArg (· + _) (Nat.zero_mul _)).trans (Nat.zero_add _)
    · rw [(idx t).2.2.2.2.1]; rfl
  rw [he, paySample_at]
  refine Eq.trans (congrArg (fun z => Ideal.div 1 (1 + Ideal.exp (-z))) ?_) (gateSample_at _ _ _).symm
  refine Eq.trans (Finset.sum_congr rfl fun k _ => ?_) (refSample_at _ _ a _ (by show 6272 + (_ + _) < 10368; omega)).symm
  rw [read_weight m c t k b (by omega), read_sample m c t a k, V_sample]
  rfl

theorem final_sample (c : Dev nD) : (dats m 0 c).arrAt 4 (cfgs 0).N
    = refSample (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after_4]
  exact point_sample m c t y

end Cert.InProj.Gate

end
-- ==== Proof.GateProj.Pair.lean ====
/- The main projection against its reference: both programs end with the two products, and leave their arguments alone. -/
module

public import proofs.«01_k».proof.Defs
public import proofs.«01_k».proof.Proof.Gen.Kernel3
public import proofs.«01_k».proof.Proof.GateProj.Value

@[expose] public section

set_option maxRecDepth 16384

noncomputable section

namespace Cert.InProj.Gate

open Idealize.ShloMosaic Idealize.SL.Sem

/-- The kernel as written and its idealization have one body table. -/
theorem table_eq : Cert.Kernel3.defs₀ (F := Bits) = Cert.Kernel3Ideal.defs₀ (F := Bits) := by
  unfold Cert.Kernel3.defs₀ Cert.Kernel3Ideal.defs₀
  refine congrArg Defs.onTc ?_
  funext l a
  match l, a with
  | 0, (t, s) => rfl

theorem defs_eq : Cert.Kernel3.defs (F := Bits) = Cert.Kernel3Ideal.defs (F := Bits) :=
  congrArg (Pipeline.defs Cert.Kernel3Ideal.pcfgs) table_eq

/-- The kernel as written, at the hardware's own floats: the run is stated for any float instance. -/
theorem frame_kernel : Cert.quiescent_Kernel3 := fun m ρ _ => by
  rw [defs_eq]
  exact Cert.InProj.Gate.frame (F := Bits) m ρ

/-- The reference ends with its counters at zero and its arguments as it found them. -/
theorem frame_reference : Cert.quiescent_Reference3Ideal := by
  intro m g _
  refine (θ_run Cert.Reference3Ideal.defs _ _).mono (fun r h => ⟨h, sem_eq_zero_of_no_sems (by decide) r.2⟩) ?_
  hlo_run

/-- Over the reals the projection's two results are the reference's. -/
theorem algebraic : Cert.algebraic_Kernel3Ideal_Reference3Ideal := by
  pair_intro
  · run_from Cert.InProj.Gate.run_arrays m g
  · hlo_run
    · exact (final_prompt m c).symm
    · rw [(hagree c).2.1, (hagree c).2.2.1]
      exact (final_sample m c).symm

end Cert.InProj.Gate

end
-- ==== Proof.Norm.Run.lean ====
/- One run of the modulation and the three norms: where every array ends. -/
module

public import proofs.«01_k».proof.Proof.Gen.Kernel4Ideal
public import proofs.«01_k».proof.Proof.Gen.Kernel4Ideal.Frame

@[expose] public section

set_option maxRecDepth 16384

noncomputable section

namespace Cert.Norm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel4Ideal Cert.Kernel4Ideal.Gen

variable {F : FTy → Type} [FloatOps F]
variable (m : (ℓ : Loc nD τ sig) → Buf (Elt F) ℓ) (ρ : Dev nD → PrngReg)

/-- Every buffer outside the regions ends at the last valuation of the chain, and every counter at zero. -/
theorem run : θ_run defs (onTc (τ := τ) (main (F := F))) ⟨m, fun _ => 0, ρ⟩ (fun r =>
    (∀ c : Dev nD, ∀ b ∈ Pipeline.ucRefs τ sig, r.2.mem (((c : Thread nD τ)).1, b) = W8 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj))
              : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ))
          ⊢ bigSep Finset.univ (fun _ : Dev nD => (BI.emp : sProp (MT nD τ sig Unit (Elt F) ℕ (UR sig nD τ) ℕ))) from by
        rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h hz => ⟨h, funext fun g => hz g (.inr (no_unscoped g.2))⟩)

/-- The arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c =>
    ⟨(h.1 c _ (mem_uc main_arg0 (by decide))).trans (W8_main_arg0 m ρ c),
     (h.1 c _ (mem_uc main_arg1 (by decide))).trans (W8_main_arg1 m ρ c),
     (h.1 c _ (mem_uc main_arg2 (by decide))).trans (W8_main_arg2 m ρ c),
     (h.1 c _ (mem_uc main_arg3 (by decide))).trans (W8_main_arg3 m ρ c),
     (h.1 c _ (mem_uc main_arg4 (by decide))).trans (W8_main_arg4 m ρ c),
     (h.1 c _ (mem_uc main_arg5 (by decide))).trans (W8_main_arg5 m ρ c),
     (h.1 c _ (mem_uc main_arg6 (by decide))).trans (W8_main_arg6 m ρ c)⟩, h.2⟩) (run m ρ)

/-- The three result arrays, each at what its own region leaves, and the arguments as they were. -/
theorem run_arrays : θ_run defs (onTc (τ := τ) (main (F := F))) ⟨m, fun _ => 0, ρ⟩ (fun r => ∀ c : Dev nD,
      r.2.mem ((c.tc : Thread nD τ).loc main_v8) = (dat1 (V3 m ρ) c).arrAt 4 cfg1.N
      ∧ r.2.mem ((c.tc : Thread nD τ).loc main_v12) = (dat2 (V5 m ρ) c).arrAt 4 cfg2.N
      ∧ r.2.mem ((c.tc : Thread nD τ).loc main_v16) = (dat3 (V7 m ρ) c).arrAt 4 cfg3.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h.1 c _ (mem_uc main_v8 (by decide))).trans (((W8_of m ρ c main_v8 (by decide)).trans (W7_of m ρ c main_v8 (by decide))).trans
        (((W6_of m ρ c main_v8 (by decide)).trans (W5_of m ρ c main_v8 (by decide))).trans (W4_arr m ρ c 4))),
     (h.1 c _ (mem_uc main_v12 (by decide))).trans (((W8_of m ρ c main_v12 (by decide)).trans (W7_of m ρ c main_v12 (by decide))).trans
        (W6_arr m ρ c 4)),
     (h.1 c _ (mem_uc main_v16 (by decide))).trans (W8_arr m ρ c 4),
     (h.1 c _ (mem_uc main_arg0 (by decide))).trans (W8_main_arg0 m ρ c),
     (h.1 c _ (mem_uc main_arg1 (by decide))).trans (W8_main_arg1 m ρ c),
     (h.1 c _ (mem_uc main_arg2 (by decide))).trans (W8_main_arg2 m ρ c),
     (h.1 c _ (mem_uc main_arg3 (by decide))).trans (W8_main_arg3 m ρ c),
     (h.1 c _ (mem_uc main_arg4 (by decide))).trans (W8_main_arg4 m ρ c),
     (h.1 c _ (mem_uc main_arg5 (by decide))).trans (W8_main_arg5 m ρ c),
     (h.1 c _ (mem_uc main_arg6 (by decide))).trans (W8_main_arg6 m ρ c)⟩) (run m ρ)

end Cert.Norm

end
-- ==== Proof.OutProj.Row.lean ====
/- One row of the output projection over the extended reals: the gated branch, the merge of the two branches, the final norm. -/
module

public import proofs.«01_k».proof.Proof.InProj.Logistic

@[expose] public section

noncomputable section

namespace Cert.OutProj

open Idealize.ShloMosaic
open scoped BigOperators

/-- The logistic function. -/
def logi (x : EReal) : EReal := Ideal.div 1 (1 + Ideal.exp (-x))

/-- The two spellings of the logistic function: by the hyperbolic tangent, and by the exponential. -/
theorem logi_tanh (x : EReal) :
    Ideal.ofBits .f32 0x3F000000#32 * Ideal.tanh (Ideal.ofBits .f32 0x3F000000#32 * x) + Ideal.ofBits .f32 0x3F000000#32 = logi x := by
  rw [Cert.InProj.ofBits_half]
  exact Cert.InProj.half_tanh x

/-- The tangent form of the Gaussian error unit. -/
def gelu (x : EReal) : EReal :=
  x * (Ideal.ofBits .f32 0x3F000000#32
    * (1 + Ideal.tanh (Ideal.ofBits .f32 0x3F4C422A#32 * (x + Ideal.ofBits .f32 0x3D372713#32 * (x * (x * x))))))

/-- A row through the error unit and its gate. -/
def gated (y : Fin 1024 → EReal) (w : Fin 1024 → Fin 1024 → EReal) (b : Fin 1024 → EReal) (k : Fin 1024) : EReal :=
  gelu (y k) * logi (∑ j : Fin 1024, gelu (y j) * w j k + b k)

/-- The same, times the unit of the second row. -/
def branch (y z : Fin 1024 → EReal) (w : Fin 1024 → Fin 1024 → EReal) (b : Fin 1024 → EReal) (k : Fin 1024) : EReal :=
  gated y w b k * (z k * logi (z k))

/-- A residual row plus the two projected branches, each through its gate. -/
def merged (o r : Fin 1024 → EReal) (w₁ w₂ : Fin 1024 → Fin 2048 → EReal) (g₁ g₂ x gt : Fin 2048 → EReal) (n : Fin 2048) : EReal :=
  x n + gt n * (g₁ n * (∑ k : Fin 1024, o k * w₁ k n) + g₂ n * (∑ k : Fin 1024, r k * w₂ k n))

/-- A row divided by the root of its mean square, times a weight. -/
def normed (x g : Fin 2048 → EReal) (n : Fin 2048) : EReal :=
  x n * Ideal.rsqrt (Ideal.div (∑ i : Fin 2048, x i * x i) (Ideal.ofBits .f32 0x45000000#32) + Ideal.ofBits .f32 0x358637BD#32) * g n

end Cert.OutProj

end
-- ==== Proof.Norm.Ref.lean ====
/- The reference of the modulation and the norm, stage by stage. -/
module

public import proofs.«01_k».proof.Proof.Gen.Reference4Ideal
public import proofs.«01_k».proof.Proof.OutProj.Row
import Idealize.ShloMosaic.Lib.Pointwise

@[expose] public section

set_option maxRecDepth 16384

noncomputable section

namespace Cert.Norm

open Idealize.ShloMosaic Cert.Reference4Ideal Cert.Reference4Ideal.Gen
open scoped BigOperators

/-- The prompt modulation. -/
def refModP (a2 : FVec Ideal S4x2048 .f32) (a5 : FVec Ideal S1x2048x6144 .f32) (a6 : FVec Ideal S1x6144 .f32) :
    FVec Ideal S4x6144 .f32 :=
  (addf (Host.dotGeneral dot_S4x2048_S2048x6144_S4x6144_1_0_0_1_n_n none (mulf a2 (Host.divf (broadcastInDim S4x2048 ![] bcast_S_S4x2048 (constant S_
    .f32 0x3F800000#32)) (addf (broadcastInDim S4x2048 ![] bcast_S_S4x2048 (constant S_ .f32 0x3F800000#32)) (Host.exp (Host.negf a2))))) (shapeCast
    S2048x6144 a5 shapeCasts_S1x2048x6144_S2048x6144)) (broadcastInDim S4x6144 ![0, 1] bcast_S1x6144_S4x6144_0_1 (broadcastInDim S1x6144 ![1]
    bcast_S6144_S1x6144_1 (shapeCast S6144 a6 shapeCasts_S1x6144_S6144))))

/-- The modulated prompt rows. -/
def refRowsP (a0 : FVec Ideal S4x2048x2048 .f32) (a2 : FVec Ideal S4x2048 .f32) (a4 : FVec Ideal S1x2048 .f32) (a5 : FVec Ideal S1x2048x6144 .f32)
    (a6 : FVec Ideal S1x6144 .f32) :
    FVec Ideal S4x2048x2048 .f32 :=
  (addf (mulf (mulf (mulf a0 (broadcastInDim S4x2048x2048 ![0, 1, 2] bcast_S4x2048x1_S4x2048x2048_0_1_2 (Host.rsqrt (addf (Host.divf (broadcastInDim
    S4x2048x1 ![0, 1] bcast_S4x2048_S4x2048x1_0_1 (Host.reduceAdd (mulf a0 a0) (constant S_ .f32 0x00000000#32) reducesTo_S4x2048x2048_S4x2048_d2
    h_S_)) (broadcastInDim S4x2048x1 ![] bcast_S_S4x2048x1 (constant S_ .f32 0x45000000#32))) (broadcastInDim S4x2048x1 ![] bcast_S_S4x2048x1
    (constant S_ .f32 0x358637BD#32)))))) (broadcastInDim S4x2048x2048 ![0, 1, 2] bcast_S1x1x2048_S4x2048x2048_0_1_2 (broadcastInDim S1x1x2048 ![2]
    bcast_S2048_S1x1x2048_2 (shapeCast S2048 a4 shapeCasts_S1x2048_S2048)))) (broadcastInDim S4x2048x2048 ![0, 1, 2]
    bcast_S4x1x2048_S4x2048x2048_0_1_2 (addf (broadcastInDim S4x1x2048 ![] bcast_S_S4x1x2048 (constant S_ .f32 0x3F800000#32)) (broadcastInDim
    S4x1x2048 ![0, 2] bcast_S4x2048_S4x1x2048_0_2 (extractStridedSlice S4x2048 ![0, 2048] (refModP a2 a5 a6) slices_S4x6144_S4x2048_0_2048)))))
    (broadcastInDim S4x2048x2048 ![0, 1, 2] bcast_S4x1x2048_S4x2048x2048_0_1_2 (broadcastInDim S4x1x2048 ![0, 2] bcast_S4x2048_S4x1x2048_0_2
    (extractStridedSlice S4x2048 ![0, 0] (refModP a2 a5 a6) slices_S4x6144_S4x2048_0_0))))

/-- The sample modulation. -/
def refModS (a3 : FVec Ideal S128x2048 .f32) (a5 : FVec Ideal S1x2048x6144 .f32) (a6 : FVec Ideal S1x6144 .f32) :
    FVec Ideal S128x6144 .f32 :=
  (addf (Host.dotGeneral dot_S128x2048_S2048x6144_S128x6144_1_0_0_1_n_n none (mulf a3 (Host.divf (broadcastInDim S128x2048 ![] bcast_S_S128x2048
    (constant S_ .f32 0x3F800000#32)) (addf (broadcastInDim S128x2048 ![] bcast_S_S128x2048 (constant S_ .f32 0x3F800000#32)) (Host.exp (Host.negf
    a3))))) (shapeCast S2048x6144 a5 shapeCasts_S1x2048x6144_S2048x6144)) (broadcastInDim S128x6144 ![0, 1] bcast_S1x6144_S128x6144_0_1
    (broadcastInDim S1x6144 ![1] bcast_S6144_S1x6144_1 (shapeCast S6144 a6 shapeCasts_S1x6144_S6144))))

/-- The modulated sample rows. -/
def refRowsS (a1 : FVec Ideal S128x1x2048 .f32) (a3 : FVec Ideal S128x2048 .f32) (a4 : FVec Ideal S1x2048 .f32) (a5 : FVec Ideal S1x2048x6144 .f32)
    (a6 : FVec Ideal S1x6144 .f32) :
    FVec Ideal S128x1x2048 .f32 :=
  (addf (mulf (mulf (mulf a1 (broadcastInDim S128x1x2048 ![0, 1, 2] bcast_S128x1x1_S128x1x2048_0_1_2 (Host.rsqrt (addf (Host.divf (broadcastInDim
    S128x1x1 ![0, 1] bcast_S128x1_S128x1x1_0_1 (Host.reduceAdd (mulf a1 a1) (constant S_ .f32 0x00000000#32) reducesTo_S128x1x2048_S128x1_d2 h_S_))
    (broadcastInDim S128x1x1 ![] bcast_S_S128x1x1 (constant S_ .f32 0x45000000#32))) (broadcastInDim S128x1x1 ![] bcast_S_S128x1x1 (constant S_ .f32
    0x358637BD#32)))))) (broadcastInDim S128x1x2048 ![0, 1, 2] bcast_S1x1x2048_S128x1x2048_0_1_2 (broadcastInDim S1x1x2048 ![2]
    bcast_S2048_S1x1x2048_2 (shapeCast S2048 a4 shapeCasts_S1x2048_S2048)))) (addf (broadcastInDim S128x1x2048 ![] bcast_S_S128x1x2048 (constant S_
    .f32 0x3F800000#32)) (broadcastInDim S128x1x2048 ![0, 2] bcast_S128x2048_S128x1x2048_0_2 (extractStridedSlice S128x2048 ![0, 2048] (refModS a3 a5
    a6) slices_S128x6144_S128x2048_0_2048)))) (broadcastInDim S128x1x2048 ![0, 2] bcast_S128x2048_S128x1x2048_0_2 (extractStridedSlice S128x2048 ![0,
    0] (refModS a3 a5 a6) slices_S128x6144_S128x2048_0_0)))

/-- The first result: the prompt rows. -/
def refPrompt (a0 : FVec Ideal S4x2048x2048 .f32) (a2 : FVec Ideal S4x2048 .f32) (a4 : FVec Ideal S1x2048 .f32) (a5 : FVec Ideal S1x2048x6144 .f32)
    (a6 : FVec Ideal S1x6144 .f32) :
    FVec Ideal S4x2048x2048 .bf16 :=
  (truncf .bf16 (refRowsP a0 a2 a4 a5 a6) bitsLt_bf16_f32)

/-- The second result: each sequence's last row. -/
def refShift (a0 : FVec Ideal S4x2048x2048 .f32) (a2 : FVec Ideal S4x2048 .f32) (a4 : FVec Ideal S1x2048 .f32) (a5 : FVec Ideal S1x2048x6144 .f32)
    (a6 : FVec Ideal S1x6144 .f32) :
    FVec Ideal S4x1x2048 .f32 :=
  (extractStridedSlice S4x1x2048 ![0, 2047, 0] (refRowsP a0 a2 a4 a5 a6) slices_S4x2048x2048_S4x1x2048_0_2047_0)

/-- The third result: the sample rows. -/
def refSample (a1 : FVec Ideal S128x1x2048 .f32) (a3 : FVec Ideal S128x2048 .f32) (a4 : FVec Ideal S1x2048 .f32) (a5 : FVec Ideal S1x2048x6144 .f32)
    (a6 : FVec Ideal S1x6144 .f32) :
    FVec Ideal S1x128x2048 .f32 :=
  (shapeCast S1x128x2048 (refRowsS a1 a3 a4 a5 a6) shapeCasts_S128x1x2048_S1x128x2048)

/-- One modulation: a row through its unit and the projection. -/
def modAt (c : Fin 2048 → EReal) (w : Fin 2048 → EReal) (b : EReal) : EReal :=
  ∑ k : Fin 2048, c k * Cert.OutProj.logi (c k) * w k + b

/-- A normed row, scaled and shifted. -/
def modulated (x g sh sc : Fin 2048 → EReal) (n : Fin 2048) : EReal :=
  Cert.OutProj.normed x g n * (1 + sc n) + sh n

theorem refModP_at (a2 : FVec Ideal S4x2048 .f32) (a5 : FVec Ideal S1x2048x6144 .f32) (a6 : FVec Ideal S1x6144 .f32) (p : Fin 4) (n : Fin 6144) :
    refModP a2 a5 a6 (ix2 p n) = modAt (fun k => a2 (ix2 p k)) (fun k => a5 (ix3 0 k n)) (a6 (ix2 0 n)) := by
  simp only [modAt, Cert.OutProj.logi]
  pointwise [refModP]

theorem refModS_at (a3 : FVec Ideal S128x2048 .f32) (a5 : FVec Ideal S1x2048x6144 .f32) (a6 : FVec Ideal S1x6144 .f32) (p : Fin 128) (n : Fin 6144) :
    refModS a3 a5 a6 (ix2 p n) = modAt (fun k => a3 (ix2 p k)) (fun k => a5 (ix3 0 k n)) (a6 (ix2 0 n)) := by
  simp only [modAt, Cert.OutProj.logi]
  pointwise [refModS]

theorem refRowsP_at (a0 : FVec Ideal S4x2048x2048 .f32) (a2 : FVec Ideal S4x2048 .f32) (a4 : FVec Ideal S1x2048 .f32)
    (a5 : FVec Ideal S1x2048x6144 .f32) (a6 : FVec Ideal S1x6144 .f32) (p : Fin 4) (a n : Fin 2048) :
    refRowsP a0 a2 a4 a5 a6 (ix3 p a n)
      = modulated (fun n => a0 (ix3 p a n)) (fun n => a4 (ix2 0 n)) (fun n => refModP a2 a5 a6 (ix2 p ⟨n.val, by omega⟩))
          (fun n => refModP a2 a5 a6 (ix2 p ⟨2048 + n.val, by omega⟩)) n := by
  simp only [modulated, Cert.OutProj.normed]
  pointwise [refRowsP]

theorem refRowsS_at (a1 : FVec Ideal S128x1x2048 .f32) (a3 : FVec Ideal S128x2048 .f32) (a4 : FVec Ideal S1x2048 .f32)
    (a5 : FVec Ideal S1x2048x6144 .f32) (a6 : FVec Ideal S1x6144 .f32) (p : Fin 128) (o : Fin 1) (n : Fin 2048) :
    refRowsS a1 a3 a4 a5 a6 (ix3 p o n)
      = modulated (fun n => a1 (ix3 p 0 n)) (fun n => a4 (ix2 0 n)) (fun n => refModS a3 a5 a6 (ix2 p ⟨n.val, by omega⟩))
          (fun n => refModS a3 a5 a6 (ix2 p ⟨2048 + n.val, by omega⟩)) n := by
  obtain rfl : o = 0 := Subsingleton.elim _ _
  simp only [modulated, Cert.OutProj.normed]
  pointwise [refRowsS]

theorem refPrompt_at (a0 : FVec Ideal S4x2048x2048 .f32) (a2 : FVec Ideal S4x2048 .f32) (a4 : FVec Ideal S1x2048 .f32)
    (a5 : FVec Ideal S1x2048x6144 .f32) (a6 : FVec Ideal S1x6144 .f32) (p : Fin 4) (a n : Fin 2048) :
    refPrompt a0 a2 a4 a5 a6 (ix3 p a n) = refRowsP a0 a2 a4 a5 a6 (ix3 p a n) := by
  pointwise [refPrompt]

theorem refShift_at (a0 : FVec Ideal S4x2048x2048 .f32) (a2 : FVec Ideal S4x2048 .f32) (a4 : FVec Ideal S1x2048 .f32)
    (a5 : FVec Ideal S1x2048x6144 .f32) (a6 : FVec Ideal S1x6144 .f32) (p : Fin 4) (o : Fin 1) (n : Fin 2048) :
    refShift a0 a2 a4 a5 a6 (ix3 p o n) = refRowsP a0 a2 a4 a5 a6 (ix3 p 2047 n) := by
  pointwise [refShift]

theorem refSample_at (a1 : FVec Ideal S128x1x2048 .f32) (a3 : FVec Ideal S128x2048 .f32) (a4 : FVec Ideal S1x2048 .f32)
    (a5 : FVec Ideal S1x2048x6144 .f32) (a6 : FVec Ideal S1x6144 .f32) (o : Fin 1) (p : Fin 128) (n : Fin 2048) :
    refSample a1 a3 a4 a5 a6 (ix3 o p n) = refRowsS a1 a3 a4 a5 a6 (ix3 p 0 n) := by
  pointwise [refSample]

end Cert.Norm

end
-- ==== Proof.Norm.Pay.lean ====
/- The payloads of the modulation and of the three norms, read at an element. -/
module

public import proofs.«01_k».proof.Proof.Gen.Kernel4Ideal.Skeleton
public import proofs.«01_k».proof.Proof.Norm.Ref
import Idealize.ShloMosaic.Lib.Pointwise

@[expose] public section

set_option maxRecDepth 16384

noncomputable section

namespace Cert.Norm

open Idealize.ShloMosaic Cert.Kernel4Ideal Cert.Kernel4Ideal.Gen
open scoped BigOperators

theorem modP_pay_at (w : Vec Ideal S2048x1024 .f32) (x : Vec Ideal S4x2048 .f32) (b : Vec Ideal S1x1024 .f32) (p : Fin 4) (n : Fin 1024) :
    k0_pay2 w x b (ix2 p n) = modAt (fun k => x (ix2 p k)) (fun k => w (ix2 k n)) (b (ix2 0 n)) := by
  simp only [modAt, ← Cert.OutProj.logi_tanh]
  pointwise [k0_pay2, k0_pay1]

theorem modS_pay_at (w : Vec Ideal S2048x1024 .f32) (x : Vec Ideal S128x2048 .f32) (b : Vec Ideal S1x1024 .f32) (p : Fin 128) (n : Fin 1024) :
    k0_pay3 w x b (ix2 p n) = modAt (fun k => x (ix2 p k)) (fun k => w (ix2 k n)) (b (ix2 0 n)) := by
  simp only [modAt, ← Cert.OutProj.logi_tanh]
  pointwise [k0_pay3, k0_pay1]

theorem prompt_pay_at (x : Vec Ideal S1x1024x2048 .f32) (g : Vec Ideal S1x2048 .f32) (sc sh : Vec Ideal S1x1x2048 .f32)
    (o : Fin 1) (a : Fin 1024) (n : Fin 2048) :
    k1_pay1 x g sc sh (ix3 o a n)
      = modulated (fun n => x (ix3 0 a n)) (fun n => g (ix2 0 n)) (fun n => sh (ix3 0 0 n)) (fun n => sc (ix3 0 0 n)) n := by
  simp only [modulated, Cert.OutProj.normed]
  pointwise [k1_pay1]

theorem shift_pay_at (x : Vec Ideal S1x1x2048 .f32) (g : Vec Ideal S1x2048 .f32) (sc sh : Vec Ideal S1x1x2048 .f32)
    (o a : Fin 1) (n : Fin 2048) :
    k2_pay1 x g sc sh (ix3 o a n)
      = modulated (fun n => x (ix3 0 0 n)) (fun n => g (ix2 0 n)) (fun n => sh (ix3 0 0 n)) (fun n => sc (ix3 0 0 n)) n := by
  obtain rfl : a = 0 := Subsingleton.elim _ _
  simp only [modulated, Cert.OutProj.normed]
  pointwise [k2_pay1]

theorem sample_pay_at (x : Vec Ideal S1x128x2048 .f32) (g : Vec Ideal S1x2048 .f32) (sc sh : Vec Ideal S1x128x2048 .f32)
    (o : Fin 1) (a : Fin 128) (n : Fin 2048) :
    k3_pay1 x g sc sh (ix3 o a n)
      = modulated (fun n => x (ix3 0 a n)) (fun n => g (ix2 0 n)) (fun n => sh (ix3 0 a n)) (fun n => sc (ix3 0 a n)) n := by
  simp only [modulated, Cert.OutProj.normed]
  pointwise [k3_pay1]

end Cert.Norm

end
-- ==== Proof.Norm.Regions.lean ====
/- The modulation and the three norms: what each region leaves, and the three results. -/
module

public import proofs.«01_k».proof.Proof.Norm.Run
public import proofs.«01_k».proof.Proof.Norm.Pay
import Idealize.ShloMosaic.Lib.Pointwise
public import Idealize.ShloMosaic.Lib.Pipeline.Value
import Idealize.ShloMosaic.Lib.Pipeline.ValueKit.Point
import Idealize.ShloMosaic.Lib.Claim
import Idealize.ShloMosaic.Lib.StableHlo.Run

@[expose] public section

set_option maxRecDepth 16384

noncomputable section

namespace Cert.Norm

open Idealize.ShloMosaic Idealize.ShloMosaic.TcCoe Idealize.SL.Sem Cert.Kernel4Ideal Cert.Kernel4Ideal.Gen
open scoped BigOperators

variable (V : (c : Dev nD) → (b : Ref sig .tc) → Buf (Elt Ideal) ((c : Thread nD τ).loc b))

theorem idx0 : ∀ t : Fin cfg0.N, win0_0.index t = ![0, 0] ∧ win0_1.index t = ![0, 0] ∧ win0_2.index t = ![0, t.val]
    ∧ win0_3.index t = ![0, t.val] ∧ win0_4.index t = ![0, t.val] ∧ win0_5.index t = ![0, t.val] ∧ t.val < 6 :=
  (by decide +kernel : ∀ t : Fin grid0.N, _)

theorem idx1 : ∀ t : Fin cfg1.N, win1_0.index t = ![t.val / 2, t.val % 2, 0] ∧ win1_1.index t = ![0, 0]
    ∧ win1_2.index t = ![t.val / 2, 0, 0] ∧ win1_3.index t = ![t.val / 2, 0, 1] ∧ win1_4.index t = ![t.val / 2, t.val % 2, 0] ∧ t.val / 2 < 4 :=
  (by decide +kernel : ∀ t : Fin grid1.N, _)

theorem idx2 : ∀ t : Fin cfg2.N, win2_0.index t = ![t.val, 0, 0] ∧ win2_1.index t = ![0, 0] ∧ win2_2.index t = ![t.val, 0, 0]
    ∧ win2_3.index t = ![t.val, 0, 1] ∧ win2_4.index t = ![t.val, 0, 0] ∧ t.val < 4 :=
  (by decide +kernel : ∀ t : Fin grid2.N, _)

theorem idx3 : ∀ t : Fin cfg3.N, win3_0.index t = ![0, 0, 0] ∧ win3_1.index t = ![0, 0] ∧ win3_2.index t = ![0, 0, 0]
    ∧ win3_3.index t = ![0, 0, 1] ∧ win3_4.index t = ![0, 0, 0] :=
  (by decide +kernel : ∀ t : Fin grid3.N, _)

/-- The column of the modulation a point of region 0 computes at a column of its block. -/
def t0 (t : Fin cfg0.N) (n : Fin 1024) : Fin 6144 := ⟨t.val * 1024 + n.val, by have := (idx0 t).2.2.2.2.2.2; omega⟩

/-- The sequence a point of region 1 works on. -/
def t1 (t : Fin cfg1.N) : Fin 4 := ⟨t.val / 2, (idx1 t).2.2.2.2.2⟩

/-- The position a row of its block has. -/
def a1 (t : Fin cfg1.N) (a : Fin 1024) : Fin 2048 := ⟨t.val % 2 * 1024 + a.val, by omega⟩

/-- The sequence a point of region 2 works on. -/
def t2 (t : Fin cfg2.N) : Fin 4 := ⟨t.val, (idx2 t).2.2.2.2.2⟩

/-- Region 0's block of the prompt conditioning. -/
theorem read0_0 (c : Dev nD) (t : Fin cfg0.N) (p : Fin 4) (k : Fin 2048) :
    iblk0 V c 0 t (ix2 p k) = V c main_arg2 (ix2 p k) := by
  obtain ⟨e0, e1, e2, e3, e4, e5, h⟩ := idx0 t
  blk_point [iblk0, e0]

/-- Region 0's block of the sample conditioning. -/
theorem read0_1 (c : Dev nD) (t : Fin cfg0.N) (p : Fin 128) (k : Fin 2048) :
    iblk0 V c 1 t (ix2 p k) = V c main_arg3 (ix2 p k) := by
  obtain ⟨e0, e1, e2, e3, e4, e5, h⟩ := idx0 t
  blk_point [iblk0, e1]

/-- Region 0's block of the weight. -/
theorem read0_2 (c : Dev nD) (t : Fin cfg0.N) (k : Fin 2048) (n : Fin 1024) :
    iblk0 V c 2 t (ix2 k n) = V c main_v0 (ix2 k (t0 t n)) := by
  obtain ⟨e0, e1, e2, e3, e4, e5, h⟩ := idx0 t
  unfold t0; blk_point [iblk0, e2]

/-- Region 0's block of the bias. -/
theorem read0_3 (c : Dev nD) (t : Fin cfg0.N) (n : Fin 1024) :
    iblk0 V c 3 t (ix2 0 n) = V c main_v2 (ix2 0 (t0 t n)) := by
  obtain ⟨e0, e1, e2, e3, e4, e5, h⟩ := idx0 t
  unfold t0; blk_point [iblk0, e3]

/-- Region 1's block of the rows. -/
theorem read1_0 (c : Dev nD) (t : Fin cfg1.N) (a : Fin 1024) (n : Fin 2048) :
    iblk1 V c 0 t (ix3 0 a n) = V c main_arg0 (ix3 (t1 t) (a1 t a) n) := by
  obtain ⟨e0, e1, e2, e3, e4, h⟩ := idx1 t
  unfold t1; unfold a1; blk_point [iblk1, e0]

/-- Region 1's block of the weight of the norm. -/
theorem read1_1 (c : Dev nD) (t : Fin cfg1.N) (n : Fin 2048) :
    iblk1 V c 1 t (ix2 0 n) = V c main_v7 (ix2 0 n) := by
  obtain ⟨e0, e1, e2, e3, e4, h⟩ := idx1 t
  blk_point [iblk1, e1]

/-- Region 1's block of the shift. -/
theorem read1_2 (c : Dev nD) (t : Fin cfg1.N) (n : Fin 2048) :
    iblk1 V c 2 t (ix3 0 0 n) = V c main_v4 (ix3 (t1 t) 0 ⟨n.val, by omega⟩) := by
  obtain ⟨e0, e1, e2, e3, e4, h⟩ := idx1 t
  unfold t1; blk_point [iblk1, e2]

/-- Region 1's block of the scale. -/
theorem read1_3 (c : Dev nD) (t : Fin cfg1.N) (n : Fin 2048) :
    iblk1 V c 3 t (ix3 0 0 n) = V c main_v4 (ix3 (t1 t) 0 ⟨2048 + n.val, by omega⟩) := by
  obtain ⟨e0, e1, e2, e3, e4, h⟩ := idx1 t
  unfold t1; blk_point [iblk1, e3]

/-- Region 2's block of the rows. -/
theorem read2_0 (c : Dev nD) (t : Fin cfg2.N) (n : Fin 2048) :
    iblk2 V c 0 t (ix3 0 0 n) = V c main_v9 (ix3 (t2 t) 0 n) := by
  obtain ⟨e0, e1, e2, e3, e4, h⟩ := idx2 t
  unfold t2; blk_point [iblk2, e0]

/-- Region 2's block of the weight of the norm. -/
theorem read2_1 (c : Dev nD) (t : Fin cfg2.N) (n : Fin 2048) :
    iblk2 V c 1 t (ix2 0 n) = V c main_v11 (ix2 0 n) := by
  obtain ⟨e0, e1, e2, e3, e4, h⟩ := idx2 t
  blk_point [iblk2, e1]

/-- Region 2's block of the shift. -/
theorem read2_2 (c : Dev nD) (t : Fin cfg2.N) (n : Fin 2048) :
    iblk2 V c 2 t (ix3 0 0 n) = V c main_v4 (ix3 (t2 t) 0 ⟨n.val, by omega⟩) := by
  obtain ⟨e0, e1, e2, e3, e4, h⟩ := idx2 t
  unfold t2; blk_point [iblk2, e2]

/-- Region 2's block of the scale. -/
theorem read2_3 (c : Dev nD) (t : Fin cfg2.N) (n : Fin 2048) :
    iblk2 V c 3 t (ix3 0 0 n) = V c main_v4 (ix3 (t2 t) 0 ⟨2048 + n.val, by omega⟩) := by
  obtain ⟨e0, e1, e2, e3, e4, h⟩ := idx2 t
  unfold t2; blk_point [iblk2, e3]

/-- Region 3's block of the rows. -/
theorem read3_0 (c : Dev nD) (t : Fin cfg3.N) (a : Fin 128) (n : Fin 2048) :
    iblk3 V c 0 t (ix3 0 a n) = V c main_v13 (ix3 0 a n) := by
  obtain ⟨e0, e1, e2, e3, e4⟩ := idx3 t
  blk_point [iblk3, e0]

/-- Region 3's block of the weight of the norm. -/
theorem read3_1 (c : Dev nD) (t : Fin cfg3.N) (n : Fin 2048) :
    iblk3 V c 1 t (ix2 0 n) = V c main_v15 (ix2 0 n) := by
  obtain ⟨e0, e1, e2, e3, e4⟩ := idx3 t
  blk_point [iblk3, e1]

/-- Region 3's block of the shift. -/
theorem read3_2 (c : Dev nD) (t : Fin cfg3.N) (a : Fin 128) (n : Fin 2048) :
    iblk3 V c 2 t (ix3 0 a n) = V c main_v5 (ix3 0 a ⟨n.val, by omega⟩) := by
  obtain ⟨e0, e1, e2, e3, e4⟩ := idx3 t
  blk_point [iblk3, e2]

/-- Region 3's block of the scale. -/
theorem read3_3 (c : Dev nD) (t : Fin cfg3.N) (a : Fin 128) (n : Fin 2048) :
    iblk3 V c 3 t (ix3 0 a n) = V c main_v5 (ix3 0 a ⟨2048 + n.val, by omega⟩) := by
  obtain ⟨e0, e1, e2, e3, e4⟩ := idx3 t
  blk_point [iblk3, e3]

/-- Region 0 leaves the prompt modulation. -/
theorem final0_4 (c : Dev nD) : (dat0 V c).arrAt 4 cfg0.N
    = fun i : S4x6144.Idx => modAt (fun k => V c main_arg2 (ix2 (i 0) k)) (fun k => V c main_v0 (ix2 k (i 1))) (V c main_v2 (ix2 0 (i 1))) := by
  refine (dat0 V c).arrAt_eq_of_covers 4 _ (by decide +kernel) fun t hf y => ?_
  blk_simp
  rw [after0_4]
  frame_out
  obtain ⟨p, n, rfl⟩ : ∃ (p : Fin 4) (n : Fin 1024), y = ix2 p n := ⟨y 0, y 1, eq_ix2 y⟩
  have he : ((cfg0.win 4).blk t).view.emb (ix2 p n) = (ix2 p (t0 t n) : S4x6144.Idx) := by
    obtain ⟨e0, e1, e2, e3, e4, e5, h⟩ := idx0 t
    unfold t0
    blk_ext [e4]
  rw [he]
  refine (modP_pay_at _ _ _ p n).trans ?_
  simp only [read0_0, read0_2, read0_3]
  rfl

/-- Region 0 leaves the sample modulation. -/
theorem final0_5 (c : Dev nD) : (dat0 V c).arrAt 5 cfg0.N
    = fun i : S128x6144.Idx => modAt (fun k => V c main_arg3 (ix2 (i 0) k)) (fun k => V c main_v0 (ix2 k (i 1))) (V c main_v2 (ix2 0 (i 1))) := by
  refine (dat0 V c).arrAt_eq_of_covers 5 _ (by decide +kernel) fun t hf y => ?_
  blk_simp
  rw [after0_5]
  frame_out
  obtain ⟨p, n, rfl⟩ : ∃ (p : Fin 128) (n : Fin 1024), y = ix2 p n := ⟨y 0, y 1, eq_ix2 y⟩
  have he : ((cfg0.win 5).blk t).view.emb (ix2 p n) = (ix2 p (t0 t n) : S128x6144.Idx) := by
    obtain ⟨e0, e1, e2, e3, e4, e5, h⟩ := idx0 t
    unfold t0
    blk_ext [e5]
  rw [he]
  refine (modS_pay_at _ _ _ p n).trans ?_
  simp only [read0_1, read0_2, read0_3]
  rfl

/-- Region 1 leaves the prompt rows. -/
theorem final1 (c : Dev nD) : (dat1 V c).arrAt 4 cfg1.N
    = fun i : S4x2048x2048.Idx => modulated (fun n => V c main_arg0 (ix3 (i 0) (i 1) n)) (fun n => V c main_v7 (ix2 0 n))
        (fun n => V c main_v4 (ix3 (i 0) 0 ⟨n.val, by omega⟩)) (fun n => V c main_v4 (ix3 (i 0) 0 ⟨2048 + n.val, by omega⟩)) (i 2) := by
  refine (dat1 V c).arrAt_eq_of_covers 4 _ (by decide +kernel) fun t hf y => ?_
  blk_simp
  rw [after1_4]
  frame_out
  obtain ⟨o, a, n, rfl⟩ : ∃ (o : Fin 1) (a : Fin 1024) (n : Fin 2048), y = ix3 o a n := ⟨y 0, y 1, y 2, eq_ix3 y⟩
  have he : ((cfg1.win 4).blk t).view.emb (ix3 o a n) = (ix3 (t1 t) (a1 t a) n : S4x2048x2048.Idx) := by
    obtain ⟨e0, e1, e2, e3, e4, h⟩ := idx1 t
    unfold t1 a1
    blk_ext [e4]
  rw [he]
  refine (prompt_pay_at _ _ _ _ o a n).trans ?_
  simp only [read1_0, read1_1, read1_2, read1_3]
  rfl

/-- Region 2 leaves the sequences' last rows. -/
theorem final2 (c : Dev nD) : (dat2 V c).arrAt 4 cfg2.N
    = fun i : S4x1x2048.Idx => modulated (fun n => V c main_v9 (ix3 (i 0) 0 n)) (fun n => V c main_v11 (ix2 0 n))
        (fun n => V c main_v4 (ix3 (i 0) 0 ⟨n.val, by omega⟩)) (fun n => V c main_v4 (ix3 (i 0) 0 ⟨2048 + n.val, by omega⟩)) (i 2) := by
  refine (dat2 V c).arrAt_eq_of_covers 4 _ (by decide +kernel) fun t hf y => ?_
  blk_simp
  rw [after2_4]
  frame_out
  obtain ⟨o, a, n, rfl⟩ : ∃ (o : Fin 1) (a : Fin 1) (n : Fin 2048), y = ix3 o a n := ⟨y 0, y 1, y 2, eq_ix3 y⟩
  have he : ((cfg2.win 4).blk t).view.emb (ix3 o a n) = (ix3 (t2 t) a n : S4x1x2048.Idx) := by
    obtain ⟨e0, e1, e2, e3, e4, h⟩ := idx2 t
    unfold t2
    blk_ext [e4]
  rw [he]
  refine (shift_pay_at _ _ _ _ o a n).trans ?_
  simp only [read2_0, read2_1, read2_2, read2_3]
  rfl

/-- Region 3 leaves the sample rows. -/
theorem final3 (c : Dev nD) : (dat3 V c).arrAt 4 cfg3.N
    = fun i : S1x128x2048.Idx => modulated (fun n => V c main_v13 (ix3 0 (i 1) n)) (fun n => V c main_v15 (ix2 0 n))
        (fun n => V c main_v5 (ix3 0 (i 1) ⟨n.val, by omega⟩)) (fun n => V c main_v5 (ix3 0 (i 1) ⟨2048 + n.val, by omega⟩)) (i 2) := by
  refine (dat3 V c).arrAt_eq_of_covers 4 _ (by decide +kernel) fun t hf y => ?_
  blk_simp
  rw [after3_4]
  frame_out
  obtain ⟨o, a, n, rfl⟩ : ∃ (o : Fin 1) (a : Fin 128) (n : Fin 2048), y = ix3 o a n := ⟨y 0, y 1, y 2, eq_ix3 y⟩
  have he : ((cfg3.win 4).blk t).view.emb (ix3 o a n) = (ix3 o a n : S1x128x2048.Idx) := by
    obtain ⟨e0, e1, e2, e3, e4⟩ := idx3 t
    skip
    blk_ext [e4]
  rw [he]
  refine (sample_pay_at _ _ _ _ o a n).trans ?_
  simp only [read3_0, read3_1, read3_2, read3_3]
  rfl

end Cert.Norm

end
-- ==== Proof.Norm.Value.lean ====
/- The three results of the modulation and the norms, over the arguments. -/
module

public import proofs.«01_k».proof.Proof.Norm.Regions
import Idealize.ShloMosaic.Lib.Pointwise
import Idealize.ShloMosaic.Lib.Claim
import Idealize.ShloMosaic.Lib.StableHlo.Run

@[expose] public section

set_option maxRecDepth 16384

noncomputable section

namespace Cert.Norm

open Idealize.ShloMosaic Idealize.ShloMosaic.TcCoe Idealize.SL.Sem Cert.Kernel4Ideal Cert.Kernel4Ideal.Gen
open scoped BigOperators

variable (m : (ℓ : Loc nD τ sig) → Buf (Elt Ideal) ℓ) (ρ : Dev nD → PrngReg)

/-- A weight cube with one layer, seen as a matrix. -/
theorem cube_at (w : FVec Ideal S1x2048x6144 .bf16) (k : Fin 2048) (n : Fin 6144) :
    shapeCast S2048x6144 w shapeCasts_S1x2048x6144_S2048x6144 (ix2 k n) = w (ix3 0 k n) := by
  pointwise []

/-- A bias row flattened and raised again. -/
theorem bias_at (b : FVec Ideal S1x6144 .bf16) (n : Fin 6144) :
    shapeCast S1x6144 (shapeCast S6144 b shapeCasts_S1x6144_S6144) shapeCasts_S6144_S1x6144 (ix2 0 n) = b (ix2 0 n) := by
  pointwise []

/-- A norm weight flattened and raised again. -/
theorem weight_at (b : FVec Ideal S1x2048 .bf16) (n : Fin 2048) :
    shapeCast S1x2048 (shapeCast S2048 b shapeCasts_S1x2048_S2048) shapeCasts_S2048_S1x2048 (ix2 0 n) = b (ix2 0 n) := by
  pointwise []

/-- The prompt modulation with a row axis put in. -/
theorem modRowP_at (x : FVec Ideal S4x6144 .f32) (p : Fin 4) (n : Fin 6144) :
    shapeCast S4x1x6144 x shapeCasts_S4x6144_S4x1x6144 (ix3 p 0 n) = x (ix2 p n) := by
  pointwise []

/-- The sample modulation with a leading axis put in. -/
theorem modRowS_at (x : FVec Ideal S128x6144 .f32) (p : Fin 128) (n : Fin 6144) :
    shapeCast S1x128x6144 x shapeCasts_S128x6144_S1x128x6144 (ix3 0 p n) = x (ix2 p n) := by
  pointwise []

/-- The last row of each prompt. -/
theorem last_at (x : FVec Ideal S4x2048x2048 .bf16) (p : Fin 4) (n : Fin 2048) :
    extractStridedSlice S4x1x2048 ![0, 2047, 0] x slices_S4x2048x2048_S4x1x2048_0_2047_0 (ix3 p 0 n) = x (ix3 p 2047 n) := by
  pointwise []

/-- The sample rows laid along one axis. -/
theorem rowsS_at (x : FVec Ideal S128x1x2048 .bf16) (p : Fin 128) (n : Fin 2048) :
    shapeCast S1x128x2048 x shapeCasts_S128x1x2048_S1x128x2048 (ix3 0 p n) = x (ix3 p 0 n) := by
  pointwise []

/-- The weight region 0 reads. -/
theorem v1_weight (c : Dev nD) (k : Fin 2048) (n : Fin 6144) : V1 m ρ c main_v0 (ix2 k n) = m ((c : Thread nD τ).loc main_arg5) (ix3 0 k n) := by
  have h : V1 m ρ c main_v0 = shapeCast S2048x6144 (m ((c : Thread nD τ).loc main_arg5)) shapeCasts_S1x2048x6144_S2048x6144 := by
    show StableHlo.after hostOps0 (W0 m ρ c) main_v0 = _
    entry_read; rfl
  rw [h]
  exact cube_at _ _ _

/-- The bias region 0 reads. -/
theorem v1_bias (c : Dev nD) (n : Fin 6144) : V1 m ρ c main_v2 (ix2 0 n) = m ((c : Thread nD τ).loc main_arg6) (ix2 0 n) := by
  have h : V1 m ρ c main_v2
      = shapeCast S1x6144 (shapeCast S6144 (m ((c : Thread nD τ).loc main_arg6)) shapeCasts_S1x6144_S6144) shapeCasts_S6144_S1x6144 := by
    show StableHlo.after hostOps0 (W0 m ρ c) main_v2 = _
    entry_read; rfl
  rw [h]
  exact bias_at _ _

/-- The prompt modulation is the reference's. -/
theorem modP (c : Dev nD) : V2 m ρ c main_v3_0
    = refModP (m ((c : Thread nD τ).loc main_arg2)) (m ((c : Thread nD τ).loc main_arg5)) (m ((c : Thread nD τ).loc main_arg6)) := by
  refine (W2_arr m ρ c 4).trans ((final0_4 (V1 m ρ) c).trans (funext fun i => ?_))
  obtain ⟨p, n, rfl⟩ : ∃ (p : Fin 4) (n : Fin 6144), i = ix2 p n := ⟨i 0, i 1, eq_ix2 i⟩
  have h2 : V1 m ρ c main_arg2 = m ((c : Thread nD τ).loc main_arg2) := W1_args m ρ c main_arg2 (by decide)
  rw [refModP_at]
  show modAt (fun k => V1 m ρ c main_arg2 (ix2 p k)) (fun k => V1 m ρ c main_v0 (ix2 k n)) (V1 m ρ c main_v2 (ix2 0 n)) = _
  exact congr (congr (congrArg modAt (funext fun k => congrFun h2 _)) (funext fun k => v1_weight m ρ c k n)) (v1_bias m ρ c n)

/-- The sample modulation is the reference's. -/
theorem modS (c : Dev nD) : V2 m ρ c main_v3_1
    = refModS (m ((c : Thread nD τ).loc main_arg3)) (m ((c : Thread nD τ).loc main_arg5)) (m ((c : Thread nD τ).loc main_arg6)) := by
  refine (W2_arr m ρ c 5).trans ((final0_5 (V1 m ρ) c).trans (funext fun i => ?_))
  obtain ⟨p, n, rfl⟩ : ∃ (p : Fin 128) (n : Fin 6144), i = ix2 p n := ⟨i 0, i 1, eq_ix2 i⟩
  have h3 : V1 m ρ c main_arg3 = m ((c : Thread nD τ).loc main_arg3) := W1_args m ρ c main_arg3 (by decide)
  rw [refModS_at]
  show modAt (fun k => V1 m ρ c main_arg3 (ix2 p k)) (fun k => V1 m ρ c main_v0 (ix2 k n)) (V1 m ρ c main_v2 (ix2 0 n)) = _
  exact congr (congr (congrArg modAt (funext fun k => congrFun h3 _)) (funext fun k => v1_weight m ρ c k n)) (v1_bias m ρ c n)

/-- The prompt modulation region 1 reads. -/
theorem v3_mod (c : Dev nD) (p : Fin 4) (n : Fin 6144) : V3 m ρ c main_v4 (ix3 p 0 n) = V2 m ρ c main_v3_0 (ix2 p n) := by
  have h : V3 m ρ c main_v4 = shapeCast S4x1x6144 (V2 m ρ c main_v3_0) shapeCasts_S4x6144_S4x1x6144 := by
    show StableHlo.after hostOps1 (W2 m ρ c) main_v4 = _
    entry_read; rfl
  rw [h]
  exact modRowP_at _ _ _

/-- The sample modulation, ahead of region 1. -/
theorem v3_sample_mod (c : Dev nD) (p : Fin 128) (n : Fin 6144) : V3 m ρ c main_v5 (ix3 0 p n) = V2 m ρ c main_v3_1 (ix2 p n) := by
  have h : V3 m ρ c main_v5 = shapeCast S1x128x6144 (V2 m ρ c main_v3_1) shapeCasts_S128x6144_S1x128x6144 := by
    show StableHlo.after hostOps1 (W2 m ρ c) main_v5 = _
    entry_read; rfl
  rw [h]
  exact modRowS_at _ _ _

/-- The weight of region 1. -/
theorem v3_weight (c : Dev nD) (n : Fin 2048) : V3 m ρ c main_v7 (ix2 0 n) = m ((c : Thread nD τ).loc main_arg4) (ix2 0 n) := by
  have h : V3 m ρ c main_v7 = shapeCast S1x2048 (shapeCast S2048 (V2 m ρ c main_arg4) shapeCasts_S1x2048_S2048) shapeCasts_S2048_S1x2048 := by
    show StableHlo.after hostOps1 (W2 m ρ c) main_v7 = _
    entry_read; rfl
  have ha : V2 m ρ c main_arg4 = m ((c : Thread nD τ).loc main_arg4) := W2_args m ρ c main_arg4 (by decide)
  rw [h, ha]
  exact weight_at _ _

/-- The weight of region 2. -/
theorem v5_weight (c : Dev nD) (n : Fin 2048) : V5 m ρ c main_v11 (ix2 0 n) = m ((c : Thread nD τ).loc main_arg4) (ix2 0 n) := by
  have h : V5 m ρ c main_v11 = shapeCast S1x2048 (shapeCast S2048 (V4 m ρ c main_arg4) shapeCasts_S1x2048_S2048) shapeCasts_S2048_S1x2048 := by
    show StableHlo.after hostOps2 (W4 m ρ c) main_v11 = _
    entry_read; rfl
  have ha : V4 m ρ c main_arg4 = m ((c : Thread nD τ).loc main_arg4) := W4_args m ρ c main_arg4 (by decide)
  rw [h, ha]
  exact weight_at _ _

/-- The weight of region 3. -/
theorem v7_weight (c : Dev nD) (n : Fin 2048) : V7 m ρ c main_v15 (ix2 0 n) = m ((c : Thread nD τ).loc main_arg4) (ix2 0 n) := by
  have h : V7 m ρ c main_v15 = shapeCast S1x2048 (shapeCast S2048 (V6 m ρ c main_arg4) shapeCasts_S1x2048_S2048) shapeCasts_S2048_S1x2048 := by
    show StableHlo.after hostOps3 (W6 m ρ c) main_v15 = _
    entry_read; rfl
  have ha : V6 m ρ c main_arg4 = m ((c : Thread nD τ).loc main_arg4) := W6_args m ρ c main_arg4 (by decide)
  rw [h, ha]
  exact weight_at _ _

/-- The rows region 2 reads. -/
theorem v5_rows (c : Dev nD) (p : Fin 4) (n : Fin 2048) : V5 m ρ c main_v9 (ix3 p 0 n) = m ((c : Thread nD τ).loc main_arg0) (ix3 p 2047 n) := by
  have h : V5 m ρ c main_v9 = extractStridedSlice S4x1x2048 ![0, 2047, 0] (V4 m ρ c main_arg0) slices_S4x2048x2048_S4x1x2048_0_2047_0 := by
    show StableHlo.after hostOps2 (W4 m ρ c) main_v9 = _
    entry_read; rfl
  have ha : V4 m ρ c main_arg0 = m ((c : Thread nD τ).loc main_arg0) := W4_args m ρ c main_arg0 (by decide)
  rw [h, ha]
  exact last_at _ _ _

/-- The rows region 3 reads. -/
theorem v7_rows (c : Dev nD) (p : Fin 128) (n : Fin 2048) : V7 m ρ c main_v13 (ix3 0 p n) = m ((c : Thread nD τ).loc main_arg1) (ix3 p 0 n) := by
  have h : V7 m ρ c main_v13 = shapeCast S1x128x2048 (V6 m ρ c main_arg1) shapeCasts_S128x1x2048_S1x128x2048 := by
    show StableHlo.after hostOps3 (W6 m ρ c) main_v13 = _
    entry_read; rfl
  have ha : V6 m ρ c main_arg1 = m ((c : Thread nD τ).loc main_arg1) := W6_args m ρ c main_arg1 (by decide)
  rw [h, ha]
  exact rowsS_at _ _ _

theorem v5_mod (c : Dev nD) : V5 m ρ c main_v4 = V3 m ρ c main_v4 :=
  (W5_of m ρ c main_v4 (by decide)).trans (W4_of m ρ c main_v4 (by decide))

theorem v7_sample_mod (c : Dev nD) : V7 m ρ c main_v5 = V3 m ρ c main_v5 :=
  ((W7_of m ρ c main_v5 (by decide)).trans (W6_of m ρ c main_v5 (by decide))).trans
    ((W5_of m ρ c main_v5 (by decide)).trans (W4_of m ρ c main_v5 (by decide)))

/-- The prompt rows are the reference's. -/
theorem final_prompt (c : Dev nD) : (dat1 (V3 m ρ) c).arrAt 4 cfg1.N
    = refPrompt (m ((c : Thread nD τ).loc main_arg0)) (m ((c : Thread nD τ).loc main_arg2)) (m ((c : Thread nD τ).loc main_arg4))
        (m ((c : Thread nD τ).loc main_arg5)) (m ((c : Thread nD τ).loc main_arg6)) := by
  refine (final1 (V3 m ρ) c).trans (funext fun i => ?_)
  obtain ⟨p, a, n, rfl⟩ : ∃ (p : Fin 4) (a n : Fin 2048), i = ix3 p a n := ⟨i 0, i 1, i 2, eq_ix3 i⟩
  have h0 : V3 m ρ c main_arg0 = m ((c : Thread nD τ).loc main_arg0) := W3_args m ρ c main_arg0 (by decide)
  rw [refPrompt_at, refRowsP_at, ← modP m ρ]
  show modulated (fun n => V3 m ρ c main_arg0 (ix3 p a n)) (fun n => V3 m ρ c main_v7 (ix2 0 n))
    (fun n => V3 m ρ c main_v4 (ix3 p 0 ⟨n.val, by omega⟩)) (fun n => V3 m ρ c main_v4 (ix3 p 0 ⟨2048 + n.val, by omega⟩)) n = _
  exact congrFun (congr (congr (congr (congrArg modulated (funext fun n => congrFun h0 _))
    (funext fun n => v3_weight m ρ c n)) (funext fun n => v3_mod m ρ c p _)) (funext fun n => v3_mod m ρ c p _)) n

/-- The last rows are the reference's. -/
theorem final_shift (c : Dev nD) : (dat2 (V5 m ρ) c).arrAt 4 cfg2.N
    = refShift (m ((c : Thread nD τ).loc main_arg0)) (m ((c : Thread nD τ).loc main_arg2)) (m ((c : Thread nD τ).loc main_arg4))
        (m ((c : Thread nD τ).loc main_arg5)) (m ((c : Thread nD τ).loc main_arg6)) := by
  refine (final2 (V5 m ρ) c).trans (funext fun i => ?_)
  obtain ⟨p, o, n, rfl⟩ : ∃ (p : Fin 4) (o : Fin 1) (n : Fin 2048), i = ix3 p o n := ⟨i 0, i 1, i 2, eq_ix3 i⟩
  rw [refShift_at, refRowsP_at, ← modP m ρ]
  show modulated (fun n => V5 m ρ c main_v9 (ix3 p 0 n)) (fun n => V5 m ρ c main_v11 (ix2 0 n))
    (fun n => V5 m ρ c main_v4 (ix3 p 0 ⟨n.val, by omega⟩)) (fun n => V5 m ρ c main_v4 (ix3 p 0 ⟨2048 + n.val, by omega⟩)) n = _
  exact congrFun (congr (congr (congr (congrArg modulated (funext fun n => v5_rows m ρ c p n))
    (funext fun n => v5_weight m ρ c n)) (funext fun n => (congrFun (v5_mod m ρ c) _).trans (v3_mod m ρ c p _))) (funext fun n => (congrFun (v5_mod m ρ c) _).trans (v3_mod m ρ c p _))) n

/-- The sample rows are the reference's. -/
theorem final_sample (c : Dev nD) : (dat3 (V7 m ρ) c).arrAt 4 cfg3.N
    = refSample (m ((c : Thread nD τ).loc main_arg1)) (m ((c : Thread nD τ).loc main_arg3)) (m ((c : Thread nD τ).loc main_arg4))
        (m ((c : Thread nD τ).loc main_arg5)) (m ((c : Thread nD τ).loc main_arg6)) := by
  refine (final3 (V7 m ρ) c).trans (funext fun i => ?_)
  obtain ⟨o, p, n, rfl⟩ : ∃ (o : Fin 1) (p : Fin 128) (n : Fin 2048), i = ix3 o p n := ⟨i 0, i 1, i 2, eq_ix3 i⟩
  rw [refSample_at, refRowsS_at, ← modS m ρ]
  show modulated (fun n => V7 m ρ c main_v13 (ix3 0 p n)) (fun n => V7 m ρ c main_v15 (ix2 0 n))
    (fun n => V7 m ρ c main_v5 (ix3 0 p ⟨n.val, by omega⟩)) (fun n => V7 m ρ c main_v5 (ix3 0 p ⟨2048 + n.val, by omega⟩)) n = _
  exact congrFun (congr (congr (congr (congrArg modulated (funext fun n => v7_rows m ρ c p n))
    (funext fun n => v7_weight m ρ c n)) (funext fun n => (congrFun (v7_sample_mod m ρ c) _).trans (v3_sample_mod m ρ c p _))) (funext fun n => (congrFun (v7_sample_mod m ρ c) _).trans (v3_sample_mod m ρ c p _))) n

end Cert.Norm

end
-- ==== Proof.Norm.Pair.lean ====
/- The modulation and norm call against its reference: the two end with the same three arrays, and leave their arguments alone. -/
module

public import proofs.«01_k».proof.Defs
public import proofs.«01_k».proof.Proof.Gen.Kernel4
public import proofs.«01_k».proof.Proof.Norm.Value
import Idealize.ShloMosaic.Lib.Claim
import Idealize.ShloMosaic.Lib.StableHlo.Run

@[expose] public section

set_option maxRecDepth 16384

noncomputable section

namespace Cert.Norm

open Idealize.ShloMosaic Idealize.SL.Sem

set_option maxHeartbeats 4000000 in
/-- The kernel as written and its idealization have one body table. -/
theorem table_eq : Cert.Kernel4.defs₀ (F := Bits) = Cert.Kernel4Ideal.defs₀ (F := Bits) := by
  unfold Cert.Kernel4.defs₀ Cert.Kernel4Ideal.defs₀
  refine congrArg Defs.onTc ?_
  funext l a
  match l, a with
  | 0, (t, s) => rfl
  | 1, (t, s) => rfl
  | 2, (t, s) => rfl
  | 3, (t, s) => rfl

theorem defs_eq : Cert.Kernel4.defs (F := Bits) = Cert.Kernel4Ideal.defs (F := Bits) :=
  congrArg (Pipeline.defs Cert.Kernel4Ideal.pcfgs) table_eq

/-- The kernel as written, at the hardware's own floats: the run is stated for any float instance. -/
theorem frame_kernel : Cert.quiescent_Kernel4 := fun m ρ _ => by
  rw [defs_eq]
  exact frame (F := Bits) m ρ

/-- The idealized kernel ends with its counters at zero and its arguments as it found them. -/
theorem frame_ideal : Cert.quiescent_Kernel4Ideal := fun m ρ _ => frame m ρ

/-- The reference ends with its counters at zero and its arguments as it found them. -/
theorem frame_reference : Cert.quiescent_Reference4Ideal := by
  intro m g _
  refine (θ_run Cert.Reference4Ideal.defs _ _).mono (fun r h => ⟨h, sem_eq_zero_of_no_sems (by decide) r.2⟩) ?_
  hlo_run

set_option maxHeartbeats 4000000 in
/-- Over the reals the call's three results are the reference's. -/
theorem algebraic : Cert.algebraic_Kernel4Ideal_Reference4Ideal := by
  pair_intro
  · run_from run_arrays m g
  · hlo_run
    · exact (final_prompt m g c).symm
    · exact (final_shift m g c).symm
    · exact (final_sample m g c).symm

end Cert.Norm

end
-- ==== Proof.OutS.Pay.lean ====
/- The payloads of the sample call of the output projection, read at an element. -/
module

public import proofs.«01_k».proof.Proof.Gen.Kernel5Ideal.Skeleton
public import proofs.«01_k».proof.Proof.OutProj.Row
import Idealize.ShloMosaic.Lib.Pointwise

@[expose] public section

set_option maxRecDepth 16384

noncomputable section

namespace Cert.OutProj.Sample

open Idealize.ShloMosaic Cert.Kernel5Ideal Cert.Kernel5Ideal.Gen
open scoped BigOperators

/-- The gated row. -/
theorem pay2_at (ys : Vec Ideal S1x128x1024 .f32) (wg : Vec Ideal S1024x1024 .bf16) (bg : Vec Ideal S1x1024 .f32) (a : Fin 128) (k : Fin 1024) :
    k0_pay2 ys wg bg (ix2 a k)
      = gated (fun j => ys (ix3 0 a j)) (fun j k => wg (ix2 j k)) (fun k => bg (ix2 0 k)) k := by
  unfold gated
  rw [← logi_tanh]
  simp only [gelu]
  pointwise [k0_pay2]

/-- The merged row, from the gated row and the second row. -/
theorem pay5_at (v : FVec Ideal S128x1024 .f32) (z : Vec Ideal S1x128x1024 .f32)
    (g₁ : Vec Ideal S1x128x2048 .bf16) (w₁ : Vec Ideal S1024x2048 .bf16) (g₂ : Vec Ideal S1x128x2048 .bf16) (r : Vec Ideal S1x128x1024 .bf16)
    (w₂ : Vec Ideal S1024x2048 .bf16) (x gt : Vec Ideal S1x128x2048 .f32) (a : Fin 128) (n : Fin 2048) :
    k0_pay5 v (k0_pay3 z) (k0_pay4 z) g₁ w₁ g₂ r w₂ x gt (ix2 a n)
      = merged (fun k => v (ix2 a k) * (z (ix3 0 a k) * logi (z (ix3 0 a k)))) (fun k => r (ix3 0 a k))
          (fun k n => w₁ (ix2 k n)) (fun k n => w₂ (ix2 k n)) (fun n => g₁ (ix3 0 a n)) (fun n => g₂ (ix3 0 a n))
          (fun n => x (ix3 0 a n)) (fun n => gt (ix3 0 a n)) n := by
  simp only [merged, ← logi_tanh]
  pointwise [k0_pay5, k0_pay3, k0_pay4]

/-- The normed row, from the merged one. -/
theorem pay1_at (v30 v32 v37 : FVec Ideal S128x1024 .f32)
    (g₁ : Vec Ideal S1x128x2048 .bf16) (w₁ : Vec Ideal S1024x2048 .bf16) (g₂ : Vec Ideal S1x128x2048 .bf16) (r : Vec Ideal S1x128x1024 .bf16)
    (w₂ : Vec Ideal S1024x2048 .bf16) (x gt : Vec Ideal S1x128x2048 .f32) (fg : Vec Ideal S1x2048 .f32) (o : Fin 1) (a : Fin 128) (n : Fin 2048) :
    k0_pay1 (k0_pay5 v30 v32 v37 g₁ w₁ g₂ r w₂ x gt) (k0_pay6 v30 v32 v37 g₁ w₁ g₂ r w₂ x gt) fg (ix3 o a n)
      = normed (fun n => k0_pay5 v30 v32 v37 g₁ w₁ g₂ r w₂ x gt (ix2 a n)) (fun n => fg (ix2 0 n)) n := by
  simp only [normed]
  pointwise [k0_pay1, k0_pay6]

end Cert.OutProj.Sample

end
-- ==== Proof.OutS.Ref.lean ====
/- The sample reference of the output projection, stage by stage. -/
module

public import proofs.«01_k».proof.Proof.Gen.Reference5Ideal
public import proofs.«01_k».proof.Proof.OutProj.Row
import Idealize.ShloMosaic.Lib.Pointwise

@[expose] public section

set_option maxRecDepth 16384

noncomputable section

namespace Cert.OutProj.Sample

open Idealize.ShloMosaic Cert.Reference5Ideal Cert.Reference5Ideal.Gen
open scoped BigOperators

/-- The error unit of the S5 rows. -/
def refGelu (a0 : FVec Ideal S128x1024 .f32) :
    FVec Ideal S128x1024 .f32 :=
  (mulf a0 (mulf (broadcastInDim S128x1024 ![] bcast_S_S128x1024 (constant S_ .f32 0x3F000000#32)) (addf (broadcastInDim S128x1024 ![]
    bcast_S_S128x1024 (constant S_ .f32 0x3F800000#32)) (Host.tanh (mulf (broadcastInDim S128x1024 ![] bcast_S_S128x1024 (constant S_ .f32
    0x3F4C422A#32)) (addf a0 (mulf (broadcastInDim S128x1024 ![] bcast_S_S128x1024 (constant S_ .f32 0x3D372713#32)) (mulf (mulf a0 a0) a0))))))))

/-- The S5 rows through the gated linear unit. -/
def refGated (a0 : FVec Ideal S128x1024 .f32) (a6 : FVec Ideal S1x1024x1024 .f32) (a7 : FVec Ideal S1x1024 .f32) :
    FVec Ideal S128x1024 .f32 :=
  (mulf (refGelu a0) (Host.divf (broadcastInDim S128x1024 ![] bcast_S_S128x1024 (constant S_ .f32 0x3F800000#32)) (addf (broadcastInDim S128x1024 ![]
    bcast_S_S128x1024 (constant S_ .f32 0x3F800000#32)) (Host.exp (Host.negf (addf (Host.dotGeneral dot_S128x1024_S1024x1024_S128x1024_1_0_0_1_n_n
    none (refGelu a0) (shapeCast S1024x1024 a6 shapeCasts_S1x1024x1024_S1024x1024)) (broadcastInDim S128x1024 ![0, 1] bcast_S1x1024_S128x1024_0_1
    (broadcastInDim S1x1024 ![1] bcast_S1024_S1x1024_1 (shapeCast S1024 a7 shapeCasts_S1x1024_S1024)))))))))

/-- The residual rows plus the two projected branches. -/
def refMerged (a0 : FVec Ideal S128x1024 .f32) (a1 : FVec Ideal S256x5120 .f32) (a2 : FVec Ideal S128x1024 .bf16) (a3 : FVec Ideal S256x4096 .bf16)
    (a4 : FVec Ideal S128x1x2048 .f32) (a5 : FVec Ideal S128x6144 .f32) (a6 : FVec Ideal S1x1024x1024 .f32) (a7 : FVec Ideal S1x1024 .f32) (a8 : FVec
    Ideal S1x2048x2048 .f32) :
    FVec Ideal S128x2048 .f32 :=
  (addf (shapeCast S128x2048 a4 shapeCasts_S128x1x2048_S128x2048) (mulf (extractStridedSlice S128x2048 ![0, 4096] a5
    slices_S128x6144_S128x2048_0_4096) (addf (mulf (extf .f32 (extractStridedSlice S128x2048 ![0, 0] a3 slices_S256x4096_S128x2048_0_0)
    bitsLt_bf16_f32) (Host.dotGeneral dot_S128x1024_S1024x2048_S128x2048_1_0_0_1_n_n none (mulf (refGated a0 a6 a7) (mulf (extractStridedSlice
    S128x1024 ![0, 1024] a1 slices_S256x5120_S128x1024_0_1024) (Host.divf (broadcastInDim S128x1024 ![] bcast_S_S128x1024 (constant S_ .f32
    0x3F800000#32)) (addf (broadcastInDim S128x1024 ![] bcast_S_S128x1024 (constant S_ .f32 0x3F800000#32)) (Host.exp (Host.negf (extractStridedSlice
    S128x1024 ![0, 1024] a1 slices_S256x5120_S128x1024_0_1024))))))) (extractStridedSlice S1024x2048 ![0, 0] (shapeCast S2048x2048 a8
    shapeCasts_S1x2048x2048_S2048x2048) slices_S2048x2048_S1024x2048_0_0))) (mulf (extf .f32 (extractStridedSlice S128x2048 ![0, 2048] a3
    slices_S256x4096_S128x2048_0_2048) bitsLt_bf16_f32) (Host.dotGeneral dot_S128x1024_S1024x2048_S128x2048_1_0_0_1_n_n none (extf .f32 a2
    bitsLt_bf16_f32) (extractStridedSlice S1024x2048 ![1024, 0] (shapeCast S2048x2048 a8 shapeCasts_S1x2048x2048_S2048x2048)
    slices_S2048x2048_S1024x2048_1024_0))))))

/-- The result: the final norm of the merged rows. -/
def refOut (a0 : FVec Ideal S128x1024 .f32) (a1 : FVec Ideal S256x5120 .f32) (a2 : FVec Ideal S128x1024 .bf16) (a3 : FVec Ideal S256x4096 .bf16) (a4
    : FVec Ideal S128x1x2048 .f32) (a5 : FVec Ideal S128x6144 .f32) (a6 : FVec Ideal S1x1024x1024 .f32) (a7 : FVec Ideal S1x1024 .f32) (a8 : FVec
    Ideal S1x2048x2048 .f32) (a9 : FVec Ideal S2048 .f32) :
    FVec Ideal S1x128x2048 .f32 :=
  (shapeCast S1x128x2048 (mulf (mulf (refMerged a0 a1 a2 a3 a4 a5 a6 a7 a8) (broadcastInDim S128x2048 ![0, 1] bcast_S128x1_S128x2048_0_1 (Host.rsqrt
    (addf (Host.divf (broadcastInDim S128x1 ![0] bcast_S128_S128x1_0 (Host.reduceAdd (mulf (refMerged a0 a1 a2 a3 a4 a5 a6 a7 a8) (refMerged a0 a1 a2
    a3 a4 a5 a6 a7 a8)) (constant S_ .f32 0x00000000#32) reducesTo_S128x2048_S128_d1 h_S_)) (broadcastInDim S128x1 ![] bcast_S_S128x1 (constant S_
    .f32 0x45000000#32))) (broadcastInDim S128x1 ![] bcast_S_S128x1 (constant S_ .f32 0x358637BD#32)))))) (broadcastInDim S128x2048 ![0, 1]
    bcast_S1x2048_S128x2048_0_1 (broadcastInDim S1x2048 ![1] bcast_S2048_S1x2048_1 a9))) shapeCasts_S128x2048_S1x128x2048)

theorem refGelu_at (a0 : FVec Ideal S128x1024 .f32) (a : Fin 128) (j : Fin 1024) :
    refGelu a0 (ix2 a j) = gelu (a0 (ix2 a j)) := by
  rw [gelu, ← mul_assoc (a0 (ix2 a j)) (a0 (ix2 a j)) (a0 (ix2 a j))]
  pointwise [refGelu]

theorem refGated_at (a0 : FVec Ideal S128x1024 .f32) (a6 : FVec Ideal S1x1024x1024 .f32) (a7 : FVec Ideal S1x1024 .f32)
    (a : Fin 128) (k : Fin 1024) :
    refGated a0 a6 a7 (ix2 a k)
      = gated (fun j => a0 (ix2 a j)) (fun j k => a6 (ix3 0 j k)) (fun k => a7 (ix2 0 k)) k := by
  simp only [gated, logi, ← refGelu_at]
  pointwise [refGated]

theorem refMerged_at (a0 : FVec Ideal S128x1024 .f32) (a1 : FVec Ideal S256x5120 .f32) (a2 : FVec Ideal S128x1024 .bf16)
    (a3 : FVec Ideal S256x4096 .bf16) (a4 : FVec Ideal S128x1x2048 .f32) (a5 : FVec Ideal S128x6144 .f32) (a6 : FVec Ideal S1x1024x1024 .f32)
    (a7 : FVec Ideal S1x1024 .f32) (a8 : FVec Ideal S1x2048x2048 .f32) (a : Fin 128) (n : Fin 2048) :
    refMerged a0 a1 a2 a3 a4 a5 a6 a7 a8 (ix2 a n)
      = merged (branch (fun j => a0 (ix2 a j)) (fun j => a1 (ix2 ⟨a.val, by omega⟩ ⟨1024 + j.val, by omega⟩))
            (fun j k => a6 (ix3 0 j k)) (fun k => a7 (ix2 0 k)))
          (fun k => a2 (ix2 a k)) (fun k n => a8 (ix3 0 ⟨k.val, by omega⟩ n)) (fun k n => a8 (ix3 0 ⟨1024 + k.val, by omega⟩ n))
          (fun n => a3 (ix2 ⟨a.val, by omega⟩ ⟨n.val, by omega⟩)) (fun n => a3 (ix2 ⟨a.val, by omega⟩ ⟨2048 + n.val, by omega⟩))
          (fun n => a4 (ix3 a 0 n)) (fun n => a5 (ix2 a ⟨4096 + n.val, by omega⟩)) n := by
  simp only [merged, branch, logi, ← refGated_at]
  pointwise [refMerged]

theorem refOut_at (a0 : FVec Ideal S128x1024 .f32) (a1 : FVec Ideal S256x5120 .f32) (a2 : FVec Ideal S128x1024 .bf16)
    (a3 : FVec Ideal S256x4096 .bf16) (a4 : FVec Ideal S128x1x2048 .f32) (a5 : FVec Ideal S128x6144 .f32) (a6 : FVec Ideal S1x1024x1024 .f32)
    (a7 : FVec Ideal S1x1024 .f32) (a8 : FVec Ideal S1x2048x2048 .f32) (a9 : FVec Ideal S2048 .f32) (o : Fin 1) (a : Fin 128) (n : Fin 2048) :
    refOut a0 a1 a2 a3 a4 a5 a6 a7 a8 a9 (ix3 o a n)
      = normed (fun n => refMerged a0 a1 a2 a3 a4 a5 a6 a7 a8 (ix2 a n)) (fun n => a9 (ix1 n)) n := by
  simp only [normed]
  pointwise [refOut]

end Cert.OutProj.Sample

end
-- ==== Proof.OutS.Value.lean ====
/- The sample call of the output projection: what its blocks read, and its result. -/
module

public import proofs.«01_k».proof.Proof.Gen.Kernel5Ideal
public import proofs.«01_k».proof.Proof.Gen.Kernel5Ideal.Frame
public import proofs.«01_k».proof.Proof.OutS.Pay
public import proofs.«01_k».proof.Proof.OutS.Ref
import Idealize.ShloMosaic.Lib.Pointwise
public import Idealize.ShloMosaic.Lib.Pipeline.Value
import Idealize.ShloMosaic.Lib.Pipeline.ValueKit.Point
import Idealize.ShloMosaic.Lib.Claim
import Idealize.ShloMosaic.Lib.StableHlo.Run

@[expose] public section

set_option maxRecDepth 16384

noncomputable section

namespace Cert.OutProj.Sample

open Idealize.ShloMosaic Idealize.ShloMosaic.TcCoe Idealize.SL.Sem Cert.Kernel5Ideal Cert.Kernel5Ideal.Gen
open scoped BigOperators

variable (m : (ℓ : Loc nD τ sig) → Buf (Elt Ideal) ℓ)

/-- Every window's index at the one point. -/
theorem idx : ∀ t : Fin cfg0.N, win0_0.index t = ![0, 0, 0] ∧ win0_1.index t = ![0, 0, 1] ∧ win0_2.index t = ![0, 0]
    ∧ win0_3.index t = ![0, 0] ∧ win0_4.index t = ![0, 0, 0] ∧ win0_5.index t = ![0, 0, 0] ∧ win0_6.index t = ![0, 0, 1]
    ∧ win0_7.index t = ![0, 0, 0] ∧ win0_8.index t = ![0, 0, 2] ∧ win0_9.index t = ![0, 0] ∧ win0_10.index t = ![1, 0]
    ∧ win0_11.index t = ![0, 0] ∧ win0_12.index t = ![0, 0, 0] :=
  (by decide +kernel : ∀ t : Fin grid0.N, _)

/-- The block of the S5 rows. -/
theorem read_0 (c : Dev nD) (t : Fin cfg0.N) (a : Fin 128) (j : Fin 1024) :
    iblk m c 0 t (ix3 0 a j) = m ((c : Thread nD τ).loc main_arg0) (ix2 a j) := by
  obtain ⟨e0, e1, e2, e3, e4, e5, e6, e7, e8, e9, e10, e11, e12⟩ := idx t
  blk_point [iblk, V, e0]

/-- The block of the second rows. -/
theorem read_1 (c : Dev nD) (t : Fin cfg0.N) (a : Fin 128) (j : Fin 1024) :
    iblk m c 1 t (ix3 0 a j) = m ((c : Thread nD τ).loc main_arg1) (ix2 ⟨a.val, by omega⟩ ⟨1024 + j.val, by omega⟩) := by
  obtain ⟨e0, e1, e2, e3, e4, e5, e6, e7, e8, e9, e10, e11, e12⟩ := idx t
  blk_point [iblk, V, e1]

/-- The block of the weight of the gate. -/
theorem read_2 (c : Dev nD) (t : Fin cfg0.N) (j k : Fin 1024) :
    iblk m c 2 t (ix2 j k) = m ((c : Thread nD τ).loc main_arg6) (ix3 0 j k) := by
  obtain ⟨e0, e1, e2, e3, e4, e5, e6, e7, e8, e9, e10, e11, e12⟩ := idx t
  blk_point [iblk, V, e2]

/-- The block of the bias of the gate. -/
theorem read_3 (c : Dev nD) (t : Fin cfg0.N) (k : Fin 1024) :
    iblk m c 3 t (ix2 0 k) = m ((c : Thread nD τ).loc main_arg7) (ix2 0 k) := by
  obtain ⟨e0, e1, e2, e3, e4, e5, e6, e7, e8, e9, e10, e11, e12⟩ := idx t
  blk_point [iblk, V, e3]

/-- The block of the recurrent rows. -/
theorem read_4 (c : Dev nD) (t : Fin cfg0.N) (a : Fin 128) (j : Fin 1024) :
    iblk m c 4 t (ix3 0 a j) = m ((c : Thread nD τ).loc main_arg2) (ix2 a j) := by
  obtain ⟨e0, e1, e2, e3, e4, e5, e6, e7, e8, e9, e10, e11, e12⟩ := idx t
  blk_point [iblk, V, e4]

/-- The block of the first mixing gate. -/
theorem read_5 (c : Dev nD) (t : Fin cfg0.N) (a : Fin 128) (n : Fin 2048) :
    iblk m c 5 t (ix3 0 a n) = m ((c : Thread nD τ).loc main_arg3) (ix2 ⟨a.val, by omega⟩ ⟨n.val, by omega⟩) := by
  obtain ⟨e0, e1, e2, e3, e4, e5, e6, e7, e8, e9, e10, e11, e12⟩ := idx t
  blk_point [iblk, V, e5]

/-- The block of the second mixing gate. -/
theorem read_6 (c : Dev nD) (t : Fin cfg0.N) (a : Fin 128) (n : Fin 2048) :
    iblk m c 6 t (ix3 0 a n) = m ((c : Thread nD τ).loc main_arg3) (ix2 ⟨a.val, by omega⟩ ⟨2048 + n.val, by omega⟩) := by
  obtain ⟨e0, e1, e2, e3, e4, e5, e6, e7, e8, e9, e10, e11, e12⟩ := idx t
  blk_point [iblk, V, e6]

/-- The block of the residual rows. -/
theorem read_7 (c : Dev nD) (t : Fin cfg0.N) (a : Fin 128) (n : Fin 2048) :
    iblk m c 7 t (ix3 0 a n) = m ((c : Thread nD τ).loc main_arg4) (ix3 a 0 n) := by
  obtain ⟨e0, e1, e2, e3, e4, e5, e6, e7, e8, e9, e10, e11, e12⟩ := idx t
  blk_point [iblk, V, e7]

/-- The block of the residual gate. -/
theorem read_8 (c : Dev nD) (t : Fin cfg0.N) (a : Fin 128) (n : Fin 2048) :
    iblk m c 8 t (ix3 0 a n) = m ((c : Thread nD τ).loc main_arg5) (ix2 a ⟨4096 + n.val, by omega⟩) := by
  obtain ⟨e0, e1, e2, e3, e4, e5, e6, e7, e8, e9, e10, e11, e12⟩ := idx t
  blk_point [iblk, V, e8]

/-- The block of the upper half of the output weight. -/
theorem read_9 (c : Dev nD) (t : Fin cfg0.N) (k : Fin 1024) (n : Fin 2048) :
    iblk m c 9 t (ix2 k n) = m ((c : Thread nD τ).loc main_arg8) (ix3 0 ⟨k.val, by omega⟩ n) := by
  obtain ⟨e0, e1, e2, e3, e4, e5, e6, e7, e8, e9, e10, e11, e12⟩ := idx t
  blk_point [iblk, V, e9]

/-- The block of the lower half of the output weight. -/
theorem read_10 (c : Dev nD) (t : Fin cfg0.N) (k : Fin 1024) (n : Fin 2048) :
    iblk m c 10 t (ix2 k n) = m ((c : Thread nD τ).loc main_arg8) (ix3 0 ⟨1024 + k.val, by omega⟩ n) := by
  obtain ⟨e0, e1, e2, e3, e4, e5, e6, e7, e8, e9, e10, e11, e12⟩ := idx t
  blk_point [iblk, V, e10]

/-- The block of the weight of the final norm. -/
theorem read_11 (c : Dev nD) (t : Fin cfg0.N) (n : Fin 2048) :
    iblk m c 11 t (ix2 0 n) = m ((c : Thread nD τ).loc main_arg9) (ix1 n) := by
  obtain ⟨e0, e1, e2, e3, e4, e5, e6, e7, e8, e9, e10, e11, e12⟩ := idx t
  blk_point [iblk, V, e11]

/-- The gated row the body computes at a point. -/
def gatedRow (c : Dev nD) (t : Fin cfg0.N) : FVec Ideal S128x1024 .f32 :=
  k0_pay2 (iblk m c 0 t) (iblk m c 2 t) (iblk m c 3 t)

/-- The merged row the body computes at a point. -/
def mergedRow (c : Dev nD) (t : Fin cfg0.N) : FVec Ideal S128x2048 .f32 :=
  k0_pay5 (gatedRow m c t) (k0_pay3 (iblk m c 1 t)) (k0_pay4 (iblk m c 1 t)) (iblk m c 5 t) (iblk m c 9 t) (iblk m c 6 t) (iblk m c 4 t)
    (iblk m c 10 t) (iblk m c 7 t) (iblk m c 8 t)

/-- The merged row is the reference's. -/
theorem mergedRow_at (c : Dev nD) (t : Fin cfg0.N) (a : Fin 128) (n : Fin 2048) :
    mergedRow m c t (ix2 a n) = refMerged (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) (m ((c : Thread nD τ).loc main_arg7))
        (m ((c : Thread nD τ).loc main_arg8)) (ix2 a n) := by
  unfold mergedRow gatedRow
  rw [pay5_at, refMerged_at]
  unfold branch
  simp only [pay2_at, read_0, read_1, read_2, read_3, read_4, read_5, read_6, read_7, read_8, read_9, read_10]

theorem point (c : Dev nD) (t : Fin cfg0.N) (y) :
    k0_pay1 (mergedRow m c t) (k0_pay6 (gatedRow m c t) (k0_pay3 (iblk m c 1 t)) (k0_pay4 (iblk m c 1 t)) (iblk m c 5 t) (iblk m c 9 t)
        (iblk m c 6 t) (iblk m c 4 t) (iblk m c 10 t) (iblk m c 7 t) (iblk m c 8 t)) (iblk m c 11 t) y
      = refOut (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) (m ((c : Thread nD τ).loc main_arg7))
        (m ((c : Thread nD τ).loc main_arg8))
        (m ((c : Thread nD τ).loc main_arg9)) (((cfg0.win 12).blk t).view.emb y) := by
  obtain ⟨o, a, n, rfl⟩ : ∃ (o : Fin 1) (a : Fin 128) (n : Fin 2048), y = ix3 o a n := ⟨y 0, y 1, y 2, eq_ix3 y⟩
  have he : ((cfg0.win 12).blk t).view.emb (ix3 o a n) = (ix3 o a n : S1x128x2048.Idx) := by
    have e := (idx t).2.2.2.2.2.2.2.2.2.2.2.2
    blk_ext [e]
  rw [he, refOut_at]
  refine (pay1_at _ _ _ _ _ _ _ _ _ _ _ o a n).trans ?_
  simp only [read_11, ← mergedRow_at m c t]
  rfl

/-- The first named value over the blocks. -/
theorem pay7_eq (x0 x1 : Vec Ideal S1x128x1024 .f32) (x2 : Vec Ideal S1024x1024 .bf16) (x3 : Vec Ideal S1x1024 .f32) (x4 : Vec Ideal S1x128x1024 .bf16)
    (x5 x6 : Vec Ideal S1x128x2048 .bf16) (x7 x8 : Vec Ideal S1x128x2048 .f32) (x9 x10 : Vec Ideal S1024x2048 .bf16) (x11 : Vec Ideal S1x2048 .f32) :
    k0_pay7 x0 x1 x2 x3 x4 x5 x6 x7 x8 x9 x10 x11 = k0_pay2 x0 x2 x3
    ∧ k0_pay8 x0 x1 x2 x3 x4 x5 x6 x7 x8 x9 x10 x11 = k0_pay3 x1
    ∧ k0_pay9 x0 x1 x2 x3 x4 x5 x6 x7 x8 x9 x10 x11 = k0_pay4 x1 := by
  refine ⟨?_, ?_, ?_⟩
  · unfold k0_pay7; frame_out; done
  · unfold k0_pay8; frame_out; done
  · unfold k0_pay9; frame_out; done

/-- The result array after the run. -/
theorem final (c : Dev nD) : (dats m 0 c).arrAt 12 (cfgs 0).N
    = refOut (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) (m ((c : Thread nD τ).loc main_arg7))
        (m ((c : Thread nD τ).loc main_arg8))
        (m ((c : Thread nD τ).loc main_arg9)) := by
  refine (dats m 0 c).arrAt_eq_of_covers 12 _ (by decide +kernel) fun t hf y => ?_
  blk_simp
  rw [after0_12]
  frame_out
  rw [(pay7_eq _ _ _ _ _ _ _ _ _ _ _ _).1, (pay7_eq _ _ _ _ _ _ _ _ _ _ _ _).2.1, (pay7_eq _ _ _ _ _ _ _ _ _ _ _ _).2.2]
  exact point m c t y

end Cert.OutProj.Sample

end
-- ==== Proof.OutS.Pair.lean ====
/- The sample call of the output projection against its reference: the two end with the same rows, and leave their arguments alone. -/
module

public import proofs.«01_k».proof.Defs
public import proofs.«01_k».proof.Proof.Gen.Kernel5
public import proofs.«01_k».proof.Proof.OutS.Value

@[expose] public section

set_option maxRecDepth 16384

noncomputable section

namespace Cert.OutProj.Sample

open Idealize.ShloMosaic Idealize.SL.Sem

/-- The kernel as written and its idealization have one body table. -/
theorem table_eq : Cert.Kernel5.defs₀ (F := Bits) = Cert.Kernel5Ideal.defs₀ (F := Bits) := by
  unfold Cert.Kernel5.defs₀ Cert.Kernel5Ideal.defs₀
  refine congrArg Defs.onTc ?_
  funext l a
  match l, a with
  | 0, (t, s) => rfl

theorem defs_eq : Cert.Kernel5.defs (F := Bits) = Cert.Kernel5Ideal.defs (F := Bits) :=
  congrArg (Pipeline.defs Cert.Kernel5Ideal.pcfgs) table_eq

/-- The kernel as written, at the hardware's own floats: the run is stated for any float instance. -/
theorem frame_kernel : Cert.quiescent_Kernel5 := fun m ρ _ => by
  rw [defs_eq]
  exact Cert.Kernel5Ideal.Gen.frame (F := Bits) m ρ

/-- The idealized kernel ends with its counters at zero and its arguments as it found them. -/
theorem frame_ideal : Cert.quiescent_Kernel5Ideal := fun m ρ _ => Cert.Kernel5Ideal.Gen.frame m ρ

/-- The reference ends with its counters at zero and its arguments as it found them. -/
theorem frame_reference : Cert.quiescent_Reference5Ideal := by
  intro m g _
  refine (θ_run Cert.Reference5Ideal.defs _ _).mono (fun r h => ⟨h, sem_eq_zero_of_no_sems (by decide) r.2⟩) ?_
  hlo_run

set_option maxHeartbeats 4000000 in
/-- Over the reals the call's result is the reference's. -/
theorem algebraic : Cert.algebraic_Kernel5Ideal_Reference5Ideal := by
  pair_intro
  · run_from Cert.Kernel5Ideal.Gen.run_main m g
  · hlo_run
    exact (final m c).symm

end Cert.OutProj.Sample

end
-- ==== Proof.OutP.Ref.lean ====
/- The prompt reference of the output projection, stage by stage. -/
module

public import proofs.«01_k».proof.Proof.Gen.Reference6Ideal
public import proofs.«01_k».proof.Proof.OutProj.Row
import Idealize.ShloMosaic.Lib.Pointwise

@[expose] public section

set_option maxRecDepth 16384

noncomputable section

namespace Cert.OutProj.Prompt

open Idealize.ShloMosaic Cert.Reference6Ideal Cert.Reference6Ideal.Gen
open scoped BigOperators

/-- The S5 rows with their lanes put back in order. -/
def refYs (a0 : FVec Ideal S4x2048x1024 .bf16) :
    FVec Ideal S4x2048x1024 .f32 :=
  (extf .f32 (shapeCast S4x2048x1024 (transpose S4x2048x2x4x128 [0, 1, 3, 2, 4] (shapeCast S4x2048x4x2x128 a0
    shapeCasts_S4x2048x1024_S4x2048x4x2x128) transposes_S4x2048x4x2x128_S4x2048x2x4x128_0_1_3_2_4) shapeCasts_S4x2048x2x4x128_S4x2048x1024)
    bitsLt_bf16_f32)

/-- The error unit of the S5 rows. -/
def refGelu (a0 : FVec Ideal S4x2048x1024 .bf16) :
    FVec Ideal S4x2048x1024 .f32 :=
  (mulf (refYs a0) (mulf (broadcastInDim S4x2048x1024 ![] bcast_S_S4x2048x1024 (constant S_ .f32 0x3F000000#32)) (addf (broadcastInDim S4x2048x1024
    ![] bcast_S_S4x2048x1024 (constant S_ .f32 0x3F800000#32)) (Host.tanh (mulf (broadcastInDim S4x2048x1024 ![] bcast_S_S4x2048x1024 (constant S_
    .f32 0x3F4C422A#32)) (addf (refYs a0) (mulf (broadcastInDim S4x2048x1024 ![] bcast_S_S4x2048x1024 (constant S_ .f32 0x3D372713#32)) (mulf (mulf
    (refYs a0) (refYs a0)) (refYs a0)))))))))

/-- The S5 rows through the gated linear unit. -/
def refGated (a0 : FVec Ideal S4x2048x1024 .bf16) (a6 : FVec Ideal S1x1024x1024 .f32) (a7 : FVec Ideal S1x1024 .f32) :
    FVec Ideal S4x2048x1024 .f32 :=
  (mulf (refGelu a0) (Host.divf (broadcastInDim S4x2048x1024 ![] bcast_S_S4x2048x1024 (constant S_ .f32 0x3F800000#32)) (addf (broadcastInDim
    S4x2048x1024 ![] bcast_S_S4x2048x1024 (constant S_ .f32 0x3F800000#32)) (Host.exp (Host.negf (addf (Host.dotGeneral
    dot_S4x2048x1024_S1024x1024_S4x2048x1024_2_0_01_1_n_n none (refGelu a0) (shapeCast S1024x1024 a6 shapeCasts_S1x1024x1024_S1024x1024))
    (broadcastInDim S4x2048x1024 ![0, 1, 2] bcast_S1x1x1024_S4x2048x1024_0_1_2 (broadcastInDim S1x1x1024 ![2] bcast_S1024_S1x1x1024_2 (shapeCast
    S1024 a7 shapeCasts_S1x1024_S1024)))))))))

/-- The residual rows plus the two projected branches. -/
def refMerged (a0 : FVec Ideal S4x2048x1024 .bf16) (a1 : FVec Ideal S8192x5120 .f32) (a2 : FVec Ideal S4x2048x1024 .bf16) (a3 : FVec Ideal S8192x4096
    .bf16) (a4 : FVec Ideal S4x2048x2048 .f32) (a5 : FVec Ideal S4x6144 .f32) (a6 : FVec Ideal S1x1024x1024 .f32) (a7 : FVec Ideal S1x1024 .f32) (a8
    : FVec Ideal S1x2048x2048 .f32) :
    FVec Ideal S4x2048x2048 .f32 :=
  (addf a4 (mulf (broadcastInDim S4x2048x2048 ![0, 1, 2] bcast_S4x1x2048_S4x2048x2048_0_1_2 (broadcastInDim S4x1x2048 ![0, 2]
    bcast_S4x2048_S4x1x2048_0_2 (extractStridedSlice S4x2048 ![0, 4096] a5 slices_S4x6144_S4x2048_0_4096))) (addf (mulf (extf .f32
    (extractStridedSlice S4x2048x2048 ![0, 0, 0] (shapeCast S4x2048x4096 a3 shapeCasts_S8192x4096_S4x2048x4096)
    slices_S4x2048x4096_S4x2048x2048_0_0_0) bitsLt_bf16_f32) (Host.dotGeneral dot_S4x2048x1024_S1024x2048_S4x2048x2048_2_0_01_1_n_n none (mulf
    (refGated a0 a6 a7) (mulf (extractStridedSlice S4x2048x1024 ![0, 0, 1024] (shapeCast S4x2048x5120 a1 shapeCasts_S8192x5120_S4x2048x5120)
    slices_S4x2048x5120_S4x2048x1024_0_0_1024) (Host.divf (broadcastInDim S4x2048x1024 ![] bcast_S_S4x2048x1024 (constant S_ .f32 0x3F800000#32))
    (addf (broadcastInDim S4x2048x1024 ![] bcast_S_S4x2048x1024 (constant S_ .f32 0x3F800000#32)) (Host.exp (Host.negf (extractStridedSlice
    S4x2048x1024 ![0, 0, 1024] (shapeCast S4x2048x5120 a1 shapeCasts_S8192x5120_S4x2048x5120) slices_S4x2048x5120_S4x2048x1024_0_0_1024)))))))
    (extractStridedSlice S1024x2048 ![0, 0] (shapeCast S2048x2048 a8 shapeCasts_S1x2048x2048_S2048x2048) slices_S2048x2048_S1024x2048_0_0))) (mulf
    (extf .f32 (extractStridedSlice S4x2048x2048 ![0, 0, 2048] (shapeCast S4x2048x4096 a3 shapeCasts_S8192x4096_S4x2048x4096)
    slices_S4x2048x4096_S4x2048x2048_0_0_2048) bitsLt_bf16_f32) (Host.dotGeneral dot_S4x2048x1024_S1024x2048_S4x2048x2048_2_0_01_1_n_n none (extf
    .f32 a2 bitsLt_bf16_f32) (extractStridedSlice S1024x2048 ![1024, 0] (shapeCast S2048x2048 a8 shapeCasts_S1x2048x2048_S2048x2048)
    slices_S2048x2048_S1024x2048_1024_0))))))

/-- The result: the final norm of the merged rows. -/
def refOut (a0 : FVec Ideal S4x2048x1024 .bf16) (a1 : FVec Ideal S8192x5120 .f32) (a2 : FVec Ideal S4x2048x1024 .bf16) (a3 : FVec Ideal S8192x4096
    .bf16) (a4 : FVec Ideal S4x2048x2048 .f32) (a5 : FVec Ideal S4x6144 .f32) (a6 : FVec Ideal S1x1024x1024 .f32) (a7 : FVec Ideal S1x1024 .f32) (a8
    : FVec Ideal S1x2048x2048 .f32) (a9 : FVec Ideal S2048 .f32) :
    FVec Ideal S4x2048x2048 .f32 :=
  (mulf (mulf (refMerged a0 a1 a2 a3 a4 a5 a6 a7 a8) (broadcastInDim S4x2048x2048 ![0, 1, 2] bcast_S4x2048x1_S4x2048x2048_0_1_2 (Host.rsqrt (addf
    (Host.divf (broadcastInDim S4x2048x1 ![0, 1] bcast_S4x2048_S4x2048x1_0_1 (Host.reduceAdd (mulf (refMerged a0 a1 a2 a3 a4 a5 a6 a7 a8) (refMerged
    a0 a1 a2 a3 a4 a5 a6 a7 a8)) (constant S_ .f32 0x00000000#32) reducesTo_S4x2048x2048_S4x2048_d2 h_S_)) (broadcastInDim S4x2048x1 ![]
    bcast_S_S4x2048x1 (constant S_ .f32 0x45000000#32))) (broadcastInDim S4x2048x1 ![] bcast_S_S4x2048x1 (constant S_ .f32 0x358637BD#32))))))
    (broadcastInDim S4x2048x2048 ![0, 1, 2] bcast_S1x1x2048_S4x2048x2048_0_1_2 (broadcastInDim S1x1x2048 ![2] bcast_S2048_S1x1x2048_2 a9)))

/-- Where lane `j` of the reordered S5 rows comes from: the two halves of the lanes are interleaved in blocks of 128. -/
def lane (j : Fin 1024) : Fin 1024 := ⟨j.val / 128 % 4 * 256 + j.val / 512 * 128 + j.val % 128, by omega⟩

theorem refYs_at (a0 : FVec Ideal S4x2048x1024 .bf16) (p : Fin 4) (a : Fin 2048) (j : Fin 1024) :
    refYs a0 (ix3 p a j) = a0 (ix3 p a (lane j)) := by
  unfold lane
  pointwise [refYs]

theorem refGelu_at (a0 : FVec Ideal S4x2048x1024 .bf16) (p : Fin 4) (a : Fin 2048) (j : Fin 1024) :
    refGelu a0 (ix3 p a j) = gelu (refYs a0 (ix3 p a j)) := by
  rw [gelu, ← mul_assoc (refYs a0 (ix3 p a j)) (refYs a0 (ix3 p a j)) (refYs a0 (ix3 p a j))]
  pointwise [refGelu]

theorem refGated_at (a0 : FVec Ideal S4x2048x1024 .bf16) (a6 : FVec Ideal S1x1024x1024 .f32) (a7 : FVec Ideal S1x1024 .f32)
    (p : Fin 4) (a : Fin 2048) (k : Fin 1024) :
    refGated a0 a6 a7 (ix3 p a k)
      = gated (fun j => refYs a0 (ix3 p a j)) (fun j k => a6 (ix3 0 j k)) (fun k => a7 (ix2 0 k)) k := by
  simp only [gated, logi, ← refGelu_at]
  pointwise [refGated]

theorem refMerged_at (a0 : FVec Ideal S4x2048x1024 .bf16) (a1 : FVec Ideal S8192x5120 .f32) (a2 : FVec Ideal S4x2048x1024 .bf16)
    (a3 : FVec Ideal S8192x4096 .bf16) (a4 : FVec Ideal S4x2048x2048 .f32) (a5 : FVec Ideal S4x6144 .f32) (a6 : FVec Ideal S1x1024x1024 .f32)
    (a7 : FVec Ideal S1x1024 .f32) (a8 : FVec Ideal S1x2048x2048 .f32) (p : Fin 4) (a : Fin 2048) (n : Fin 2048) :
    refMerged a0 a1 a2 a3 a4 a5 a6 a7 a8 (ix3 p a n)
      = merged (branch (fun j => refYs a0 (ix3 p a j)) (fun j => a1 (ix2 ⟨p.val * 2048 + a.val, by omega⟩ ⟨1024 + j.val, by omega⟩))
            (fun j k => a6 (ix3 0 j k)) (fun k => a7 (ix2 0 k)))
          (fun k => a2 (ix3 p a k)) (fun k n => a8 (ix3 0 ⟨k.val, by omega⟩ n)) (fun k n => a8 (ix3 0 ⟨1024 + k.val, by omega⟩ n))
          (fun n => a3 (ix2 ⟨p.val * 2048 + a.val, by omega⟩ ⟨n.val, by omega⟩))
          (fun n => a3 (ix2 ⟨p.val * 2048 + a.val, by omega⟩ ⟨2048 + n.val, by omega⟩))
          (fun n => a4 (ix3 p a n)) (fun n => a5 (ix2 p ⟨4096 + n.val, by omega⟩)) n := by
  simp only [merged, branch, logi, ← refGated_at]
  pointwise [refMerged]

theorem refOut_at (a0 : FVec Ideal S4x2048x1024 .bf16) (a1 : FVec Ideal S8192x5120 .f32) (a2 : FVec Ideal S4x2048x1024 .bf16)
    (a3 : FVec Ideal S8192x4096 .bf16) (a4 : FVec Ideal S4x2048x2048 .f32) (a5 : FVec Ideal S4x6144 .f32) (a6 : FVec Ideal S1x1024x1024 .f32)
    (a7 : FVec Ideal S1x1024 .f32) (a8 : FVec Ideal S1x2048x2048 .f32) (a9 : FVec Ideal S2048 .f32) (p : Fin 4) (a : Fin 2048) (n : Fin 2048) :
    refOut a0 a1 a2 a3 a4 a5 a6 a7 a8 a9 (ix3 p a n)
      = normed (fun n => refMerged a0 a1 a2 a3 a4 a5 a6 a7 a8 (ix3 p a n)) (fun n => a9 (ix1 n)) n := by
  simp only [normed]
  pointwise [refOut]

end Cert.OutProj.Prompt

end
-- ==== Proof.OutP.Pay.lean ====
/- The payloads of the prompt call of the output projection, read at an element. -/
module

public import proofs.«01_k».proof.Proof.Gen.Kernel6Ideal.Skeleton
public import proofs.«01_k».proof.Proof.OutP.Ref
import Idealize.ShloMosaic.Lib.Pointwise

@[expose] public section

set_option maxRecDepth 16384

noncomputable section

namespace Cert.OutProj.Prompt

open Idealize.ShloMosaic Cert.Kernel6Ideal Cert.Kernel6Ideal.Gen
open scoped BigOperators

/-- The S5 rows with their lanes put back in order, by eight slices. -/
def ordered (ys : Vec Ideal S1x512x1024 .bf16) : FVec Ideal S512x1024 .f32 :=
  have v2 : FVec Ideal S512x1024 .f32 := extf .f32 (shapeCast S512x1024 ys shapeCasts_S1x512x1024_S512x1024) bitsLt_bf16_f32
  concatenate S512x1024 1
    [⟨S512x128, extractStridedSlice S512x128 ![0, 0] v2 slices_S512x1024_o0_0_S512x128⟩,
     ⟨S512x128, extractStridedSlice S512x128 ![0, 256] v2 slices_S512x1024_o0_256_S512x128⟩,
     ⟨S512x128, extractStridedSlice S512x128 ![0, 512] v2 slices_S512x1024_o0_512_S512x128⟩,
     ⟨S512x128, extractStridedSlice S512x128 ![0, 768] v2 slices_S512x1024_o0_768_S512x128⟩,
     ⟨S512x128, extractStridedSlice S512x128 ![0, 128] v2 slices_S512x1024_o0_128_S512x128⟩,
     ⟨S512x128, extractStridedSlice S512x128 ![0, 384] v2 slices_S512x1024_o0_384_S512x128⟩,
     ⟨S512x128, extractStridedSlice S512x128 ![0, 640] v2 slices_S512x1024_o0_640_S512x128⟩,
     ⟨S512x128, extractStridedSlice S512x128 ![0, 896] v2 slices_S512x1024_o0_896_S512x128⟩]
    concatenates_S512x128_S512x128_S512x128_S512x128_S512x128_S512x128_S512x128_S512x128_S512x1024_d1

theorem ordered_at (ys : Vec Ideal S1x512x1024 .bf16) (a : Fin 512) (j : Fin 1024) :
    ordered ys (ix2 a j) = ys (ix3 0 a (lane j)) := by
  unfold lane
  pointwise [ordered]
  repeat' split
  all_goals
    refine congrArg (fun q => ys (ix3 0 a q)) (Fin.ext ?_)
    dsimp only
    omega

/-- The gated row, over reordered rows. -/
def gatedOf (v11 : FVec Ideal S512x1024 .f32) (wg : Vec Ideal S1024x1024 .bf16) (bg : Vec Ideal S1x1024 .f32) : FVec Ideal S512x1024 .f32 :=
  have v24 : FVec Ideal S512x1024 .f32 := mulf v11 (mulf (broadcast S512x1024 (Scalar.ofBits .f32 0x3F000000#32))
    (addf (broadcast S512x1024 (Scalar.ofBits .f32 0x3F800000#32)) (tanh (mulf (broadcast S512x1024 (Scalar.ofBits .f32 0x3F4C422A#32))
      (addf v11 (mulf (broadcast S512x1024 (Scalar.ofBits .f32 0x3D372713#32)) (mulf v11 (mulf v11 v11))))))))
  have wg' : FVec Ideal S1024x1024 .bf16 := shapeCast S1024x1024 wg shapeCasts_S1024x1024_S1024x1024
  have v32 : FVec Ideal S512x1024 .f32 := addf (matmul dot_S512x1024_S1024x1024_S512x1024_1_0_0_1_n_n none (truncf .bf16 v24 bitsLt_bf16_f32)
      wg' (constant S512x1024 .f32 0x00000000#32))
    (broadcastTo S512x1024 (shapeCast S1x1024 bg shapeCasts_S1x1024_S1x1024) broadcasts_S1x1024_S512x1024)
  mulf v24 (addf (mulf (broadcast S512x1024 (Scalar.ofBits .f32 0x3F000000#32))
    (tanh (mulf (broadcast S512x1024 (Scalar.ofBits .f32 0x3F000000#32)) v32))) (broadcast S512x1024 (Scalar.ofBits .f32 0x3F000000#32)))

theorem pay2_eq (ys : Vec Ideal S1x512x1024 .bf16) (wg : Vec Ideal S1024x1024 .bf16) (bg : Vec Ideal S1x1024 .f32) :
    k0_pay2 ys wg bg = gatedOf (ordered ys) wg bg := rfl

theorem gatedOf_at (v11 : FVec Ideal S512x1024 .f32) (wg : Vec Ideal S1024x1024 .bf16) (bg : Vec Ideal S1x1024 .f32) (a : Fin 512) (k : Fin 1024) :
    gatedOf v11 wg bg (ix2 a k) = gated (fun j => v11 (ix2 a j)) (fun j k => wg (ix2 j k)) (fun k => bg (ix2 0 k)) k := by
  unfold gated
  rw [← logi_tanh]
  simp only [gelu]
  pointwise [gatedOf]

/-- The merged row, from the gated row and the second row. -/
theorem merged_at (v : FVec Ideal S512x1024 .f32) (z : Vec Ideal S1x512x1024 .f32)
    (g₁ : Vec Ideal S1x512x2048 .bf16) (w₁ : Vec Ideal S1024x2048 .bf16) (g₂ : Vec Ideal S1x512x2048 .bf16) (r : Vec Ideal S1x512x1024 .bf16)
    (w₂ : Vec Ideal S1024x2048 .bf16) (x : Vec Ideal S1x512x2048 .f32) (gt : Vec Ideal S1x1x2048 .f32) (a : Fin 512) (n : Fin 2048) :
    addf (F := Ideal) (k0_pay3 x) (k0_pay4 v z g₁ w₁ g₂ r w₂ gt) (ix2 a n)
      = merged (fun k => v (ix2 a k) * (z (ix3 0 a k) * logi (z (ix3 0 a k)))) (fun k => r (ix3 0 a k))
          (fun k n => w₁ (ix2 k n)) (fun k n => w₂ (ix2 k n)) (fun n => g₁ (ix3 0 a n)) (fun n => g₂ (ix3 0 a n))
          (fun n => x (ix3 0 a n)) (fun n => gt (ix3 0 0 n)) n := by
  simp only [merged, ← logi_tanh]
  pointwise [k0_pay3, k0_pay4]

/-- The normed row, from the merged one. -/
theorem pay1_at (v w : FVec Ideal S512x2048 .f32) (fg : Vec Ideal S1x2048 .f32) (o : Fin 1) (a : Fin 512) (n : Fin 2048) :
    k0_pay1 v w fg (ix3 o a n) = normed (fun n => addf (F := Ideal) v w (ix2 a n)) (fun n => fg (ix2 0 n)) n := by
  simp only [normed]
  pointwise [k0_pay1]

end Cert.OutProj.Prompt

end
-- ==== Proof.OutP.Value.lean ====
/- The prompt call of the output projection: what its blocks read, and its result. -/
module

public import proofs.«01_k».proof.Proof.Gen.Kernel6Ideal
public import proofs.«01_k».proof.Proof.Gen.Kernel6Ideal.Frame
public import proofs.«01_k».proof.Proof.OutP.Pay
public import proofs.«01_k».proof.Proof.OutP.Ref
import Idealize.ShloMosaic.Lib.Pointwise
public import Idealize.ShloMosaic.Lib.Pipeline.Value
import Idealize.ShloMosaic.Lib.Pipeline.ValueKit.Point
import Idealize.ShloMosaic.Lib.Claim
import Idealize.ShloMosaic.Lib.StableHlo.Run

@[expose] public section

set_option maxRecDepth 16384

noncomputable section

namespace Cert.OutProj.Prompt

open Idealize.ShloMosaic Idealize.ShloMosaic.TcCoe Idealize.SL.Sem Cert.Kernel6Ideal Cert.Kernel6Ideal.Gen
open scoped BigOperators

variable (m : (ℓ : Loc nD τ sig) → Buf (Elt Ideal) ℓ)

/-- Every window's index at a point. -/
theorem idx : ∀ t : Fin cfg0.N, win0_0.index t = ![t.val / 4, t.val % 4, 0] ∧ win0_1.index t = ![t.val / 4, t.val % 4, 1]
    ∧ win0_2.index t = ![0, 0] ∧ win0_3.index t = ![0, 0] ∧ win0_4.index t = ![t.val / 4, t.val % 4, 0]
    ∧ win0_5.index t = ![t.val / 4, t.val % 4, 0] ∧ win0_6.index t = ![t.val / 4, t.val % 4, 1]
    ∧ win0_7.index t = ![t.val / 4, t.val % 4, 0] ∧ win0_8.index t = ![t.val / 4, 0, 2] ∧ win0_9.index t = ![0, 0]
    ∧ win0_10.index t = ![1, 0] ∧ win0_11.index t = ![0, 0] ∧ win0_12.index t = ![t.val / 4, t.val % 4, 0] ∧ t.val / 4 < 4 :=
  (by decide +kernel : ∀ t : Fin grid0.N, _)

/-- The sequence a point works on. -/
def tp (t : Fin cfg0.N) : Fin 4 := ⟨t.val / 4, (idx t).2.2.2.2.2.2.2.2.2.2.2.2.2⟩

/-- The position a row of a point's block has in its sequence. -/
def ta (t : Fin cfg0.N) (a : Fin 512) : Fin 2048 := ⟨t.val % 4 * 512 + a.val, by omega⟩

/-- The block of the S5 rows. -/
theorem read_0 (c : Dev nD) (t : Fin cfg0.N) (a : Fin 512) (j : Fin 1024) :
    iblk m c 0 t (ix3 0 a j) = m ((c : Thread nD τ).loc main_arg0) (ix3 (tp t) (ta t a) j) := by
  obtain ⟨e0, e1, e2, e3, e4, e5, e6, e7, e8, e9, e10, e11, e12, h⟩ := idx t
  unfold tp ta
  blk_point [iblk, V, e0]

/-- The block of the second rows. -/
theorem read_1 (c : Dev nD) (t : Fin cfg0.N) (a : Fin 512) (j : Fin 1024) :
    iblk m c 1 t (ix3 0 a j) = m ((c : Thread nD τ).loc main_arg1) (ix2 ⟨(tp t).val * 2048 + (ta t a).val, by omega⟩ ⟨1024 + j.val, by omega⟩) := by
  obtain ⟨e0, e1, e2, e3, e4, e5, e6, e7, e8, e9, e10, e11, e12, h⟩ := idx t
  unfold tp ta
  blk_point [iblk, V, e1]

/-- The block of the weight of the gate. -/
theorem read_2 (c : Dev nD) (t : Fin cfg0.N) (j k : Fin 1024) :
    iblk m c 2 t (ix2 j k) = m ((c : Thread nD τ).loc main_arg6) (ix3 0 j k) := by
  obtain ⟨e0, e1, e2, e3, e4, e5, e6, e7, e8, e9, e10, e11, e12, h⟩ := idx t
  clear h
  blk_point [iblk, V, e2]

/-- The block of the bias of the gate. -/
theorem read_3 (c : Dev nD) (t : Fin cfg0.N) (k : Fin 1024) :
    iblk m c 3 t (ix2 0 k) = m ((c : Thread nD τ).loc main_arg7) (ix2 0 k) := by
  obtain ⟨e0, e1, e2, e3, e4, e5, e6, e7, e8, e9, e10, e11, e12, h⟩ := idx t
  clear h
  blk_point [iblk, V, e3]

/-- The block of the recurrent rows. -/
theorem read_4 (c : Dev nD) (t : Fin cfg0.N) (a : Fin 512) (j : Fin 1024) :
    iblk m c 4 t (ix3 0 a j) = m ((c : Thread nD τ).loc main_arg2) (ix3 (tp t) (ta t a) j) := by
  obtain ⟨e0, e1, e2, e3, e4, e5, e6, e7, e8, e9, e10, e11, e12, h⟩ := idx t
  unfold tp ta
  blk_point [iblk, V, e4]

/-- The block of the first mixing gate. -/
theorem read_5 (c : Dev nD) (t : Fin cfg0.N) (a : Fin 512) (n : Fin 2048) :
    iblk m c 5 t (ix3 0 a n) = m ((c : Thread nD τ).loc main_arg3) (ix2 ⟨(tp t).val * 2048 + (ta t a).val, by omega⟩ ⟨n.val, by omega⟩) := by
  obtain ⟨e0, e1, e2, e3, e4, e5, e6, e7, e8, e9, e10, e11, e12, h⟩ := idx t
  unfold tp ta
  blk_point [iblk, V, e5]

/-- The block of the second mixing gate. -/
theorem read_6 (c : Dev nD) (t : Fin cfg0.N) (a : Fin 512) (n : Fin 2048) :
    iblk m c 6 t (ix3 0 a n) = m ((c : Thread nD τ).loc main_arg3) (ix2 ⟨(tp t).val * 2048 + (ta t a).val, by omega⟩ ⟨2048 + n.val, by omega⟩) := by
  obtain ⟨e0, e1, e2, e3, e4, e5, e6, e7, e8, e9, e10, e11, e12, h⟩ := idx t
  unfold tp ta
  blk_point [iblk, V, e6]

/-- The block of the residual rows. -/
theorem read_7 (c : Dev nD) (t : Fin cfg0.N) (a : Fin 512) (n : Fin 2048) :
    iblk m c 7 t (ix3 0 a n) = m ((c : Thread nD τ).loc main_arg4) (ix3 (tp t) (ta t a) n) := by
  obtain ⟨e0, e1, e2, e3, e4, e5, e6, e7, e8, e9, e10, e11, e12, h⟩ := idx t
  unfold tp ta
  blk_point [iblk, V, e7]

/-- The block of the residual gate. -/
theorem read_8 (c : Dev nD) (t : Fin cfg0.N) (n : Fin 2048) :
    iblk m c 8 t (ix3 0 0 n) = m ((c : Thread nD τ).loc main_arg5) (ix2 (tp t) ⟨4096 + n.val, by omega⟩) := by
  obtain ⟨e0, e1, e2, e3, e4, e5, e6, e7, e8, e9, e10, e11, e12, h⟩ := idx t
  unfold tp
  blk_point [iblk, V, e8]

/-- The block of the upper half of the output weight. -/
theorem read_9 (c : Dev nD) (t : Fin cfg0.N) (k : Fin 1024) (n : Fin 2048) :
    iblk m c 9 t (ix2 k n) = m ((c : Thread nD τ).loc main_arg8) (ix3 0 ⟨k.val, by omega⟩ n) := by
  obtain ⟨e0, e1, e2, e3, e4, e5, e6, e7, e8, e9, e10, e11, e12, h⟩ := idx t
  clear h
  blk_point [iblk, V, e9]

/-- The block of the lower half of the output weight. -/
theorem read_10 (c : Dev nD) (t : Fin cfg0.N) (k : Fin 1024) (n : Fin 2048) :
    iblk m c 10 t (ix2 k n) = m ((c : Thread nD τ).loc main_arg8) (ix3 0 ⟨1024 + k.val, by omega⟩ n) := by
  obtain ⟨e0, e1, e2, e3, e4, e5, e6, e7, e8, e9, e10, e11, e12, h⟩ := idx t
  clear h
  blk_point [iblk, V, e10]

/-- The block of the weight of the final norm. -/
theorem read_11 (c : Dev nD) (t : Fin cfg0.N) (n : Fin 2048) :
    iblk m c 11 t (ix2 0 n) = m ((c : Thread nD τ).loc main_arg9) (ix1 n) := by
  obtain ⟨e0, e1, e2, e3, e4, e5, e6, e7, e8, e9, e10, e11, e12, h⟩ := idx t
  clear h
  blk_point [iblk, V, e11]

/-- The gated row the body computes at a point. -/
def gatedRow (c : Dev nD) (t : Fin cfg0.N) : FVec Ideal S512x1024 .f32 :=
  k0_pay2 (iblk m c 0 t) (iblk m c 2 t) (iblk m c 3 t)

/-- What the two branches add to the residual row at a point. -/
def addedRow (c : Dev nD) (t : Fin cfg0.N) : FVec Ideal S512x2048 .f32 :=
  k0_pay4 (gatedRow m c t) (iblk m c 1 t) (iblk m c 5 t) (iblk m c 9 t) (iblk m c 6 t) (iblk m c 4 t) (iblk m c 10 t) (iblk m c 8 t)

/-- The merged row is the reference's. -/
theorem mergedRow_at (c : Dev nD) (t : Fin cfg0.N) (a : Fin 512) (n : Fin 2048) :
    addf (F := Ideal) (k0_pay3 (iblk m c 7 t)) (addedRow m c t) (ix2 a n)
      = refMerged (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) (m ((c : Thread nD τ).loc main_arg7))
        (m ((c : Thread nD τ).loc main_arg8)) (ix3 (tp t) (ta t a) n) := by
  unfold addedRow gatedRow
  rw [merged_at, refMerged_at]
  unfold branch
  simp only [pay2_eq, gatedOf_at, ordered_at, refYs_at, read_0, read_1, read_2, read_3, read_4, read_5, read_6, read_7, read_8, read_9, read_10]

theorem point (c : Dev nD) (t : Fin cfg0.N) (y) :
    k0_pay1 (k0_pay3 (iblk m c 7 t)) (addedRow m c t) (iblk m c 11 t) y
      = refOut (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) (m ((c : Thread nD τ).loc main_arg7))
        (m ((c : Thread nD τ).loc main_arg8))
        (m ((c : Thread nD τ).loc main_arg9)) (((cfg0.win 12).blk t).view.emb y) := by
  obtain ⟨o, a, n, rfl⟩ : ∃ (o : Fin 1) (a : Fin 512) (n : Fin 2048), y = ix3 o a n := ⟨y 0, y 1, y 2, eq_ix3 y⟩
  have he : ((cfg0.win 12).blk t).view.emb (ix3 o a n) = (ix3 (tp t) (ta t a) n : S4x2048x2048.Idx) := by
    obtain ⟨e0, e1, e2, e3, e4, e5, e6, e7, e8, e9, e10, e11, e12, h⟩ := idx t
    unfold tp ta
    blk_ext [e12]
  rw [he, refOut_at]
  refine (pay1_at _ _ _ o a n).trans ?_
  simp only [read_11, ← mergedRow_at m c t]

/-- The result array after the run. -/
theorem final (c : Dev nD) : (dats m 0 c).arrAt 12 (cfgs 0).N
    = refOut (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) (m ((c : Thread nD τ).loc main_arg7))
        (m ((c : Thread nD τ).loc main_arg8))
        (m ((c : Thread nD τ).loc main_arg9)) := by
  refine (dats m 0 c).arrAt_eq_of_covers 12 _ (by decide +kernel) fun t hf y => ?_
  blk_simp
  rw [after0_12]
  frame_out
  exact point m c t y

end Cert.OutProj.Prompt

end
-- ==== Proof.OutP.Pair.lean ====
/- The prompt call of the output projection against its reference: the two end with the same rows, and leave their arguments alone. -/
module

public import proofs.«01_k».proof.Defs
public import proofs.«01_k».proof.Proof.Gen.Kernel6
public import proofs.«01_k».proof.Proof.OutP.Value

@[expose] public section

set_option maxRecDepth 16384

noncomputable section

namespace Cert.OutProj.Prompt

open Idealize.ShloMosaic Idealize.SL.Sem

/-- The kernel as written and its idealization have one body table. -/
theorem table_eq : Cert.Kernel6.defs₀ (F := Bits) = Cert.Kernel6Ideal.defs₀ (F := Bits) := by
  unfold Cert.Kernel6.defs₀ Cert.Kernel6Ideal.defs₀
  refine congrArg Defs.onTc ?_
  funext l a
  match l, a with
  | 0, (t, s) => rfl

theorem defs_eq : Cert.Kernel6.defs (F := Bits) = Cert.Kernel6Ideal.defs (F := Bits) :=
  congrArg (Pipeline.defs Cert.Kernel6Ideal.pcfgs) table_eq

/-- The kernel as written, at the hardware's own floats: the run is stated for any float instance. -/
theorem frame_kernel : Cert.quiescent_Kernel6 := fun m ρ _ => by
  rw [defs_eq]
  exact Cert.Kernel6Ideal.Gen.frame (F := Bits) m ρ

/-- The idealized kernel ends with its counters at zero and its arguments as it found them. -/
theorem frame_ideal : Cert.quiescent_Kernel6Ideal := fun m ρ _ => Cert.Kernel6Ideal.Gen.frame m ρ

/-- The reference ends with its counters at zero and its arguments as it found them. -/
theorem frame_reference : Cert.quiescent_Reference6Ideal := by
  intro m g _
  refine (θ_run Cert.Reference6Ideal.defs _ _).mono (fun r h => ⟨h, sem_eq_zero_of_no_sems (by decide) r.2⟩) ?_
  hlo_run

set_option maxHeartbeats 4000000 in
/-- Over the reals the call's result is the reference's. -/
theorem algebraic : Cert.algebraic_Kernel6Ideal_Reference6Ideal := by
  pair_intro
  · run_from Cert.Kernel6Ideal.Gen.run_main m g
  · hlo_run
    exact (final m c).symm

end Cert.OutProj.Prompt

end
-- ==== Proof.S5.Pay.lean ====
/- One step of the S5 recurrence on a block of eight groups, read at an element. -/
module

public import proofs.«01_k».proof.Proof.Gen.Kernel7Ideal
public import proofs.«01_k».proof.Proof.Gen.Kernel7Ideal.Frame
import Idealize.ShloMosaic.Lib.Pointwise
public import Idealize.ShloMosaic.Lib.Pipeline.Value
public import Idealize.ShloMosaic.Lib.Pipeline.ValueKit
import Idealize.ShloMosaic.Lib.Claim

@[expose] public section

set_option maxRecDepth 16384

noncomputable section

namespace Cert.S5

open Idealize.ShloMosaic Cert.Kernel7Ideal Cert.Kernel7Ideal.Gen
open scoped BigOperators

/-- The real part of a state after one step: the state times its factor, and the input's share. -/
def blkRe (u : Vec Ideal S128x128 .f32) (bw : Vec Ideal S1x128x1024 .bf16) (ar ai : Vec Ideal S1x1x1x512 .f32) (xr xi : Vec Ideal S128x512 .f32)
    (a : Fin 128) (s : Fin 512) : EReal :=
  ar (ix4 0 0 0 s) * xr (ix2 a s) - ai (ix4 0 0 0 s) * xi (ix2 a s)
    + ∑ k : Fin 128, u (ix2 a k) * bw (ix3 0 k ⟨s.val / 128 * 256 + s.val % 128, by omega⟩)

/-- The imaginary part. -/
def blkIm (u : Vec Ideal S128x128 .f32) (bw : Vec Ideal S1x128x1024 .bf16) (ar ai : Vec Ideal S1x1x1x512 .f32) (xr xi : Vec Ideal S128x512 .f32)
    (a : Fin 128) (s : Fin 512) : EReal :=
  ar (ix4 0 0 0 s) * xi (ix2 a s) + ai (ix4 0 0 0 s) * xr (ix2 a s)
    + ∑ k : Fin 128, u (ix2 a k) * bw (ix3 0 k ⟨s.val / 128 * 256 + s.val % 128 + 128, by omega⟩)

variable (x0 : Vec Ideal S128x128 .f32) (x1 : Vec Ideal S1x128x1024 .bf16) (x2 : Vec Ideal S1x1024x128 .bf16) (x3 x4 : Vec Ideal S1x1x1x512 .f32)
  (x5 : Vec Ideal S1x128 .f32) (x6 x7 : Vec Ideal S128x512 .f32)

/-- The real block the body leaves. -/
theorem out_re (a : Fin 128) (s : Fin 512) : out0_9 x0 x1 x2 x3 x4 x5 x6 x7 (ix2 a s) = blkRe x0 x1 x3 x4 x6 x7 a s := by
  unfold_out out0_9
  unfold blkRe
  canon_tiles x h
  all_goals
    open_payloads
    pointwise
    have e1 : s.val = _ := h1
    obtain rfl : a = x 0 := Fin.ext h0
    refine congr (congrArg HAdd.hAdd (congr (congrArg HSub.hSub ?_) ?_)) (Finset.sum_congr rfl fun k _ => ?_)
    all_goals refine congr (congrArg HMul.hMul ?_) ?_
    all_goals refine congrArg _ ?_
    all_goals blk_ext

/-- The imaginary block the body leaves. -/
theorem out_im (a : Fin 128) (s : Fin 512) : out0_10 x0 x1 x2 x3 x4 x5 x6 x7 (ix2 a s) = blkIm x0 x1 x3 x4 x6 x7 a s := by
  unfold_out out0_10
  unfold blkIm
  canon_tiles x h
  all_goals
    open_payloads
    pointwise
    have e1 : s.val = _ := h1
    obtain rfl : a = x 0 := Fin.ext h0
    refine congr (congrArg HAdd.hAdd (congr (congrArg HAdd.hAdd ?_) ?_)) (Finset.sum_congr rfl fun k _ => ?_)
    all_goals refine congr (congrArg HMul.hMul ?_) ?_
    all_goals refine congrArg _ ?_
    all_goals blk_ext

/-- The state after the step, the real and imaginary parts of each band of 128 states side by side. -/
def bands (u : Vec Ideal S128x128 .f32) (bw : Vec Ideal S1x128x1024 .bf16) (ar ai : Vec Ideal S1x1x1x512 .f32) (xr xi : Vec Ideal S128x512 .f32)
    (a : Fin 128) (j : Fin 1024) : EReal :=
  if j.val / 128 % 2 = 0 then blkRe u bw ar ai xr xi a ⟨j.val / 256 * 128 + j.val % 128, by omega⟩
  else blkIm u bw ar ai xr xi a ⟨j.val / 256 * 128 + j.val % 128, by omega⟩

/-- The output row from eight bands. -/
theorem pay1_at (u v0 v1 v2 v3 v4 v5 v6 v7 : FVec Ideal S128x128 .f32) (w : Vec Ideal S1x1024x128 .bf16) (d : Vec Ideal S1x128 .f32)
    (a n : Fin 128) (T : Fin 1024 → EReal)
    (h0 : ∀ l : Fin 128, v0 (ix2 a l) = T ⟨l.val, by omega⟩) (h1 : ∀ l : Fin 128, v1 (ix2 a l) = T ⟨128 + l.val, by omega⟩)
    (h2 : ∀ l : Fin 128, v2 (ix2 a l) = T ⟨256 + l.val, by omega⟩) (h3 : ∀ l : Fin 128, v3 (ix2 a l) = T ⟨384 + l.val, by omega⟩)
    (h4 : ∀ l : Fin 128, v4 (ix2 a l) = T ⟨512 + l.val, by omega⟩) (h5 : ∀ l : Fin 128, v5 (ix2 a l) = T ⟨640 + l.val, by omega⟩)
    (h6 : ∀ l : Fin 128, v6 (ix2 a l) = T ⟨768 + l.val, by omega⟩) (h7 : ∀ l : Fin 128, v7 (ix2 a l) = T ⟨896 + l.val, by omega⟩) :
    k0_pay1 u v0 v1 v2 v3 v4 v5 v6 v7 w d (ix2 a n)
      = (∑ j : Fin 1024, T j * w (ix3 0 j n)) + d (ix2 0 n) * u (ix2 a n) := by
  pointwise [k0_pay1]
  refine congrArg (· + _) (Finset.sum_congr rfl fun j _ => congrArg (· * _) ?_)
  simp only [h0, h1, h2, h3, h4, h5, h6, h7]
  repeat' split
  all_goals exact congrArg T (Fin.ext (by first | (dsimp only; omega) | rfl))

/-- The output block the body leaves. -/
theorem out_y (a n : Fin 128) : out0_8 x0 x1 x2 x3 x4 x5 x6 x7 (ix2 a n)
    = (∑ j : Fin 1024, bands x0 x1 x3 x4 x6 x7 a j * x2 (ix3 0 j n)) + x5 (ix2 0 n) * x0 (ix2 a n) := by
  unfold_out out0_8
  frame_out
  refine (pay1_at _ _ _ _ _ _ _ _ _ _ _ a n (bands x0 x1 x3 x4 x6 x7 a) ?_ ?_ ?_ ?_ ?_ ?_ ?_ ?_).trans ?_
  case refine_9 => pointwise
  all_goals
    intro l
    unfold bands
    first | rw [if_pos (by first | (dsimp only; omega) | rfl)] | rw [if_neg (by dsimp only; omega)]
    first | unfold blkRe | unfold blkIm
    open_payloads
    pointwise
    refine congr (congrArg HAdd.hAdd (congr (congrArg _ ?_) ?_)) (Finset.sum_congr rfl fun k _ => ?_)
    all_goals refine congr (congrArg HMul.hMul ?_) ?_
    all_goals refine congrArg _ ?_
    all_goals blk_ext

end Cert.S5

end
-- ==== Proof.S5.Ref.lean ====
/- The reference of one step of the S5 recurrence, stage by stage. -/
module

public import proofs.«01_k».proof.Proof.Gen.Reference7Ideal
public import Idealize.ShloMosaic.Lib.Pointwise
import Idealize.ShloMosaic.Lib.Pipeline.ValueKit.Point

@[expose] public section

set_option maxRecDepth 16384

noncomputable section

namespace Cert.S5

open Idealize.ShloMosaic Cert.Reference7Ideal Cert.Reference7Ideal.Gen
open scoped BigOperators

/-- What the projected rows add to the states, per group, before the parts are taken out. -/
def refBu (a0 : FVec Ideal S256x5120 .f32) (a1 : FVec Ideal S4x256x1024 .bf16) :
    FVec Ideal S2x4x1024x128 .f32 :=
  (Host.dotGeneral dot_S4x2x128x1024_S128x2x4x128_S2x4x1024x128_2_3_3_0_10_12 none (shapeCast S4x2x128x1024 (extf .f32 a1 bitsLt_bf16_f32)
    shapeCasts_S4x256x1024_S4x2x128x1024) (shapeCast S128x2x4x128 (extractStridedSlice S128x1024 ![0, 0] a0 slices_S256x5120_S128x1024_0_0)
    shapeCasts_S128x1024_S128x2x4x128))

/-- The second result: the real parts of the states after the step. -/
def refRe (a0 : FVec Ideal S256x5120 .f32) (a1 : FVec Ideal S4x256x1024 .bf16) (a3 : FVec Ideal S4x2x1x512 .f32) (a4 : FVec Ideal S4x2x1x512 .f32)
    (a6 : FVec Ideal S1x128x64x64 .f32) (a7 : FVec Ideal S1x128x64x64 .f32) :
    FVec Ideal S128x4096 .f32 :=
  (addf (subf (mulf (broadcastInDim S128x4096 ![0, 1] bcast_S1x4096_S128x4096_0_1 (shapeCast S1x4096 (transpose S2x4x1x512 [1, 0, 2, 3] a3
    transposes_S4x2x1x512_S2x4x1x512_1_0_2_3) shapeCasts_S2x4x1x512_S1x4096)) (shapeCast S128x4096 a6 shapeCasts_S1x128x64x64_S128x4096)) (mulf
    (broadcastInDim S128x4096 ![0, 1] bcast_S1x4096_S128x4096_0_1 (shapeCast S1x4096 (transpose S2x4x1x512 [1, 0, 2, 3] a4
    transposes_S4x2x1x512_S2x4x1x512_1_0_2_3) shapeCasts_S2x4x1x512_S1x4096)) (shapeCast S128x4096 a7 shapeCasts_S1x128x64x64_S128x4096))) (shapeCast
    S128x4096 (shapeCast S128x32x128 (extractStridedSlice S128x32x1x128 ![0, 0, 0, 0] (shapeCast S128x32x2x128 (transpose S128x2x4x1024 [3, 0, 1, 2]
    (refBu a0 a1) transposes_S2x4x1024x128_S128x2x4x1024_3_0_1_2) shapeCasts_S128x2x4x1024_S128x32x2x128) slices_S128x32x2x128_S128x32x1x128_0_0_0_0)
    shapeCasts_S128x32x1x128_S128x32x128) shapeCasts_S128x32x128_S128x4096))

/-- The third result: the imaginary parts. -/
def refIm (a0 : FVec Ideal S256x5120 .f32) (a1 : FVec Ideal S4x256x1024 .bf16) (a3 : FVec Ideal S4x2x1x512 .f32) (a4 : FVec Ideal S4x2x1x512 .f32)
    (a6 : FVec Ideal S1x128x64x64 .f32) (a7 : FVec Ideal S1x128x64x64 .f32) :
    FVec Ideal S128x4096 .f32 :=
  (addf (addf (mulf (broadcastInDim S128x4096 ![0, 1] bcast_S1x4096_S128x4096_0_1 (shapeCast S1x4096 (transpose S2x4x1x512 [1, 0, 2, 3] a3
    transposes_S4x2x1x512_S2x4x1x512_1_0_2_3) shapeCasts_S2x4x1x512_S1x4096)) (shapeCast S128x4096 a7 shapeCasts_S1x128x64x64_S128x4096)) (mulf
    (broadcastInDim S128x4096 ![0, 1] bcast_S1x4096_S128x4096_0_1 (shapeCast S1x4096 (transpose S2x4x1x512 [1, 0, 2, 3] a4
    transposes_S4x2x1x512_S2x4x1x512_1_0_2_3) shapeCasts_S2x4x1x512_S1x4096)) (shapeCast S128x4096 a6 shapeCasts_S1x128x64x64_S128x4096))) (shapeCast
    S128x4096 (shapeCast S128x32x128 (extractStridedSlice S128x32x1x128 ![0, 0, 1, 0] (shapeCast S128x32x2x128 (transpose S128x2x4x1024 [3, 0, 1, 2]
    (refBu a0 a1) transposes_S2x4x1024x128_S128x2x4x1024_3_0_1_2) shapeCasts_S128x2x4x1024_S128x32x2x128) slices_S128x32x2x128_S128x32x1x128_0_0_1_0)
    shapeCasts_S128x32x1x128_S128x32x128) shapeCasts_S128x32x128_S128x4096))

/-- The states read out per group. -/
def refMix (a0 : FVec Ideal S256x5120 .f32) (a1 : FVec Ideal S4x256x1024 .bf16) (a2 : FVec Ideal S4x1024x256 .bf16) (a3 : FVec Ideal S4x2x1x512 .f32)
    (a4 : FVec Ideal S4x2x1x512 .f32) (a6 : FVec Ideal S1x128x64x64 .f32) (a7 : FVec Ideal S1x128x64x64 .f32) :
    FVec Ideal S2x4x128x128 .f32 :=
  (Host.dotGeneral dot_S4x1024x2x128_S128x2x4x1024_S2x4x128x128_1_3_3_0_20_12 none (shapeCast S4x1024x2x128 (extf .f32 a2 bitsLt_bf16_f32)
    shapeCasts_S4x1024x256_S4x1024x2x128) (shapeCast S128x2x4x1024 (concatenate S128x32x2x128 2 [⟨S128x32x1x128, (broadcastInDim S128x32x1x128 ![0,
    1, 3] bcast_S128x32x128_S128x32x1x128_0_1_3 (shapeCast S128x32x128 (refRe a0 a1 a3 a4 a6 a7) shapeCasts_S128x4096_S128x32x128))⟩, ⟨S128x32x1x128,
    (broadcastInDim S128x32x1x128 ![0, 1, 3] bcast_S128x32x128_S128x32x1x128_0_1_3 (shapeCast S128x32x128 (refIm a0 a1 a3 a4 a6 a7)
    shapeCasts_S128x4096_S128x32x128))⟩] concatenates_S128x32x1x128_S128x32x1x128_S128x32x2x128_d2) shapeCasts_S128x32x2x128_S128x2x4x1024))

/-- The first result: the S5 rows. -/
def refY (a0 : FVec Ideal S256x5120 .f32) (a1 : FVec Ideal S4x256x1024 .bf16) (a2 : FVec Ideal S4x1024x256 .bf16) (a3 : FVec Ideal S4x2x1x512 .f32)
    (a4 : FVec Ideal S4x2x1x512 .f32) (a5 : FVec Ideal S1x64x16 .f32) (a6 : FVec Ideal S1x128x64x64 .f32) (a7 : FVec Ideal S1x128x64x64 .f32) :
    FVec Ideal S128x1024 .f32 :=
  (addf (shapeCast S128x1024 (transpose S128x2x4x128 [3, 0, 1, 2] (refMix a0 a1 a2 a3 a4 a6 a7) transposes_S2x4x128x128_S128x2x4x128_3_0_1_2)
    shapeCasts_S128x2x4x128_S128x1024) (mulf (broadcastInDim S128x1024 ![0, 1] bcast_S1x1024_S128x1024_0_1 (shapeCast S1x1024 a5
    shapeCasts_S1x64x16_S1x1024)) (extractStridedSlice S128x1024 ![0, 0] a0 slices_S256x5120_S128x1024_0_0)))

theorem refBu_at (a0 : FVec Ideal S256x5120 .f32) (a1 : FVec Ideal S4x256x1024 .bf16) (h : Fin 2) (q : Fin 4) (s : Fin 1024) (r : Fin 128) :
    refBu a0 a1 (ix4 h q s r)
      = ∑ k : Fin 128, a0 (ix2 ⟨r.val, by omega⟩ ⟨h.val * 512 + q.val * 128 + k.val, by omega⟩) * a1 (ix3 q ⟨h.val * 128 + k.val, by omega⟩ s) := by
  pointwise [refBu]
  refine Finset.sum_congr rfl fun k _ => (mul_comm _ _).trans ?_
  refine congr (congrArg HMul.hMul ?_) ?_
  all_goals refine congrArg _ ?_
  all_goals blk_ext

theorem refRe_at (a0 : FVec Ideal S256x5120 .f32) (a1 : FVec Ideal S4x256x1024 .bf16) (a3 a4 : FVec Ideal S4x2x1x512 .f32)
    (a6 a7 : FVec Ideal S1x128x64x64 .f32) (r : Fin 128) (j : Fin 8) (s : Fin 512) :
    refRe a0 a1 a3 a4 a6 a7 (ix2 r ⟨j.val * 512 + s.val, by omega⟩)
      = a3 (ix4 ⟨j.val % 4, by omega⟩ ⟨j.val / 4, by omega⟩ 0 s) * a6 (ix4 0 r ⟨j.val * 8 + s.val / 64, by omega⟩ ⟨s.val % 64, by omega⟩)
        - a4 (ix4 ⟨j.val % 4, by omega⟩ ⟨j.val / 4, by omega⟩ 0 s) * a7 (ix4 0 r ⟨j.val * 8 + s.val / 64, by omega⟩ ⟨s.val % 64, by omega⟩)
        + refBu a0 a1 (ix4 ⟨j.val / 4, by omega⟩ ⟨j.val % 4, by omega⟩ ⟨s.val / 128 * 256 + s.val % 128, by omega⟩ r) := by
  pointwise [refRe]
  refine congr (congrArg HAdd.hAdd (congr (congrArg HSub.hSub (congr (congrArg HMul.hMul ?_) ?_)) (congr (congrArg HMul.hMul ?_) ?_))) ?_
  all_goals refine congrArg _ ?_
  all_goals blk_ext

theorem refIm_at (a0 : FVec Ideal S256x5120 .f32) (a1 : FVec Ideal S4x256x1024 .bf16) (a3 a4 : FVec Ideal S4x2x1x512 .f32)
    (a6 a7 : FVec Ideal S1x128x64x64 .f32) (r : Fin 128) (j : Fin 8) (s : Fin 512) :
    refIm a0 a1 a3 a4 a6 a7 (ix2 r ⟨j.val * 512 + s.val, by omega⟩)
      = a3 (ix4 ⟨j.val % 4, by omega⟩ ⟨j.val / 4, by omega⟩ 0 s) * a7 (ix4 0 r ⟨j.val * 8 + s.val / 64, by omega⟩ ⟨s.val % 64, by omega⟩)
        + a4 (ix4 ⟨j.val % 4, by omega⟩ ⟨j.val / 4, by omega⟩ 0 s) * a6 (ix4 0 r ⟨j.val * 8 + s.val / 64, by omega⟩ ⟨s.val % 64, by omega⟩)
        + refBu a0 a1 (ix4 ⟨j.val / 4, by omega⟩ ⟨j.val % 4, by omega⟩ ⟨s.val / 128 * 256 + s.val % 128 + 128, by omega⟩ r) := by
  pointwise [refIm]
  refine congr (congrArg HAdd.hAdd (congr (congrArg HAdd.hAdd (congr (congrArg HMul.hMul ?_) ?_)) (congr (congrArg HMul.hMul ?_) ?_))) ?_
  all_goals refine congrArg _ ?_
  all_goals blk_ext

theorem refMix_at (a0 : FVec Ideal S256x5120 .f32) (a1 : FVec Ideal S4x256x1024 .bf16) (a2 : FVec Ideal S4x1024x256 .bf16)
    (a3 a4 : FVec Ideal S4x2x1x512 .f32) (a6 a7 : FVec Ideal S1x128x64x64 .f32) (h : Fin 2) (q : Fin 4) (n r : Fin 128) :
    refMix a0 a1 a2 a3 a4 a6 a7 (ix4 h q n r)
      = ∑ s : Fin 1024, (if s.val / 128 % 2 = 0
            then refRe a0 a1 a3 a4 a6 a7 (ix2 r ⟨(h.val * 4 + q.val) * 512 + (s.val / 256 * 128 + s.val % 128), by omega⟩)
            else refIm a0 a1 a3 a4 a6 a7 (ix2 r ⟨(h.val * 4 + q.val) * 512 + (s.val / 256 * 128 + s.val % 128), by omega⟩))
          * a2 (ix3 q s ⟨h.val * 128 + n.val, by omega⟩) := by
  pointwise [refMix]
  refine Finset.sum_congr rfl fun k _ => (mul_comm _ _).trans ?_
  refine congr (congrArg HMul.hMul ?_) ?_
  · split <;> split <;> first | omega | skip
    all_goals refine congrArg _ ?_
    all_goals blk_ext
  · refine congrArg _ ?_
    blk_ext

theorem refY_at (a0 : FVec Ideal S256x5120 .f32) (a1 : FVec Ideal S4x256x1024 .bf16) (a2 : FVec Ideal S4x1024x256 .bf16)
    (a3 a4 : FVec Ideal S4x2x1x512 .f32) (a5 : FVec Ideal S1x64x16 .f32) (a6 a7 : FVec Ideal S1x128x64x64 .f32) (r : Fin 128) (j : Fin 8) (n : Fin 128) :
    refY a0 a1 a2 a3 a4 a5 a6 a7 (ix2 r ⟨j.val * 128 + n.val, by omega⟩)
      = refMix a0 a1 a2 a3 a4 a6 a7 (ix4 ⟨j.val / 4, by omega⟩ ⟨j.val % 4, by omega⟩ n r)
        + a5 (ix3 0 ⟨j.val * 8 + n.val / 16, by omega⟩ ⟨n.val % 16, by omega⟩) * a0 (ix2 ⟨r.val, by omega⟩ ⟨j.val * 128 + n.val, by omega⟩) := by
  pointwise [refY]
  refine congr (congrArg HAdd.hAdd ?_) (congr (congrArg HMul.hMul ?_) ?_)
  all_goals refine congrArg _ ?_
  all_goals blk_ext

end Cert.S5

end
-- ==== Proof.S5.Value.lean ====
/- One step of the S5 recurrence: what its blocks read, and its three results. -/
module

public import proofs.«01_k».proof.Proof.Gen.Kernel7Ideal
public import proofs.«01_k».proof.Proof.Gen.Kernel7Ideal.Frame
public import proofs.«01_k».proof.Proof.S5.Pay
public import proofs.«01_k».proof.Proof.S5.Ref
import Idealize.ShloMosaic.Lib.Pointwise
public import Idealize.ShloMosaic.Lib.Pipeline.Value
import Idealize.ShloMosaic.Lib.Pipeline.ValueKit.Point
import Idealize.ShloMosaic.Lib.Claim
import Idealize.ShloMosaic.Lib.StableHlo.Run

@[expose] public section

set_option maxRecDepth 16384

noncomputable section

namespace Cert.S5

open Idealize.ShloMosaic Idealize.ShloMosaic.TcCoe Idealize.SL.Sem Cert.Kernel7Ideal Cert.Kernel7Ideal.Gen
open scoped BigOperators

variable (m : (ℓ : Loc nD τ sig) → Buf (Elt Ideal) ℓ)

/-- Every window's index at a point. -/
theorem idx : ∀ t : Fin cfg0.N, win0_0.index t = ![0, t.val] ∧ win0_1.index t = ![t.val % 4, t.val / 4, 0]
    ∧ win0_2.index t = ![t.val % 4, 0, t.val / 4] ∧ win0_3.index t = ![t.val % 4, t.val / 4, 0, 0] ∧ win0_4.index t = ![t.val % 4, t.val / 4, 0, 0]
    ∧ win0_5.index t = ![0, t.val] ∧ win0_6.index t = ![0, t.val] ∧ win0_7.index t = ![0, t.val]
    ∧ win0_8.index t = ![0, t.val] ∧ win0_9.index t = ![0, t.val] ∧ win0_10.index t = ![0, t.val] ∧ t.val < 8 :=
  (by decide +kernel : ∀ t : Fin grid0.N, _)

/-- The eight groups a point works on. -/
def tj (t : Fin cfg0.N) : Fin 8 := ⟨t.val, (idx t).2.2.2.2.2.2.2.2.2.2.2⟩

/-- The block of the projected rows. -/
theorem read_0 (c : Dev nD) (t : Fin cfg0.N) (a k : Fin 128) :
    iblk m c 0 t (ix2 a k) = m ((c : Thread nD τ).loc main_arg0)
      (ix2 ⟨a.val, by omega⟩ ⟨(tj t).val / 4 * 512 + (tj t).val % 4 * 128 + k.val, by omega⟩) := by
  obtain ⟨e0, e1, e2, e3, e4, e5, e6, e7, e8, e9, e10, h⟩ := idx t
  unfold tj
  blk_point [iblk, V, e0]

/-- The same block, by its own column. -/
theorem read_0' (c : Dev nD) (t : Fin cfg0.N) (a k : Fin 128) :
    iblk m c 0 t (ix2 a k) = m ((c : Thread nD τ).loc main_arg0) (ix2 ⟨a.val, by omega⟩ ⟨(tj t).val * 128 + k.val, by omega⟩) := by
  obtain ⟨e0, e1, e2, e3, e4, e5, e6, e7, e8, e9, e10, h⟩ := idx t
  unfold tj
  blk_point [iblk, V, e0]

/-- The block of the input weight. -/
theorem read_1 (c : Dev nD) (t : Fin cfg0.N) (k : Fin 128) (s : Fin 1024) :
    iblk m c 1 t (ix3 0 k s) = m ((c : Thread nD τ).loc main_arg1)
      (ix3 ⟨(tj t).val % 4, by omega⟩ ⟨(tj t).val / 4 * 128 + k.val, by omega⟩ s) := by
  obtain ⟨e0, e1, e2, e3, e4, e5, e6, e7, e8, e9, e10, h⟩ := idx t
  unfold tj
  blk_point [iblk, V, e1]

/-- The block of the output weight. -/
theorem read_2 (c : Dev nD) (t : Fin cfg0.N) (s : Fin 1024) (n : Fin 128) :
    iblk m c 2 t (ix3 0 s n) = m ((c : Thread nD τ).loc main_arg2)
      (ix3 ⟨(tj t).val % 4, by omega⟩ s ⟨(tj t).val / 4 * 128 + n.val, by omega⟩) := by
  obtain ⟨e0, e1, e2, e3, e4, e5, e6, e7, e8, e9, e10, h⟩ := idx t
  unfold tj
  blk_point [iblk, V, e2]

/-- The block of the real factors. -/
theorem read_3 (c : Dev nD) (t : Fin cfg0.N) (s : Fin 512) :
    iblk m c 3 t (ix4 0 0 0 s) = m ((c : Thread nD τ).loc main_arg3) (ix4 ⟨(tj t).val % 4, by omega⟩ ⟨(tj t).val / 4, by omega⟩ 0 s) := by
  obtain ⟨e0, e1, e2, e3, e4, e5, e6, e7, e8, e9, e10, h⟩ := idx t
  unfold tj
  blk_point [iblk, V, e3]

/-- The block of the imaginary factors. -/
theorem read_4 (c : Dev nD) (t : Fin cfg0.N) (s : Fin 512) :
    iblk m c 4 t (ix4 0 0 0 s) = m ((c : Thread nD τ).loc main_arg4) (ix4 ⟨(tj t).val % 4, by omega⟩ ⟨(tj t).val / 4, by omega⟩ 0 s) := by
  obtain ⟨e0, e1, e2, e3, e4, e5, e6, e7, e8, e9, e10, h⟩ := idx t
  unfold tj
  blk_point [iblk, V, e4]

/-- The block of the skip weight. -/
theorem read_5 (c : Dev nD) (t : Fin cfg0.N) (n : Fin 128) :
    iblk m c 5 t (ix2 0 n) = m ((c : Thread nD τ).loc main_arg5) (ix3 0 ⟨(tj t).val * 8 + n.val / 16, by omega⟩ ⟨n.val % 16, by omega⟩) := by
  obtain ⟨e0, e1, e2, e3, e4, e5, e6, e7, e8, e9, e10, h⟩ := idx t
  unfold tj
  blk_point [iblk, V, e5]

/-- The block of the real states. -/
theorem read_6 (c : Dev nD) (t : Fin cfg0.N) (a : Fin 128) (s : Fin 512) :
    iblk m c 6 t (ix2 a s) = m ((c : Thread nD τ).loc main_arg6) (ix4 0 a ⟨(tj t).val * 8 + s.val / 64, by omega⟩ ⟨s.val % 64, by omega⟩) := by
  obtain ⟨e0, e1, e2, e3, e4, e5, e6, e7, e8, e9, e10, h⟩ := idx t
  unfold tj
  blk_point [iblk, V, e6]

/-- The block of the imaginary states. -/
theorem read_7 (c : Dev nD) (t : Fin cfg0.N) (a : Fin 128) (s : Fin 512) :
    iblk m c 7 t (ix2 a s) = m ((c : Thread nD τ).loc main_arg7) (ix4 0 a ⟨(tj t).val * 8 + s.val / 64, by omega⟩ ⟨s.val % 64, by omega⟩) := by
  obtain ⟨e0, e1, e2, e3, e4, e5, e6, e7, e8, e9, e10, h⟩ := idx t
  unfold tj
  blk_point [iblk, V, e7]

/-- The real block a point leaves is the reference's. -/
theorem re_at (c : Dev nD) (t : Fin cfg0.N) (a : Fin 128) (s : Fin 512) :
    blkRe (iblk m c 0 t) (iblk m c 1 t) (iblk m c 3 t) (iblk m c 4 t) (iblk m c 6 t) (iblk m c 7 t) a s
      = refRe (m ((c : Thread nD τ).loc main_arg0)) (m ((c : Thread nD τ).loc main_arg1)) (m ((c : Thread nD τ).loc main_arg3)) (m ((c : Thread nD τ).loc main_arg4))
        (m ((c : Thread nD τ).loc main_arg6)) (m ((c : Thread nD τ).loc main_arg7)) (ix2 a ⟨(tj t).val * 512 + s.val, by omega⟩) := by
  rw [refRe_at, refBu_at]
  unfold blkRe
  simp only [read_0, read_1, read_3, read_4, read_6, read_7]

/-- The imaginary block a point leaves is the reference's. -/
theorem im_at (c : Dev nD) (t : Fin cfg0.N) (a : Fin 128) (s : Fin 512) :
    blkIm (iblk m c 0 t) (iblk m c 1 t) (iblk m c 3 t) (iblk m c 4 t) (iblk m c 6 t) (iblk m c 7 t) a s
      = refIm (m ((c : Thread nD τ).loc main_arg0)) (m ((c : Thread nD τ).loc main_arg1)) (m ((c : Thread nD τ).loc main_arg3)) (m ((c : Thread nD τ).loc main_arg4))
        (m ((c : Thread nD τ).loc main_arg6)) (m ((c : Thread nD τ).loc main_arg7)) (ix2 a ⟨(tj t).val * 512 + s.val, by omega⟩) := by
  rw [refIm_at, refBu_at]
  unfold blkIm
  simp only [read_0, read_1, read_3, read_4, read_6, read_7]

/-- The output block a point leaves is the reference's. -/
theorem y_at (c : Dev nD) (t : Fin cfg0.N) (a n : Fin 128) :
    (∑ j : Fin 1024, bands (iblk m c 0 t) (iblk m c 1 t) (iblk m c 3 t) (iblk m c 4 t) (iblk m c 6 t) (iblk m c 7 t) a j * iblk m c 2 t (ix3 0 j n))
        + (HMul.hMul (α := EReal) (β := EReal) (iblk m c 5 t (ix2 0 n)) (iblk m c 0 t (ix2 a n)))
      = refY (m ((c : Thread nD τ).loc main_arg0)) (m ((c : Thread nD τ).loc main_arg1)) (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7)) (ix2 a ⟨(tj t).val * 128 + n.val, by omega⟩) := by
  rw [refY_at, refMix_at, read_5, read_0']
  refine congrArg (· + _) (Finset.sum_congr rfl fun j _ => ?_)
  unfold bands
  rw [read_2, re_at, im_at]
  have e : (⟨(tj t).val * 512 + (j.val / 256 * 128 + j.val % 128), by omega⟩ : Fin 4096)
      = ⟨((tj t).val / 4 * 4 + (tj t).val % 4) * 512 + (j.val / 256 * 128 + j.val % 128), by omega⟩ := Fin.ext (by dsimp only; omega)
  simp only [e]

/-- The first result after the run. -/
theorem final_y (c : Dev nD) : (dats m 0 c).arrAt 8 (cfgs 0).N
    = refY (m ((c : Thread nD τ).loc main_arg0)) (m ((c : Thread nD τ).loc main_arg1)) (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7)) := by
  refine (dats m 0 c).arrAt_eq_of_covers 8 _ (by decide +kernel) fun t hf y => ?_
  blk_simp
  rw [after0_8]
  obtain ⟨a, n, rfl⟩ : ∃ (a : Fin 128) (n : Fin 128), y = ix2 a n := ⟨y 0, y 1, eq_ix2 y⟩
  have he : ((cfg0.win 8).blk t).view.emb (ix2 a n) = (ix2 a ⟨(tj t).val * 128 + n.val, by omega⟩ : S128x1024.Idx) := by
    obtain ⟨e0, e1, e2, e3, e4, e5, e6, e7, e8, e9, e10, h⟩ := idx t
    unfold tj
    blk_ext [e8]
  refine ((out_y _ _ _ _ _ _ _ _ a n).trans (y_at m c t a n)).trans ?_
  rw [he]

/-- The second result after the run. -/
theorem final_re (c : Dev nD) : (dats m 0 c).arrAt 9 (cfgs 0).N
    = refRe (m ((c : Thread nD τ).loc main_arg0)) (m ((c : Thread nD τ).loc main_arg1)) (m ((c : Thread nD τ).loc main_arg3)) (m ((c : Thread nD τ).loc main_arg4))
        (m ((c : Thread nD τ).loc main_arg6)) (m ((c : Thread nD τ).loc main_arg7)) := by
  refine (dats m 0 c).arrAt_eq_of_covers 9 _ (by decide +kernel) fun t hf y => ?_
  blk_simp
  rw [after0_9]
  obtain ⟨a, n, rfl⟩ : ∃ (a : Fin 128) (n : Fin 512), y = ix2 a n := ⟨y 0, y 1, eq_ix2 y⟩
  have he : ((cfg0.win 9).blk t).view.emb (ix2 a n) = (ix2 a ⟨(tj t).val * 512 + n.val, by omega⟩ : S128x4096.Idx) := by
    obtain ⟨e0, e1, e2, e3, e4, e5, e6, e7, e8, e9, e10, h⟩ := idx t
    unfold tj
    blk_ext [e9]
  refine ((out_re _ _ _ _ _ _ _ _ a n).trans (re_at m c t a n)).trans ?_
  rw [he]

/-- The third result after the run. -/
theorem final_im (c : Dev nD) : (dats m 0 c).arrAt 10 (cfgs 0).N
    = refIm (m ((c : Thread nD τ).loc main_arg0)) (m ((c : Thread nD τ).loc main_arg1)) (m ((c : Thread nD τ).loc main_arg3)) (m ((c : Thread nD τ).loc main_arg4))
        (m ((c : Thread nD τ).loc main_arg6)) (m ((c : Thread nD τ).loc main_arg7)) := by
  refine (dats m 0 c).arrAt_eq_of_covers 10 _ (by decide +kernel) fun t hf y => ?_
  blk_simp
  rw [after0_10]
  obtain ⟨a, n, rfl⟩ : ∃ (a : Fin 128) (n : Fin 512), y = ix2 a n := ⟨y 0, y 1, eq_ix2 y⟩
  have he : ((cfg0.win 10).blk t).view.emb (ix2 a n) = (ix2 a ⟨(tj t).val * 512 + n.val, by omega⟩ : S128x4096.Idx) := by
    obtain ⟨e0, e1, e2, e3, e4, e5, e6, e7, e8, e9, e10, h⟩ := idx t
    unfold tj
    blk_ext [e10]
  refine ((out_im _ _ _ _ _ _ _ _ a n).trans (im_at m c t a n)).trans ?_
  rw [he]

end Cert.S5

end
-- ==== Proof.S5.Pair.lean ====
/- One step of the S5 recurrence against its reference: the two end with the same rows and states, and leave their arguments alone. -/
module

public import proofs.«01_k».proof.Defs
public import proofs.«01_k».proof.Proof.Gen.Kernel7
public import proofs.«01_k».proof.Proof.S5.Value

@[expose] public section

set_option maxRecDepth 16384

noncomputable section

namespace Cert.S5

open Idealize.ShloMosaic Idealize.SL.Sem

/-- The kernel as written and its idealization have one body table. -/
theorem table_eq : Cert.Kernel7.defs₀ (F := Bits) = Cert.Kernel7Ideal.defs₀ (F := Bits) := by
  unfold Cert.Kernel7.defs₀ Cert.Kernel7Ideal.defs₀
  refine congrArg Defs.onTc ?_
  funext l a
  match l, a with
  | 0, (t, s) => rfl

theorem defs_eq : Cert.Kernel7.defs (F := Bits) = Cert.Kernel7Ideal.defs (F := Bits) :=
  congrArg (Pipeline.defs Cert.Kernel7Ideal.pcfgs) table_eq

/-- The kernel as written, at the hardware's own floats: the run is stated for any float instance. -/
theorem frame_kernel : Cert.quiescent_Kernel7 := fun m ρ _ => by
  rw [defs_eq]
  exact Cert.Kernel7Ideal.Gen.frame (F := Bits) m ρ

/-- The idealized kernel ends with its counters at zero and its arguments as it found them. -/
theorem frame_ideal : Cert.quiescent_Kernel7Ideal := fun m ρ _ => Cert.Kernel7Ideal.Gen.frame m ρ

/-- The reference ends with its counters at zero and its arguments as it found them. -/
theorem frame_reference : Cert.quiescent_Reference7Ideal := by
  intro m g _
  refine (θ_run Cert.Reference7Ideal.defs _ _).mono (fun r h => ⟨h, sem_eq_zero_of_no_sems (by decide) r.2⟩) ?_
  hlo_run

/-- Two states laid side by side, band by band, depend on each of the two. -/
theorem stack_congr {A A' B B' : FVec Ideal Cert.Reference7Ideal.S128x32x1x128 .f32} (hA : A = A') (hB : B = B') :
    concatenate Cert.Reference7Ideal.S128x32x2x128 2 [⟨Cert.Reference7Ideal.S128x32x1x128, A⟩, ⟨Cert.Reference7Ideal.S128x32x1x128, B⟩]
        Cert.Reference7Ideal.Gen.concatenates_S128x32x1x128_S128x32x1x128_S128x32x2x128_d2
      = concatenate Cert.Reference7Ideal.S128x32x2x128 2 [⟨Cert.Reference7Ideal.S128x32x1x128, A'⟩, ⟨Cert.Reference7Ideal.S128x32x1x128, B'⟩]
        Cert.Reference7Ideal.Gen.concatenates_S128x32x1x128_S128x32x1x128_S128x32x2x128_d2 := by
  rw [hA, hB]

set_option maxHeartbeats 4000000 in
/-- Over the reals the call's results are the reference's. -/
theorem algebraic : Cert.algebraic_Kernel7Ideal_Reference7Ideal := by
  pair_intro
  · run_from Cert.Kernel7Ideal.Gen.run_main m g
  · hlo_run
    · rw [final_y m c]
      refine congr (congrArg addf ?_) rfl
      funext i
      refine congrFun (congrArg (fun v => shapeCast Cert.Reference7Ideal.S128x1024 (transpose Cert.Reference7Ideal.S128x2x4x128 [3, 0, 1, 2] v
        Cert.Reference7Ideal.Gen.transposes_S2x4x128x128_S128x2x4x128_3_0_1_2) Cert.Reference7Ideal.Gen.shapeCasts_S128x2x4x128_S128x1024) ?_) i
      refine congrArg (Host.dotGeneral _ _ _) ?_
      funext i
      refine congrFun (congrArg (fun v => shapeCast Cert.Reference7Ideal.S128x2x4x1024 v
        Cert.Reference7Ideal.Gen.shapeCasts_S128x32x2x128_S128x2x4x1024) ?_) i
      refine stack_congr ?_ ?_
      · refine congrArg (broadcastInDim _ _ _) ?_
        funext i
        refine congrFun (congrArg (fun v => shapeCast Cert.Reference7Ideal.S128x32x128 v
          Cert.Reference7Ideal.Gen.shapeCasts_S128x4096_S128x32x128) ?_) i
        try rw [(hagree c).2.2.2.1]
        try rw [(hagree c).2.2.2.2.1]
        try rw [(hagree c).2.2.2.2.2.2.1]
        try rw [(hagree c).2.2.2.2.2.2.2]
        unfold refRe refBu
        rfl
      · refine congrArg (broadcastInDim _ _ _) ?_
        funext i
        refine congrFun (congrArg (fun v => shapeCast Cert.Reference7Ideal.S128x32x128 v
          Cert.Reference7Ideal.Gen.shapeCasts_S128x4096_S128x32x128) ?_) i
        try rw [(hagree c).2.2.2.1]
        try rw [(hagree c).2.2.2.2.1]
        try rw [(hagree c).2.2.2.2.2.2.1]
        try rw [(hagree c).2.2.2.2.2.2.2]
        unfold refIm refBu
        rfl
    · rw [final_re m c]
      unfold refRe refBu
      rfl
    · rw [final_im m c]
      unfold refIm refBu
      rfl

end Cert.S5

end
-- ==== Proof.S5W.Bands.lean ====
/- The packing of the S5 weights: the bands the kernel lays the weights out in. -/
module

public import proofs.«01_k».proof.Proof.Gen.Kernel8Ideal.Skeleton
public import Idealize.ShloMosaic.Lib.Pointwise
public import Idealize.ShloMosaic.Lib.Pipeline.Value
import Idealize.ShloMosaic.Lib.Pipeline.ValueKit.Point

@[expose] public section

set_option maxRecDepth 16384

noncomputable section

namespace Cert.S5W

open Idealize.ShloMosaic Cert.Kernel8Ideal Cert.Kernel8Ideal.Gen

theorem cutW (g : Fin 8) : S8x16x64.Slices ![g.val, 0, 0] S1x16x64 := by
  revert g; decide

theorem cutA (g : Fin 8) : S8x1x64.Slices ![g.val, 0, 0] S1x1x64 := by
  revert g; decide

/-- The rows of one group of a block. -/
def rowsOf (x : FVec Ideal S8x16x64 .f32) (g : Fin 8) : FVec Ideal S16x64 .f32 :=
  shapeCast S16x64 (extractStridedSlice S1x16x64 ![g.val, 0, 0] x (cutW g)) shapeCasts_S1x16x64_S16x64

theorem rowsOf_at (x : FVec Ideal S8x16x64 .f32) (g : Fin 8) (c : Fin 16) (p : Fin 64) : rowsOf x g (ix2 c p) = x (ix3 g c p) := by
  pointwise [rowsOf]

/-- One of the sixteen column blocks of a group's band. -/
def piece (x y : FVec Ideal S8x16x64 .f32) (g : Fin 8) (k : Fin 16) : FVec Ideal S16x64 .f32 :=
  if g.val = 2 * (k.val / 4) + k.val % 2 then (if k.val / 2 % 2 = 0 then rowsOf x g else rowsOf y g) else k0_pay29 (F := Ideal)

theorem piece_at (x y : FVec Ideal S8x16x64 .f32) (g : Fin 8) (k : Fin 16) (c : Fin 16) (p : Fin 64) :
    piece x y g k (ix2 c p) = if g.val = 2 * (k.val / 4) + k.val % 2 then
      (if k.val / 2 % 2 = 0 then x (ix3 g c p) else y (ix3 g c p)) else 0 := by
  unfold piece
  split
  · split <;> exact rowsOf_at _ _ _ _
  · pointwise [k0_pay29]

/-- The band of one group: its own columns carry its rows, the others are zero. -/
def band (x y : FVec Ideal S8x16x64 .f32) (g : Fin 8) : FVec Ideal S16x1024 .f32 :=
  concatenate S16x1024 1 (List.ofFn fun n : Fin 16 => (⟨S16x64, piece x y g n⟩ : (s : Shape) × (s.Idx → EReal)))
    concatenates_S16x64_S16x64_S16x64_S16x64_S16x64_S16x64_S16x64_S16x64_S16x64_S16x64_S16x64_S16x64_S16x64_S16x64_S16x64_S16x64_S16x1024_d1

theorem band_at (x y : FVec Ideal S8x16x64 .f32) (g : Fin 8) (c : Fin 16) (s : Fin 1024) :
    band x y g (ix2 c s) = if g.val = 2 * (s.val / 256) + s.val / 64 % 2 then
      (if s.val / 128 % 2 = 0 then x (ix3 g c ⟨s.val % 64, by omega⟩) else y (ix3 g c ⟨s.val % 64, by omega⟩)) else 0 := by
  unfold band
  refine (concatenate_ofFn_apply (t := S16x1024) 1 (fun n : Fin 16 => piece x y g n) _ rfl 64 rfl (ix2 c s) ⟨s.val / 64, by omega⟩ rfl
    (ix2 c ⟨s.val % 64, by omega⟩) rfl (fun b hb => by
      match b with
      | 0 => rfl
      | 1 => exact absurd rfl hb)).trans ?_
  rw [piece_at]
  have h1 : s.val / 64 / 4 = s.val / 256 := by omega
  have h2 : s.val / 64 / 2 = s.val / 128 := by omega
  simp only [h1, h2]

/-- The sixteen bands of a block of groups, the first half's and then the second's. -/
def whole (X Y : Fin 2 → FVec Ideal S8x16x64 .f32) : FVec Ideal S256x1024 .f32 :=
  concatenate S256x1024 0 (List.ofFn fun n : Fin 16 => (⟨S16x1024, band (X ⟨n.val / 8, by omega⟩) (Y ⟨n.val / 8, by omega⟩) ⟨n.val % 8, by omega⟩⟩ : (s : Shape) × (s.Idx → EReal)))
    concatenates_S16x1024_S16x1024_S16x1024_S16x1024_S16x1024_S16x1024_S16x1024_S16x1024_S16x1024_S16x1024_S16x1024_S16x1024_S16x1024_S16x1024_S16x1024_S16x1024_S256x1024_d0

theorem whole_at (X Y : Fin 2 → FVec Ideal S8x16x64 .f32) (r : Fin 256) (s : Fin 1024) :
    whole X Y (ix2 r s) = if r.val / 16 % 8 = 2 * (s.val / 256) + s.val / 64 % 2 then
      (if s.val / 128 % 2 = 0 then X ⟨r.val / 128, by omega⟩ (ix3 ⟨r.val / 16 % 8, by omega⟩ ⟨r.val % 16, by omega⟩ ⟨s.val % 64, by omega⟩)
        else Y ⟨r.val / 128, by omega⟩ (ix3 ⟨r.val / 16 % 8, by omega⟩ ⟨r.val % 16, by omega⟩ ⟨s.val % 64, by omega⟩)) else 0 := by
  unfold whole
  refine (concatenate_ofFn_apply (t := S256x1024) 0 (fun n : Fin 16 => band (X ⟨n.val / 8, by omega⟩) (Y ⟨n.val / 8, by omega⟩) ⟨n.val % 8, by omega⟩) _ rfl 16 rfl (ix2 r s) ⟨r.val / 16, by omega⟩ rfl
    (ix2 ⟨r.val % 16, by omega⟩ s) rfl (fun b hb => by
      match b with
      | 0 => exact absurd rfl hb
      | 1 => rfl)).trans ?_
  rw [band_at]
  have h1 : r.val / 16 / 8 = r.val / 128 := by omega
  simp only [h1]

/-- The bands of the input weight are the bands of its parts. -/
theorem pay40_eq (x0 y0 : FVec Ideal S8x16x64 .f32) (v77 v83 : FVec Ideal S8x1x64 .f32) (v85 : FVec Ideal S8x16x64 .f32) (v86 : Vec Ideal S8x16x64 .f32) :
    k0_pay40 (k0_pay27 v77 v83 v85 v86) (k0_pay28 v77 v83 v85 v86) (k0_pay29 (F := Ideal)) (k0_pay30 x0 y0) (k0_pay31 x0 y0) (k0_pay32 x0 y0) (k0_pay33 x0 y0)
      (k0_pay34 x0 y0) (k0_pay35 x0 y0) (k0_pay36 x0 y0) (k0_pay37 x0 y0) (k0_pay38 v77 v83 v85 v86) (k0_pay39 v77 v83 v85 v86)
      = shapeCast S1x256x1024 (truncf .bf16 (whole ![x0, k0_pay27 v77 v83 v85 v86] ![y0, k0_pay28 v77 v83 v85 v86]) bitsLt_bf16_f32)
          shapeCasts_S256x1024_S1x256x1024 := rfl

/-- The bands of the output weight are the bands of its parts, turned. -/
theorem pay56_eq (u0 u1 u2 u3 : Vec Ideal S8x16x64 .f32) :
    k0_pay56 (k0_pay29 (F := Ideal)) (k0_pay42 u1) (k0_pay44 u3) (k0_pay45 (k0_pay29 (F := Ideal)) (k0_pay41 u0) u2) (k0_pay46 (k0_pay29 (F := Ideal)) (k0_pay41 u0) u2)
      (k0_pay47 (k0_pay29 (F := Ideal)) (k0_pay41 u0) u2) (k0_pay48 (k0_pay29 (F := Ideal)) (k0_pay41 u0) u2) (k0_pay49 (k0_pay29 (F := Ideal)) (k0_pay41 u0) u2)
      (k0_pay50 (k0_pay29 (F := Ideal)) (k0_pay41 u0) u2) (k0_pay51 (k0_pay29 (F := Ideal)) (k0_pay41 u0) u2) (k0_pay52 (k0_pay29 (F := Ideal)) (k0_pay41 u0) u2)
      (k0_pay53 (k0_pay29 (F := Ideal)) (k0_pay42 u1) u3) (k0_pay54 (k0_pay42 u1)) (k0_pay55 u3)
      = shapeCast S1x1024x256 (truncf .bf16 (transpose S1024x256 [1, 0] (whole ![k0_pay41 u0, k0_pay42 u1] ![k0_pay43 u2, k0_pay44 u3])
          transposes_S256x1024_p1_0_S1024x256) bitsLt_bf16_f32) shapeCasts_S1024x256_S1x1024x256 := rfl

/-- The rows of eight groups, side by side. -/
def sideRow (v : FVec Ideal S8x1x64 .f32) : FVec Ideal S1x512 .f32 :=
  concatenate S1x512 1 (List.ofFn fun n : Fin 8 => (⟨S1x64, shapeCast S1x64 (extractStridedSlice S1x1x64 ![n.val, 0, 0] v (cutA n)) shapeCasts_S1x1x64_S1x64⟩ : (s : Shape) × (s.Idx → EReal)))
    concatenates_S1x64_S1x64_S1x64_S1x64_S1x64_S1x64_S1x64_S1x64_S1x512_d1

theorem sideRow_at (v : FVec Ideal S8x1x64 .f32) (s : Fin 512) :
    sideRow v (ix2 0 s) = v (ix3 ⟨s.val / 64, by omega⟩ 0 ⟨s.val % 64, by omega⟩) := by
  unfold sideRow
  refine (concatenate_ofFn_apply (t := S1x512) 1 (fun n : Fin 8 => shapeCast S1x64 (extractStridedSlice S1x1x64 ![n.val, 0, 0] v (cutA n)) shapeCasts_S1x1x64_S1x64) _ rfl 64 rfl
    (ix2 0 s) ⟨s.val / 64, by omega⟩ rfl (ix2 0 ⟨s.val % 64, by omega⟩) rfl (fun b hb => by
      match b with
      | 0 => rfl
      | 1 => exact absurd rfl hb)).trans ?_
  pointwise

theorem pay58_at (v : FVec Ideal S8x1x64 .f32) (s : Fin 512) :
    k0_pay58 (k0_pay57 v) (ix4 0 0 0 s) = v (ix3 ⟨s.val / 64, by omega⟩ 0 ⟨s.val % 64, by omega⟩) := by
  rw [show k0_pay58 (k0_pay57 v) = shapeCast S1x1x1x512 (sideRow v) shapeCasts_S1x512_S1x1x1x512 from rfl]
  pointwise [sideRow_at]

theorem pay59_at (v : FVec Ideal S8x1x64 .f32) (s : Fin 512) :
    k0_pay59 v (ix4 0 0 0 s) = v (ix3 ⟨s.val / 64, by omega⟩ 0 ⟨s.val % 64, by omega⟩) := by
  rw [show k0_pay59 v = shapeCast S1x1x1x512 (sideRow v) shapeCasts_S1x512_S1x1x1x512 from rfl]
  pointwise [sideRow_at]

theorem pay60_at (v : FVec Ideal S8x1x64 .f32) (s : Fin 512) :
    k0_pay60 v (ix4 0 0 0 s) = v (ix3 ⟨s.val / 64, by omega⟩ 0 ⟨s.val % 64, by omega⟩) := by
  rw [show k0_pay60 v = shapeCast S1x1x1x512 (sideRow v) shapeCasts_S1x512_S1x1x1x512 from rfl]
  pointwise [sideRow_at]

theorem pay63_at (v : FVec Ideal S8x1x64 .f32) (s : Fin 512) :
    k0_pay63 v (k0_pay61 v) (k0_pay62 v) (ix4 0 0 0 s) = v (ix3 ⟨s.val / 64, by omega⟩ 0 ⟨s.val % 64, by omega⟩) := by
  rw [show k0_pay63 v (k0_pay61 v) (k0_pay62 v) = shapeCast S1x1x1x512 (sideRow v) shapeCasts_S1x512_S1x1x1x512 from rfl]
  pointwise [sideRow_at]

/-- Two rows, laid out four times. -/
def alternate (V : Fin 2 → FVec Ideal S1x512 .f32) : FVec Ideal S8x512 .f32 :=
  concatenate S8x512 0 (List.ofFn fun n : Fin 8 => (⟨S1x512, V ⟨n.val % 2, by omega⟩⟩ : (s : Shape) × (s.Idx → EReal)))
    concatenates_S1x512_S1x512_S1x512_S1x512_S1x512_S1x512_S1x512_S1x512_S8x512_d0

theorem alternate_at (V : Fin 2 → FVec Ideal S1x512 .f32) (i : Fin 8) (s : Fin 512) :
    alternate V (ix2 i s) = V ⟨i.val % 2, by omega⟩ (ix2 0 s) := by
  unfold alternate
  refine (concatenate_ofFn_apply (t := S8x512) 0 (fun n : Fin 8 => V ⟨n.val % 2, by omega⟩) _ rfl 1 rfl (ix2 i s) i (Nat.div_one _)
    (ix2 0 s) (Nat.mod_one _).symm (fun b hb => by
      match b with
      | 0 => exact absurd rfl hb
      | 1 => rfl)).trans ?_
  rfl

/-- A row of a block, as a plain row. -/
abbrev flat (v : Vec Ideal S1x1x1x512 .f32) : FVec Ideal S1x512 .f32 := shapeCast S1x512 v shapeCasts_S1x1x1x512_S1x512

theorem flat2_at (v w : Vec Ideal S1x1x1x512 .f32) (h : Fin 2) (s : Fin 512) :
    (![flat v, flat w] : Fin 2 → FVec Ideal S1x512 .f32) h (ix2 0 s) = if h.val = 0 then v (ix4 0 0 0 s) else w (ix4 0 0 0 s) := by
  match h with
  | 0 => pointwise [flat, Matrix.cons_val_zero]
  | 1 => pointwise [flat, Matrix.cons_val_one]

theorem pay64_at (v w : Vec Ideal S1x1x1x512 .f32) (i : Fin 8) (s : Fin 512) :
    k0_pay64 v w (ix3 0 i s) = if i.val % 2 = 0 then v (ix4 0 0 0 s) else w (ix4 0 0 0 s) := by
  rw [show k0_pay64 v w = shapeCast S1x8x512 (alternate ![flat v, flat w]) shapeCasts_S8x512_S1x8x512 from rfl]
  pointwise [alternate_at, flat2_at]

theorem pay65_at (v w : Vec Ideal S1x1x1x512 .f32) (i : Fin 8) (s : Fin 512) :
    k0_pay1 (k0_pay65 v w) (ix3 0 i s) = if i.val % 2 = 0 then v (ix4 0 0 0 s) else w (ix4 0 0 0 s) := by
  rw [show k0_pay1 (k0_pay65 v w) = shapeCast S1x8x512 (alternate ![flat v, flat w]) shapeCasts_S8x512_S1x8x512 from rfl]
  pointwise [alternate_at, flat2_at]

end Cert.S5W

end
-- ==== Proof.S5W.Ref.lean ====
/- The reference of the packing of the S5 weights, stage by stage. -/
module

public import proofs.«01_k».proof.Proof.Gen.Reference8Ideal
public import Idealize.ShloMosaic.Lib.Pointwise
import Idealize.ShloMosaic.Lib.Pipeline.ValueKit.Point

@[expose] public section

set_option maxRecDepth 16384

noncomputable section

namespace Cert.S5W

open Idealize.ShloMosaic Cert.Reference8Ideal Cert.Reference8Ideal.Gen

/-- The real part of a state's decay over one step. -/
def refAbRe (a0 : FVec Ideal S1x64x64 .f32) (a1 : FVec Ideal S1x64x64 .f32) (a2 : FVec Ideal S1x64 .f32) :
    FVec Ideal S64x64 .f32 :=
  (mulf (Host.exp (mulf (minimumf (shapeCast S64x64 a0 shapeCasts_S1x64x64_S64x64) (broadcastInDim S64x64 ![] bcast_S_S64x64 (constant S_ .f32
    0xB8D1B717#32))) (broadcastInDim S64x64 ![0, 1] bcast_S64x1_S64x64_0_1 (broadcastInDim S64x1 ![0] bcast_S64_S64x1_0 (Host.exp (shapeCast S64 a2
    shapeCasts_S1x64_S64)))))) (Host.cos (mulf (shapeCast S64x64 a1 shapeCasts_S1x64x64_S64x64) (broadcastInDim S64x64 ![0, 1]
    bcast_S64x1_S64x64_0_1 (broadcastInDim S64x1 ![0] bcast_S64_S64x1_0 (Host.exp (shapeCast S64 a2 shapeCasts_S1x64_S64)))))))

/-- The imaginary part of a state's decay over one step. -/
def refAbIm (a0 : FVec Ideal S1x64x64 .f32) (a1 : FVec Ideal S1x64x64 .f32) (a2 : FVec Ideal S1x64 .f32) :
    FVec Ideal S64x64 .f32 :=
  (mulf (Host.exp (mulf (minimumf (shapeCast S64x64 a0 shapeCasts_S1x64x64_S64x64) (broadcastInDim S64x64 ![] bcast_S_S64x64 (constant S_ .f32
    0xB8D1B717#32))) (broadcastInDim S64x64 ![0, 1] bcast_S64x1_S64x64_0_1 (broadcastInDim S64x1 ![0] bcast_S64_S64x1_0 (Host.exp (shapeCast S64 a2
    shapeCasts_S1x64_S64)))))) (Host.sin (mulf (shapeCast S64x64 a1 shapeCasts_S1x64x64_S64x64) (broadcastInDim S64x64 ![0, 1]
    bcast_S64x1_S64x64_0_1 (broadcastInDim S64x1 ![0] bcast_S64_S64x1_0 (Host.exp (shapeCast S64 a2 shapeCasts_S1x64_S64)))))))

/-- The real part of the input weight of the step. -/
def refBbRe (a0 : FVec Ideal S1x64x64 .f32) (a1 : FVec Ideal S1x64x64 .f32) (a2 : FVec Ideal S1x64 .f32) (a3 : FVec Ideal S1x64x64x16 .f32) (a4 :
    FVec Ideal S1x64x64x16 .f32) :
    FVec Ideal S64x64x16 .f32 :=
  (subf (mulf (broadcastInDim S64x64x16 ![0, 1, 2] bcast_S64x64x1_S64x64x16_0_1_2 (broadcastInDim S64x64x1 ![0, 1] bcast_S64x64_S64x64x1_0_1
    (Host.divf (addf (mulf (subf (refAbRe a0 a1 a2) (broadcastInDim S64x64 ![] bcast_S_S64x64 (constant S_ .f32 0x3F800000#32))) (minimumf
    (shapeCast S64x64 a0 shapeCasts_S1x64x64_S64x64) (broadcastInDim S64x64 ![] bcast_S_S64x64 (constant S_ .f32 0xB8D1B717#32)))) (mulf (refAbIm
    a0 a1 a2) (shapeCast S64x64 a1 shapeCasts_S1x64x64_S64x64))) (addf (mulf (minimumf (shapeCast S64x64 a0 shapeCasts_S1x64x64_S64x64)
    (broadcastInDim S64x64 ![] bcast_S_S64x64 (constant S_ .f32 0xB8D1B717#32))) (minimumf (shapeCast S64x64 a0 shapeCasts_S1x64x64_S64x64)
    (broadcastInDim S64x64 ![] bcast_S_S64x64 (constant S_ .f32 0xB8D1B717#32)))) (mulf (shapeCast S64x64 a1 shapeCasts_S1x64x64_S64x64) (shapeCast
    S64x64 a1 shapeCasts_S1x64x64_S64x64)))))) (shapeCast S64x64x16 a3 shapeCasts_S1x64x64x16_S64x64x16)) (mulf (broadcastInDim S64x64x16 ![0, 1,
    2] bcast_S64x64x1_S64x64x16_0_1_2 (broadcastInDim S64x64x1 ![0, 1] bcast_S64x64_S64x64x1_0_1 (Host.divf (subf (mulf (refAbIm a0 a1 a2)
    (minimumf (shapeCast S64x64 a0 shapeCasts_S1x64x64_S64x64) (broadcastInDim S64x64 ![] bcast_S_S64x64 (constant S_ .f32 0xB8D1B717#32)))) (mulf
    (subf (refAbRe a0 a1 a2) (broadcastInDim S64x64 ![] bcast_S_S64x64 (constant S_ .f32 0x3F800000#32))) (shapeCast S64x64 a1
    shapeCasts_S1x64x64_S64x64))) (addf (mulf (minimumf (shapeCast S64x64 a0 shapeCasts_S1x64x64_S64x64) (broadcastInDim S64x64 ![] bcast_S_S64x64
    (constant S_ .f32 0xB8D1B717#32))) (minimumf (shapeCast S64x64 a0 shapeCasts_S1x64x64_S64x64) (broadcastInDim S64x64 ![] bcast_S_S64x64
    (constant S_ .f32 0xB8D1B717#32)))) (mulf (shapeCast S64x64 a1 shapeCasts_S1x64x64_S64x64) (shapeCast S64x64 a1
    shapeCasts_S1x64x64_S64x64)))))) (shapeCast S64x64x16 a4 shapeCasts_S1x64x64x16_S64x64x16)))

/-- The imaginary part of the input weight of the step. -/
def refBbIm (a0 : FVec Ideal S1x64x64 .f32) (a1 : FVec Ideal S1x64x64 .f32) (a2 : FVec Ideal S1x64 .f32) (a3 : FVec Ideal S1x64x64x16 .f32) (a4 :
    FVec Ideal S1x64x64x16 .f32) :
    FVec Ideal S64x64x16 .f32 :=
  (addf (mulf (broadcastInDim S64x64x16 ![0, 1, 2] bcast_S64x64x1_S64x64x16_0_1_2 (broadcastInDim S64x64x1 ![0, 1] bcast_S64x64_S64x64x1_0_1
    (Host.divf (addf (mulf (subf (refAbRe a0 a1 a2) (broadcastInDim S64x64 ![] bcast_S_S64x64 (constant S_ .f32 0x3F800000#32))) (minimumf
    (shapeCast S64x64 a0 shapeCasts_S1x64x64_S64x64) (broadcastInDim S64x64 ![] bcast_S_S64x64 (constant S_ .f32 0xB8D1B717#32)))) (mulf (refAbIm
    a0 a1 a2) (shapeCast S64x64 a1 shapeCasts_S1x64x64_S64x64))) (addf (mulf (minimumf (shapeCast S64x64 a0 shapeCasts_S1x64x64_S64x64)
    (broadcastInDim S64x64 ![] bcast_S_S64x64 (constant S_ .f32 0xB8D1B717#32))) (minimumf (shapeCast S64x64 a0 shapeCasts_S1x64x64_S64x64)
    (broadcastInDim S64x64 ![] bcast_S_S64x64 (constant S_ .f32 0xB8D1B717#32)))) (mulf (shapeCast S64x64 a1 shapeCasts_S1x64x64_S64x64) (shapeCast
    S64x64 a1 shapeCasts_S1x64x64_S64x64)))))) (shapeCast S64x64x16 a4 shapeCasts_S1x64x64x16_S64x64x16)) (mulf (broadcastInDim S64x64x16 ![0, 1,
    2] bcast_S64x64x1_S64x64x16_0_1_2 (broadcastInDim S64x64x1 ![0, 1] bcast_S64x64_S64x64x1_0_1 (Host.divf (subf (mulf (refAbIm a0 a1 a2)
    (minimumf (shapeCast S64x64 a0 shapeCasts_S1x64x64_S64x64) (broadcastInDim S64x64 ![] bcast_S_S64x64 (constant S_ .f32 0xB8D1B717#32)))) (mulf
    (subf (refAbRe a0 a1 a2) (broadcastInDim S64x64 ![] bcast_S_S64x64 (constant S_ .f32 0x3F800000#32))) (shapeCast S64x64 a1
    shapeCasts_S1x64x64_S64x64))) (addf (mulf (minimumf (shapeCast S64x64 a0 shapeCasts_S1x64x64_S64x64) (broadcastInDim S64x64 ![] bcast_S_S64x64
    (constant S_ .f32 0xB8D1B717#32))) (minimumf (shapeCast S64x64 a0 shapeCasts_S1x64x64_S64x64) (broadcastInDim S64x64 ![] bcast_S_S64x64
    (constant S_ .f32 0xB8D1B717#32)))) (mulf (shapeCast S64x64 a1 shapeCasts_S1x64x64_S64x64) (shapeCast S64x64 a1
    shapeCasts_S1x64x64_S64x64)))))) (shapeCast S64x64x16 a3 shapeCasts_S1x64x64x16_S64x64x16)))

/-- Which columns of the packed weight belong to the group of a row. -/
def refOwn :
    Vec Ideal S256x1024 .i1 :=
  (shapeCast S256x1024 (broadcastInDim S256x4x2x128 ![0, 1, 2, 3] bcast_S256x4x1x128_S256x4x2x128_0_1_2_3 (shapeCast S256x4x1x128 (broadcastInDim
    S256x8x64 ![0, 1, 2] bcast_S256x8x1_S256x8x64_0_1_2 (broadcastInDim S256x8x1 ![0, 1] bcast_S256x8_S256x8x1_0_1 (shapeCast S256x8
    (broadcastInDim S2x8x16x8 ![0, 1, 2, 3] bcast_S1x8x1x8_S2x8x16x8_0_1_2_3 (broadcastInDim S1x8x1x8 ![1, 3] bcast_S8x8_S1x8x1x8_1_3 (cmpi .eq
    (broadcastInDim S8x8 ![0, 1] bcast_S8x1_S8x8_0_1 (broadcastInDim S8x1 ![0] bcast_S8_S8x1_0 (iotaInDim S8 32 0))) (broadcastInDim S8x8 ![0, 1]
    bcast_S1x8_S8x8_0_1 (broadcastInDim S1x8 ![1] bcast_S8_S1x8_1 (iotaInDim S8 32 0)))))) shapeCasts_S2x8x16x8_S256x8)))
    shapeCasts_S256x8x64_S256x4x1x128)) shapeCasts_S256x4x2x128_S256x1024)

/-- The packed input weight, real and imaginary columns side by side. -/
def refBw (a0 : FVec Ideal S1x64x64 .f32) (a1 : FVec Ideal S1x64x64 .f32) (a2 : FVec Ideal S1x64 .f32) (a3 : FVec Ideal S1x64x64x16 .f32) (a4 :
    FVec Ideal S1x64x64x16 .f32) :
    FVec Ideal S4x256x1024 .bf16 :=
  (truncf .bf16 (select (broadcastInDim S4x256x1024 ![0, 1, 2] bcast_S1x256x1024_S4x256x1024_0_1_2 (broadcastInDim S1x256x1024 ![1, 2]
    bcast_S256x1024_S1x256x1024_1_2 refOwn)) (shapeCast S4x256x1024 (broadcastInDim S4x256x4x256 ![0, 1, 2, 3]
    bcast_S4x256x1x256_S4x256x4x256_0_1_2_3 (broadcastInDim S4x256x1x256 ![0, 1, 3] bcast_S4x256x256_S4x256x1x256_0_1_3 (concatenate S4x256x256 2
    [⟨S4x256x128, (shapeCast S4x256x128 (broadcastInDim S4x256x2x64 ![0, 1, 2, 3] bcast_S4x256x1x64_S4x256x2x64_0_1_2_3 (shapeCast S4x256x1x64
    (transpose S4x2x128x64 [1, 0, 2, 3] (shapeCast S2x4x128x64 (transpose S64x16x64 [0, 2, 1] (refBbRe a0 a1 a2 a3 a4)
    transposes_S64x64x16_S64x16x64_0_2_1) shapeCasts_S64x16x64_S2x4x128x64) transposes_S2x4x128x64_S4x2x128x64_1_0_2_3)
    shapeCasts_S4x2x128x64_S4x256x1x64)) shapeCasts_S4x256x2x64_S4x256x128)⟩, ⟨S4x256x128, (shapeCast S4x256x128 (broadcastInDim S4x256x2x64 ![0,
    1, 2, 3] bcast_S4x256x1x64_S4x256x2x64_0_1_2_3 (shapeCast S4x256x1x64 (transpose S4x2x128x64 [1, 0, 2, 3] (shapeCast S2x4x128x64 (transpose
    S64x16x64 [0, 2, 1] (refBbIm a0 a1 a2 a3 a4) transposes_S64x64x16_S64x16x64_0_2_1) shapeCasts_S64x16x64_S2x4x128x64)
    transposes_S2x4x128x64_S4x2x128x64_1_0_2_3) shapeCasts_S4x2x128x64_S4x256x1x64)) shapeCasts_S4x256x2x64_S4x256x128)⟩]
    concatenates_S4x256x128_S4x256x128_S4x256x256_d2))) shapeCasts_S4x256x4x256_S4x256x1024) (broadcastInDim S4x256x1024 ![] bcast_S_S4x256x1024
    (constant S_ .f32 0x00000000#32))) bitsLt_bf16_f32)

/-- The packed output weight. -/
def refCw (a5 : FVec Ideal S1x64x16x64 .f32) (a6 : FVec Ideal S1x64x16x64 .f32) :
    FVec Ideal S4x1024x256 .bf16 :=
  (truncf .bf16 (transpose S4x1024x256 [0, 2, 1] (select (broadcastInDim S4x256x1024 ![0, 1, 2] bcast_S1x256x1024_S4x256x1024_0_1_2 (broadcastInDim
    S1x256x1024 ![1, 2] bcast_S256x1024_S1x256x1024_1_2 refOwn)) (shapeCast S4x256x1024 (broadcastInDim S4x256x4x256 ![0, 1, 2, 3]
    bcast_S4x256x1x256_S4x256x4x256_0_1_2_3 (broadcastInDim S4x256x1x256 ![0, 1, 3] bcast_S4x256x256_S4x256x1x256_0_1_3 (concatenate S4x256x256 2
    [⟨S4x256x128, (shapeCast S4x256x128 (broadcastInDim S4x256x2x64 ![0, 1, 2, 3] bcast_S4x256x1x64_S4x256x2x64_0_1_2_3 (shapeCast S4x256x1x64
    (transpose S4x2x128x64 [1, 0, 2, 3] (shapeCast S2x4x128x64 (shapeCast S64x16x64 a5 shapeCasts_S1x64x16x64_S64x16x64)
    shapeCasts_S64x16x64_S2x4x128x64) transposes_S2x4x128x64_S4x2x128x64_1_0_2_3) shapeCasts_S4x2x128x64_S4x256x1x64))
    shapeCasts_S4x256x2x64_S4x256x128)⟩, ⟨S4x256x128, (shapeCast S4x256x128 (broadcastInDim S4x256x2x64 ![0, 1, 2, 3]
    bcast_S4x256x1x64_S4x256x2x64_0_1_2_3 (shapeCast S4x256x1x64 (transpose S4x2x128x64 [1, 0, 2, 3] (shapeCast S2x4x128x64 (Host.negf (shapeCast
    S64x16x64 a6 shapeCasts_S1x64x16x64_S64x16x64)) shapeCasts_S64x16x64_S2x4x128x64) transposes_S2x4x128x64_S4x2x128x64_1_0_2_3)
    shapeCasts_S4x2x128x64_S4x256x1x64)) shapeCasts_S4x256x2x64_S4x256x128)⟩] concatenates_S4x256x128_S4x256x128_S4x256x256_d2)))
    shapeCasts_S4x256x4x256_S4x256x1024) (broadcastInDim S4x256x1024 ![] bcast_S_S4x256x1024 (constant S_ .f32 0x00000000#32)))
    transposes_S4x256x1024_S4x1024x256_0_2_1) bitsLt_bf16_f32)

/-- The real decays, in the packed order. -/
def refARe (a0 : FVec Ideal S1x64x64 .f32) (a1 : FVec Ideal S1x64x64 .f32) (a2 : FVec Ideal S1x64 .f32) :
    FVec Ideal S4x2x1x512 .f32 :=
  (broadcastInDim S4x2x1x512 ![0, 1, 3] bcast_S4x2x512_S4x2x1x512_0_1_3 (transpose S4x2x512 [1, 0, 2] (shapeCast S2x4x512 (refAbRe a0 a1 a2)
    shapeCasts_S64x64_S2x4x512) transposes_S2x4x512_S4x2x512_1_0_2))

/-- The imaginary decays, in the packed order. -/
def refAIm (a0 : FVec Ideal S1x64x64 .f32) (a1 : FVec Ideal S1x64x64 .f32) (a2 : FVec Ideal S1x64 .f32) :
    FVec Ideal S4x2x1x512 .f32 :=
  (broadcastInDim S4x2x1x512 ![0, 1, 3] bcast_S4x2x512_S4x2x1x512_0_1_3 (transpose S4x2x512 [1, 0, 2] (shapeCast S2x4x512 (refAbIm a0 a1 a2)
    shapeCasts_S64x64_S2x4x512) transposes_S2x4x512_S4x2x512_1_0_2))

/-- The real decays, one row per half and repeat. -/
def refPRe (a0 : FVec Ideal S1x64x64 .f32) (a1 : FVec Ideal S1x64x64 .f32) (a2 : FVec Ideal S1x64 .f32) :
    FVec Ideal S4x8x512 .f32 :=
  (shapeCast S4x8x512 (broadcastInDim S4x4x2x512 ![0, 1, 2, 3] bcast_S4x1x2x512_S4x4x2x512_0_1_2_3 (broadcastInDim S4x1x2x512 ![0, 2, 3]
    bcast_S4x2x512_S4x1x2x512_0_2_3 (transpose S4x2x512 [1, 0, 2] (shapeCast S2x4x512 (refAbRe a0 a1 a2) shapeCasts_S64x64_S2x4x512)
    transposes_S2x4x512_S4x2x512_1_0_2))) shapeCasts_S4x4x2x512_S4x8x512)

/-- The imaginary decays, one row per half and repeat. -/
def refPIm (a0 : FVec Ideal S1x64x64 .f32) (a1 : FVec Ideal S1x64x64 .f32) (a2 : FVec Ideal S1x64 .f32) :
    FVec Ideal S4x8x512 .f32 :=
  (shapeCast S4x8x512 (broadcastInDim S4x4x2x512 ![0, 1, 2, 3] bcast_S4x1x2x512_S4x4x2x512_0_1_2_3 (broadcastInDim S4x1x2x512 ![0, 2, 3]
    bcast_S4x2x512_S4x1x2x512_0_2_3 (transpose S4x2x512 [1, 0, 2] (shapeCast S2x4x512 (refAbIm a0 a1 a2) shapeCasts_S64x64_S2x4x512)
    transposes_S2x4x512_S4x2x512_1_0_2))) shapeCasts_S4x4x2x512_S4x8x512)

/-- The group of a row of the packed weights. -/
abbrev grp (q : Fin 4) (r : Fin 256) : Fin 64 := ⟨(q.val + 4 * (r.val / 128)) * 8 + r.val / 16 % 8, by omega⟩

theorem own8_at : ∀ r d : Fin 8, IntOp.cmpi CmpIPredicate.eq (BitVec.ofNat 32 r.val) (BitVec.ofNat 32 d.val)
    = if r.val = d.val then 1#1 else 0#1 := by
  decide

theorem refOwn_at (r : Fin 256) (s : Fin 1024) :
    refOwn (ix2 r s) = if r.val / 16 % 8 = 2 * (s.val / 256) + s.val / 64 % 2 then 1#1 else 0#1 := by
  pointwise [refOwn]
  refine (own8_at ⟨r.val / 16 % 8, by omega⟩ ⟨s.val / 256 * 2 + s.val % 128 / 64, by omega⟩).trans ?_
  have e : s.val / 256 * 2 + s.val % 128 / 64 = 2 * (s.val / 256) + s.val / 64 % 2 := by omega
  simp only [e]

theorem pick (P Q Q' : Prop) [Decidable P] [Decidable Q] [Decidable Q'] (f : Q → EReal) (g : ¬ Q → EReal) (a b : EReal)
    (hq : Q ↔ Q') (hf : ∀ h, f h = a) (hg : ∀ h, g h = b) :
    Scalar.select (if P then 1#1 else 0#1) (if h : Q then f h else g h) (0 : EReal) = if P then (if Q' then a else b) else 0 := by
  by_cases hp : P
  · rw [if_pos hp, if_pos hp]
    by_cases h : Q
    · rw [dif_pos h, if_pos (hq.1 h), hf h]
      rfl
    · rw [dif_neg h, if_neg (fun w => h (hq.2 w)), hg h]
      rfl
  · rw [if_neg hp, if_neg hp]
    rfl

theorem refBw_at (a0 a1 : FVec Ideal S1x64x64 .f32) (a2 : FVec Ideal S1x64 .f32) (a3 a4 : FVec Ideal S1x64x64x16 .f32)
    (q : Fin 4) (r : Fin 256) (s : Fin 1024) :
    refBw a0 a1 a2 a3 a4 (ix3 q r s) = if r.val / 16 % 8 = 2 * (s.val / 256) + s.val / 64 % 2 then
        (if s.val / 128 % 2 = 0 then refBbRe a0 a1 a2 a3 a4 (ix3 (grp q r) ⟨s.val % 64, by omega⟩ ⟨r.val % 16, by omega⟩)
          else refBbIm a0 a1 a2 a3 a4 (ix3 (grp q r) ⟨s.val % 64, by omega⟩ ⟨r.val % 16, by omega⟩)) else 0 := by
  pointwise [refBw, refOwn_at]
  refine pick _ _ _ _ _ _ _ (by omega) (fun h => ?_) (fun h => ?_)
  · refine congrArg _ ?_
    blk_ext
  · refine congrArg _ ?_
    blk_ext

theorem refCw_at (a5 a6 : FVec Ideal S1x64x16x64 .f32) (q : Fin 4) (r : Fin 256) (s : Fin 1024) :
    refCw a5 a6 (ix3 q s r) = if r.val / 16 % 8 = 2 * (s.val / 256) + s.val / 64 % 2 then
        (if s.val / 128 % 2 = 0 then a5 (ix4 0 (grp q r) ⟨r.val % 16, by omega⟩ ⟨s.val % 64, by omega⟩)
          else 0 - a6 (ix4 0 (grp q r) ⟨r.val % 16, by omega⟩ ⟨s.val % 64, by omega⟩)) else 0 := by
  pointwise [refCw, refOwn_at]
  refine pick _ _ _ _ _ _ _ (by omega) (fun h => ?_) (fun h => ?_)
  · refine congrArg _ ?_
    blk_ext
  · refine (congrArg _ (congrArg _ ?_)).trans (zero_sub _).symm
    blk_ext

theorem refARe_at (a0 a1 : FVec Ideal S1x64x64 .f32) (a2 : FVec Ideal S1x64 .f32) (q : Fin 4) (h : Fin 2) (s : Fin 512) :
    refARe a0 a1 a2 (ix4 q h 0 s) = refAbRe a0 a1 a2 (ix2 ⟨(q.val + 4 * h.val) * 8 + s.val / 64, by omega⟩ ⟨s.val % 64, by omega⟩) := by
  pointwise [refARe]
  refine congrArg _ ?_
  blk_ext

theorem refAIm_at (a0 a1 : FVec Ideal S1x64x64 .f32) (a2 : FVec Ideal S1x64 .f32) (q : Fin 4) (h : Fin 2) (s : Fin 512) :
    refAIm a0 a1 a2 (ix4 q h 0 s) = refAbIm a0 a1 a2 (ix2 ⟨(q.val + 4 * h.val) * 8 + s.val / 64, by omega⟩ ⟨s.val % 64, by omega⟩) := by
  pointwise [refAIm]
  refine congrArg _ ?_
  blk_ext

theorem refPRe_at (a0 a1 : FVec Ideal S1x64x64 .f32) (a2 : FVec Ideal S1x64 .f32) (q : Fin 4) (i : Fin 8) (s : Fin 512) :
    refPRe a0 a1 a2 (ix3 q i s)
      = refAbRe a0 a1 a2 (ix2 ⟨(q.val + 4 * (i.val % 2)) * 8 + s.val / 64, by omega⟩ ⟨s.val % 64, by omega⟩) := by
  pointwise [refPRe]
  refine congrArg _ ?_
  blk_ext

theorem refPIm_at (a0 a1 : FVec Ideal S1x64x64 .f32) (a2 : FVec Ideal S1x64 .f32) (q : Fin 4) (i : Fin 8) (s : Fin 512) :
    refPIm a0 a1 a2 (ix3 q i s)
      = refAbIm a0 a1 a2 (ix2 ⟨(q.val + 4 * (i.val % 2)) * 8 + s.val / 64, by omega⟩ ⟨s.val % 64, by omega⟩) := by
  pointwise [refPIm]
  refine congrArg _ ?_
  blk_ext

end Cert.S5W

end
-- ==== Proof.S5W.Pay.lean ====
/- The packing of the S5 weights: the kernel's decays and input weights of one group are the reference's. -/
module

public import proofs.«01_k».proof.Proof.S5W.Bands
public import proofs.«01_k».proof.Proof.S5W.Ref
import Idealize.ShloMosaic.Lib.Pipeline.ValueKit.Point

@[expose] public section

set_option maxRecDepth 16384

noncomputable section

namespace Cert.S5W

open Idealize.ShloMosaic Cert.Kernel8Ideal Cert.Kernel8Ideal.Gen

section
variable (v0 : Vec Ideal S8x1x1 .f32) (v3 v7 : Vec Ideal S8x1x64 .f32) (w w' : Vec Ideal S8x16x64 .f32) (a0 a1 : FVec Ideal S1x64x64 .f32) (a2 : FVec Ideal S1x64 .f32)
  (a3 a4 : FVec Ideal S1x64x64x16 .f32) (l : Fin 8) (g : Fin 64) (p : Fin 64) (c : Fin 16)

/-- The real part of a decay. -/
theorem ab_re (h0 : v0 (ix3 l 0 0) = a2 (ix2 0 g)) (h3 : v3 (ix3 l 0 p) = a0 (ix3 0 g p)) (h7 : v7 (ix3 l 0 p) = a1 (ix3 0 g p)) :
    k0_pay6 v0 v3 v7 (ix3 l 0 p) = refAbRe a0 a1 a2 (ix2 g p) := by
  pointwise [k0_pay6, k0_pay2, k0_pay3, k0_pay4, k0_pay5, refAbRe, h0, h3, h7]

/-- The imaginary part of a decay. -/
theorem ab_im (h0 : v0 (ix3 l 0 0) = a2 (ix2 0 g)) (h3 : v3 (ix3 l 0 p) = a0 (ix3 0 g p)) (h7 : v7 (ix3 l 0 p) = a1 (ix3 0 g p)) :
    k0_pay7 v0 v3 v7 (ix3 l 0 p) = refAbIm a0 a1 a2 (ix2 g p) := by
  pointwise [k0_pay7, k0_pay2, k0_pay3, k0_pay4, k0_pay5, refAbIm, h0, h3, h7]

/-- The real part of an input weight. -/
theorem bb_re (h0 : v0 (ix3 l 0 0) = a2 (ix2 0 g)) (h3 : v3 (ix3 l 0 p) = a0 (ix3 0 g p)) (h7 : v7 (ix3 l 0 p) = a1 (ix3 0 g p))
    (hw : w (ix3 l c p) = a3 (ix4 0 g p c)) (hw' : w' (ix3 l c p) = a4 (ix4 0 g p c)) :
    k0_pay14 (k0_pay10 v0 v3 v7) (k0_pay12 w') (k0_pay13 v0 v3 v7 w) (ix3 l c p) = refBbRe a0 a1 a2 a3 a4 (ix3 g p c) := by
  have e1 := ab_re v0 v3 v7 a0 a1 a2 l g p h0 h3 h7
  have e2 := ab_im v0 v3 v7 a0 a1 a2 l g p h0 h3 h7
  pointwise [k0_pay14, k0_pay10, k0_pay12, k0_pay13, k0_pay9, k0_pay11, k0_pay8, k0_pay3, k0_pay4, refBbRe, h3, h7, hw, hw', e1, e2]

/-- The imaginary part of an input weight. -/
theorem bb_im (h0 : v0 (ix3 l 0 0) = a2 (ix2 0 g)) (h3 : v3 (ix3 l 0 p) = a0 (ix3 0 g p)) (h7 : v7 (ix3 l 0 p) = a1 (ix3 0 g p))
    (hw : w (ix3 l c p) = a3 (ix4 0 g p c)) (hw' : w' (ix3 l c p) = a4 (ix4 0 g p c)) :
    k0_pay15 (k0_pay9 v0 v3 v7) (k0_pay10 v0 v3 v7) (k0_pay11 w) (k0_pay12 w') (ix3 l c p) = refBbIm a0 a1 a2 a3 a4 (ix3 g p c) := by
  have e1 := ab_re v0 v3 v7 a0 a1 a2 l g p h0 h3 h7
  have e2 := ab_im v0 v3 v7 a0 a1 a2 l g p h0 h3 h7
  pointwise [k0_pay15, k0_pay10, k0_pay12, k0_pay9, k0_pay11, k0_pay8, k0_pay3, k0_pay4, refBbIm, h3, h7, hw, hw', e1, e2]

end

/-- The second half's decays are the first half's, at its own blocks. -/
theorem pay20_eq : @k0_pay20 Ideal = @k0_pay6 Ideal := rfl
theorem pay21_eq : @k0_pay21 Ideal = @k0_pay7 Ideal := rfl

theorem pay27_eq (v49 : Vec Ideal S8x1x1 .f32) (v52 v56 : Vec Ideal S8x1x64 .f32) (w w' : Vec Ideal S8x16x64 .f32) :
    k0_pay27 (k0_pay23 v49 v52 v56) (k0_pay24 v49 v52 v56) (k0_pay25 w) w'
      = k0_pay14 (k0_pay10 v49 v52 v56) (k0_pay12 w') (k0_pay13 v49 v52 v56 w) := rfl

theorem pay28_eq (v49 : Vec Ideal S8x1x1 .f32) (v52 v56 : Vec Ideal S8x1x64 .f32) (w w' : Vec Ideal S8x16x64 .f32) :
    k0_pay28 (k0_pay23 v49 v52 v56) (k0_pay24 v49 v52 v56) (k0_pay25 w) w'
      = k0_pay15 (k0_pay9 v49 v52 v56) (k0_pay10 v49 v52 v56) (k0_pay11 w) (k0_pay12 w') := rfl

theorem pay41_at (u : Vec Ideal S8x16x64 .f32) (l : Fin 8) (c : Fin 16) (p : Fin 64) : k0_pay41 u (ix3 l c p) = u (ix3 l c p) := by
  pointwise [k0_pay41]
theorem pay42_at (u : Vec Ideal S8x16x64 .f32) (l : Fin 8) (c : Fin 16) (p : Fin 64) : k0_pay42 u (ix3 l c p) = u (ix3 l c p) := by
  pointwise [k0_pay42]
theorem pay43_at (u : Vec Ideal S8x16x64 .f32) (l : Fin 8) (c : Fin 16) (p : Fin 64) :
    k0_pay43 u (ix3 l c p) = (0 : EReal) - (show EReal from u (ix3 l c p)) := by
  pointwise [k0_pay43]
theorem pay44_at (u : Vec Ideal S8x16x64 .f32) (l : Fin 8) (c : Fin 16) (p : Fin 64) :
    k0_pay44 u (ix3 l c p) = (0 : EReal) - (show EReal from u (ix3 l c p)) := by
  pointwise [k0_pay44]

end Cert.S5W

end
-- ==== Proof.S5W.Reads.lean ====
/- The packing of the S5 weights: what its blocks read. -/
module

public import proofs.«01_k».proof.Proof.Gen.Kernel8Ideal
public import proofs.«01_k».proof.Proof.Gen.Kernel8Ideal.Frame
public import proofs.«01_k».proof.Proof.S5W.Pay
import Idealize.ShloMosaic.Lib.Pointwise
public import Idealize.ShloMosaic.Lib.Pipeline.Value
import Idealize.ShloMosaic.Lib.Pipeline.ValueKit
import Idealize.ShloMosaic.Lib.Pipeline.ValueKit.Point
import Idealize.ShloMosaic.Lib.Claim
import Idealize.ShloMosaic.Lib.StableHlo.Run

@[expose] public section

set_option maxRecDepth 16384

noncomputable section

namespace Cert.S5W

open Idealize.ShloMosaic Idealize.ShloMosaic.TcCoe Idealize.SL.Sem Cert.Kernel8Ideal Cert.Kernel8Ideal.Gen

variable (m : (ℓ : Loc nD τ sig) → Buf (Elt Ideal) ℓ)

/-- Every input window's index at a point. -/
theorem idx : ∀ t : Fin cfg0.N, win0_0.index t = ![t.val, 0, 0] ∧ win0_1.index t = ![t.val + 4, 0, 0]
    ∧ win0_2.index t = ![t.val, 0, 0] ∧ win0_3.index t = ![t.val + 4, 0, 0] ∧ win0_4.index t = ![t.val, 0, 0] ∧ win0_5.index t = ![t.val + 4, 0, 0]
    ∧ win0_6.index t = ![t.val, 0, 0] ∧ win0_7.index t = ![t.val + 4, 0, 0] ∧ win0_8.index t = ![t.val, 0, 0] ∧ win0_9.index t = ![t.val + 4, 0, 0]
    ∧ win0_10.index t = ![t.val, 0, 0] ∧ win0_11.index t = ![t.val + 4, 0, 0] ∧ win0_12.index t = ![t.val, 0, 0] ∧ win0_13.index t = ![t.val + 4, 0, 0]
    ∧ t.val < 4 :=
  (by decide +kernel : ∀ t : Fin grid0.N, _)

/-- Every output window's index at a point. -/
theorem odx : ∀ t : Fin cfg0.N, win0_14.index t = ![t.val, 0, 0] ∧ win0_15.index t = ![t.val, 0, 0]
    ∧ win0_16.index t = ![t.val, 0, 0, 0] ∧ win0_17.index t = ![t.val, 0, 0, 0] ∧ win0_18.index t = ![t.val, 0, 0] ∧ win0_19.index t = ![t.val, 0, 0] :=
  (by decide +kernel : ∀ t : Fin grid0.N, _)

/-- The block of groups a point works on. -/
def tq (t : Fin cfg0.N) : Fin 4 := ⟨t.val, (idx t).2.2.2.2.2.2.2.2.2.2.2.2.2.2⟩

/-- The first half's block of the real rates. -/
theorem read_0 (c : Dev nD) (t : Fin cfg0.N) (l : Fin 8) (p : Fin 64) :
    iblk m c 0 t (ix3 l 0 p) = m ((c : Thread nD τ).loc main_arg0) (ix3 0 ⟨(tq t).val * 8 + l.val, by omega⟩ p) := by
  obtain ⟨e0, e1, e2, e3, e4, e5, e6, e7, e8, e9, e10, e11, e12, e13, h⟩ := idx t
  unfold tq
  blk_point [iblk, V, e0]

/-- The second half's block of the real rates. -/
theorem read_1 (c : Dev nD) (t : Fin cfg0.N) (l : Fin 8) (p : Fin 64) :
    iblk m c 1 t (ix3 l 0 p) = m ((c : Thread nD τ).loc main_arg0) (ix3 0 ⟨((tq t).val + 4) * 8 + l.val, by omega⟩ p) := by
  obtain ⟨e0, e1, e2, e3, e4, e5, e6, e7, e8, e9, e10, e11, e12, e13, h⟩ := idx t
  unfold tq
  blk_point [iblk, V, e1]

/-- The first half's block of the imaginary rates. -/
theorem read_2 (c : Dev nD) (t : Fin cfg0.N) (l : Fin 8) (p : Fin 64) :
    iblk m c 2 t (ix3 l 0 p) = m ((c : Thread nD τ).loc main_arg1) (ix3 0 ⟨(tq t).val * 8 + l.val, by omega⟩ p) := by
  obtain ⟨e0, e1, e2, e3, e4, e5, e6, e7, e8, e9, e10, e11, e12, e13, h⟩ := idx t
  unfold tq
  blk_point [iblk, V, e2]

/-- The second half's block of the imaginary rates. -/
theorem read_3 (c : Dev nD) (t : Fin cfg0.N) (l : Fin 8) (p : Fin 64) :
    iblk m c 3 t (ix3 l 0 p) = m ((c : Thread nD τ).loc main_arg1) (ix3 0 ⟨((tq t).val + 4) * 8 + l.val, by omega⟩ p) := by
  obtain ⟨e0, e1, e2, e3, e4, e5, e6, e7, e8, e9, e10, e11, e12, e13, h⟩ := idx t
  unfold tq
  blk_point [iblk, V, e3]

/-- The first half's block of the steps. -/
theorem read_4 (c : Dev nD) (t : Fin cfg0.N) (l : Fin 8) :
    iblk m c 4 t (ix3 l 0 0) = m ((c : Thread nD τ).loc main_arg2) (ix2 0 ⟨(tq t).val * 8 + l.val, by omega⟩) := by
  obtain ⟨e0, e1, e2, e3, e4, e5, e6, e7, e8, e9, e10, e11, e12, e13, h⟩ := idx t
  unfold tq
  blk_point [iblk, V, e4]

/-- The second half's block of the steps. -/
theorem read_5 (c : Dev nD) (t : Fin cfg0.N) (l : Fin 8) :
    iblk m c 5 t (ix3 l 0 0) = m ((c : Thread nD τ).loc main_arg2) (ix2 0 ⟨((tq t).val + 4) * 8 + l.val, by omega⟩) := by
  obtain ⟨e0, e1, e2, e3, e4, e5, e6, e7, e8, e9, e10, e11, e12, e13, h⟩ := idx t
  unfold tq
  blk_point [iblk, V, e5]

/-- The first half's block of the real input weight. -/
theorem read_6 (c : Dev nD) (t : Fin cfg0.N) (l : Fin 8) (d : Fin 16) (p : Fin 64) :
    iblk m c 6 t (ix3 l d p) = m ((c : Thread nD τ).loc main_arg3) (ix4 0 ⟨(tq t).val * 8 + l.val, by omega⟩ p d) := by
  obtain ⟨e0, e1, e2, e3, e4, e5, e6, e7, e8, e9, e10, e11, e12, e13, h⟩ := idx t
  unfold tq
  blk_point [iblk, V, e6]

/-- The second half's block of the real input weight. -/
theorem read_7 (c : Dev nD) (t : Fin cfg0.N) (l : Fin 8) (d : Fin 16) (p : Fin 64) :
    iblk m c 7 t (ix3 l d p) = m ((c : Thread nD τ).loc main_arg3) (ix4 0 ⟨((tq t).val + 4) * 8 + l.val, by omega⟩ p d) := by
  obtain ⟨e0, e1, e2, e3, e4, e5, e6, e7, e8, e9, e10, e11, e12, e13, h⟩ := idx t
  unfold tq
  blk_point [iblk, V, e7]

/-- The first half's block of the imaginary input weight. -/
theorem read_8 (c : Dev nD) (t : Fin cfg0.N) (l : Fin 8) (d : Fin 16) (p : Fin 64) :
    iblk m c 8 t (ix3 l d p) = m ((c : Thread nD τ).loc main_arg4) (ix4 0 ⟨(tq t).val * 8 + l.val, by omega⟩ p d) := by
  obtain ⟨e0, e1, e2, e3, e4, e5, e6, e7, e8, e9, e10, e11, e12, e13, h⟩ := idx t
  unfold tq
  blk_point [iblk, V, e8]

/-- The second half's block of the imaginary input weight. -/
theorem read_9 (c : Dev nD) (t : Fin cfg0.N) (l : Fin 8) (d : Fin 16) (p : Fin 64) :
    iblk m c 9 t (ix3 l d p) = m ((c : Thread nD τ).loc main_arg4) (ix4 0 ⟨((tq t).val + 4) * 8 + l.val, by omega⟩ p d) := by
  obtain ⟨e0, e1, e2, e3, e4, e5, e6, e7, e8, e9, e10, e11, e12, e13, h⟩ := idx t
  unfold tq
  blk_point [iblk, V, e9]

/-- The first half's block of the real output weight. -/
theorem read_10 (c : Dev nD) (t : Fin cfg0.N) (l : Fin 8) (d : Fin 16) (p : Fin 64) :
    iblk m c 10 t (ix3 l d p) = m ((c : Thread nD τ).loc main_arg5) (ix4 0 ⟨(tq t).val * 8 + l.val, by omega⟩ d p) := by
  obtain ⟨e0, e1, e2, e3, e4, e5, e6, e7, e8, e9, e10, e11, e12, e13, h⟩ := idx t
  unfold tq
  blk_point [iblk, V, e10]

/-- The second half's block of the real output weight. -/
theorem read_11 (c : Dev nD) (t : Fin cfg0.N) (l : Fin 8) (d : Fin 16) (p : Fin 64) :
    iblk m c 11 t (ix3 l d p) = m ((c : Thread nD τ).loc main_arg5) (ix4 0 ⟨((tq t).val + 4) * 8 + l.val, by omega⟩ d p) := by
  obtain ⟨e0, e1, e2, e3, e4, e5, e6, e7, e8, e9, e10, e11, e12, e13, h⟩ := idx t
  unfold tq
  blk_point [iblk, V, e11]

/-- The first half's block of the imaginary output weight. -/
theorem read_12 (c : Dev nD) (t : Fin cfg0.N) (l : Fin 8) (d : Fin 16) (p : Fin 64) :
    iblk m c 12 t (ix3 l d p) = m ((c : Thread nD τ).loc main_arg6) (ix4 0 ⟨(tq t).val * 8 + l.val, by omega⟩ d p) := by
  obtain ⟨e0, e1, e2, e3, e4, e5, e6, e7, e8, e9, e10, e11, e12, e13, h⟩ := idx t
  unfold tq
  blk_point [iblk, V, e12]

/-- The second half's block of the imaginary output weight. -/
theorem read_13 (c : Dev nD) (t : Fin cfg0.N) (l : Fin 8) (d : Fin 16) (p : Fin 64) :
    iblk m c 13 t (ix3 l d p) = m ((c : Thread nD τ).loc main_arg6) (ix4 0 ⟨((tq t).val + 4) * 8 + l.val, by omega⟩ d p) := by
  obtain ⟨e0, e1, e2, e3, e4, e5, e6, e7, e8, e9, e10, e11, e12, e13, h⟩ := idx t
  unfold tq
  blk_point [iblk, V, e13]

end Cert.S5W

end
-- ==== Proof.S5W.Value.lean ====
/- The packing of the S5 weights: what a point leaves in its six results' blocks. -/
module

public import proofs.«01_k».proof.Proof.Gen.Kernel8Ideal
public import proofs.«01_k».proof.Proof.Gen.Kernel8Ideal.Frame
public import proofs.«01_k».proof.Proof.S5W.Pay
public import proofs.«01_k».proof.Proof.S5W.Reads
import Idealize.ShloMosaic.Lib.Pointwise
public import Idealize.ShloMosaic.Lib.Pipeline.Value
import Idealize.ShloMosaic.Lib.Pipeline.ValueKit
import Idealize.ShloMosaic.Lib.Pipeline.ReadBack
import Idealize.ShloMosaic.Lib.Pipeline.ValueKit.Point
import Idealize.ShloMosaic.Lib.Claim
import Idealize.ShloMosaic.Lib.StableHlo.Run

@[expose] public section

set_option maxRecDepth 16384

noncomputable section

namespace Cert.S5W

open Idealize.ShloMosaic Idealize.ShloMosaic.TcCoe Idealize.SL.Sem Cert.Kernel8Ideal Cert.Kernel8Ideal.Gen

variable (m : (ℓ : Loc nD τ sig) → Buf (Elt Ideal) ℓ)

/-- Arguments, by name. -/
abbrev A0 (c : Dev nD) : FVec Ideal S1x64x64 .f32 := m ((c : Thread nD τ).loc main_arg0)
abbrev A1 (c : Dev nD) : FVec Ideal S1x64x64 .f32 := m ((c : Thread nD τ).loc main_arg1)
abbrev A2 (c : Dev nD) : FVec Ideal S1x64 .f32 := m ((c : Thread nD τ).loc main_arg2)
abbrev A3 (c : Dev nD) : FVec Ideal S1x64x64x16 .f32 := m ((c : Thread nD τ).loc main_arg3)
abbrev A4 (c : Dev nD) : FVec Ideal S1x64x64x16 .f32 := m ((c : Thread nD τ).loc main_arg4)
abbrev A5 (c : Dev nD) : FVec Ideal S1x64x16x64 .f32 := m ((c : Thread nD τ).loc main_arg5)
abbrev A6 (c : Dev nD) : FVec Ideal S1x64x16x64 .f32 := m ((c : Thread nD τ).loc main_arg6)

/-- The real decays of the two halves' groups at a point. -/
def abRe (c : Dev nD) (t : Fin cfg0.N) : Fin 2 → FVec Ideal S8x1x64 .f32 :=
  ![k0_pay6 (iblk m c 4 t) (iblk m c 0 t) (iblk m c 2 t), k0_pay20 (iblk m c 5 t) (iblk m c 1 t) (iblk m c 3 t)]

/-- The imaginary decays of the two halves' groups at a point. -/
def abIm (c : Dev nD) (t : Fin cfg0.N) : Fin 2 → FVec Ideal S8x1x64 .f32 :=
  ![k0_pay7 (iblk m c 4 t) (iblk m c 0 t) (iblk m c 2 t), k0_pay21 (iblk m c 5 t) (iblk m c 1 t) (iblk m c 3 t)]

/-- The real input weights of the two halves' groups at a point. -/
def bbRe (c : Dev nD) (t : Fin cfg0.N) : Fin 2 → FVec Ideal S8x16x64 .f32 :=
  ![k0_pay14 (k0_pay10 (iblk m c 4 t) (iblk m c 0 t) (iblk m c 2 t)) (k0_pay12 (iblk m c 8 t)) (k0_pay13 (iblk m c 4 t) (iblk m c 0 t) (iblk m c 2 t) (iblk m c 6 t)),
    k0_pay27 (k0_pay23 (iblk m c 5 t) (iblk m c 1 t) (iblk m c 3 t)) (k0_pay24 (iblk m c 5 t) (iblk m c 1 t) (iblk m c 3 t)) (k0_pay25 (iblk m c 7 t)) (iblk m c 9 t)]

/-- The imaginary input weights of the two halves' groups at a point. -/
def bbIm (c : Dev nD) (t : Fin cfg0.N) : Fin 2 → FVec Ideal S8x16x64 .f32 :=
  ![k0_pay15 (k0_pay9 (iblk m c 4 t) (iblk m c 0 t) (iblk m c 2 t)) (k0_pay10 (iblk m c 4 t) (iblk m c 0 t) (iblk m c 2 t)) (k0_pay11 (iblk m c 6 t)) (k0_pay12 (iblk m c 8 t)),
    k0_pay28 (k0_pay23 (iblk m c 5 t) (iblk m c 1 t) (iblk m c 3 t)) (k0_pay24 (iblk m c 5 t) (iblk m c 1 t) (iblk m c 3 t)) (k0_pay25 (iblk m c 7 t)) (iblk m c 9 t)]

theorem abRe_at (c : Dev nD) (t : Fin cfg0.N) (h : Fin 2) (l : Fin 8) (p : Fin 64) :
    abRe m c t h (ix3 l 0 p) = refAbRe (A0 m c) (A1 m c) (A2 m c) (ix2 ⟨((tq t).val + 4 * h.val) * 8 + l.val, by omega⟩ p) := by
  match h with
  | 0 => exact ab_re _ _ _ _ _ _ l ⟨(tq t).val * 8 + l.val, by omega⟩ p (read_4 m c t l) (read_0 m c t l p) (read_2 m c t l p)
  | 1 => exact ab_re _ _ _ _ _ _ l ⟨((tq t).val + 4) * 8 + l.val, by omega⟩ p (read_5 m c t l) (read_1 m c t l p) (read_3 m c t l p)

theorem abIm_at (c : Dev nD) (t : Fin cfg0.N) (h : Fin 2) (l : Fin 8) (p : Fin 64) :
    abIm m c t h (ix3 l 0 p) = refAbIm (A0 m c) (A1 m c) (A2 m c) (ix2 ⟨((tq t).val + 4 * h.val) * 8 + l.val, by omega⟩ p) := by
  match h with
  | 0 => exact ab_im _ _ _ _ _ _ l ⟨(tq t).val * 8 + l.val, by omega⟩ p (read_4 m c t l) (read_0 m c t l p) (read_2 m c t l p)
  | 1 => exact ab_im _ _ _ _ _ _ l ⟨((tq t).val + 4) * 8 + l.val, by omega⟩ p (read_5 m c t l) (read_1 m c t l p) (read_3 m c t l p)

theorem bbRe_at (c : Dev nD) (t : Fin cfg0.N) (h : Fin 2) (l : Fin 8) (d : Fin 16) (p : Fin 64) :
    bbRe m c t h (ix3 l d p) = refBbRe (A0 m c) (A1 m c) (A2 m c) (A3 m c) (A4 m c) (ix3 ⟨((tq t).val + 4 * h.val) * 8 + l.val, by omega⟩ p d) := by
  match h with
  | 0 => exact bb_re _ _ _ _ _ _ _ _ _ _ l ⟨(tq t).val * 8 + l.val, by omega⟩ p d (read_4 m c t l) (read_0 m c t l p) (read_2 m c t l p)
          (read_6 m c t l d p) (read_8 m c t l d p)
  | 1 => exact (congrFun (pay27_eq _ _ _ _ _) _).trans (bb_re _ _ _ _ _ _ _ _ _ _ l ⟨((tq t).val + 4) * 8 + l.val, by omega⟩ p d (read_5 m c t l) (read_1 m c t l p)
          (read_3 m c t l p) (read_7 m c t l d p) (read_9 m c t l d p))

theorem bbIm_at (c : Dev nD) (t : Fin cfg0.N) (h : Fin 2) (l : Fin 8) (d : Fin 16) (p : Fin 64) :
    bbIm m c t h (ix3 l d p) = refBbIm (A0 m c) (A1 m c) (A2 m c) (A3 m c) (A4 m c) (ix3 ⟨((tq t).val + 4 * h.val) * 8 + l.val, by omega⟩ p d) := by
  match h with
  | 0 => exact bb_im _ _ _ _ _ _ _ _ _ _ l ⟨(tq t).val * 8 + l.val, by omega⟩ p d (read_4 m c t l) (read_0 m c t l p) (read_2 m c t l p)
          (read_6 m c t l d p) (read_8 m c t l d p)
  | 1 => exact (congrFun (pay28_eq _ _ _ _ _) _).trans (bb_im _ _ _ _ _ _ _ _ _ _ l ⟨((tq t).val + 4) * 8 + l.val, by omega⟩ p d (read_5 m c t l) (read_1 m c t l p)
          (read_3 m c t l p) (read_7 m c t l d p) (read_9 m c t l d p))

/-- The real output weights of the two halves' groups at a point. -/
def ccRe (c : Dev nD) (t : Fin cfg0.N) : Fin 2 → FVec Ideal S8x16x64 .f32 := ![k0_pay41 (iblk m c 10 t), k0_pay42 (iblk m c 11 t)]

/-- The imaginary output weights of the two halves' groups at a point, negated. -/
def ccIm (c : Dev nD) (t : Fin cfg0.N) : Fin 2 → FVec Ideal S8x16x64 .f32 := ![k0_pay43 (iblk m c 12 t), k0_pay44 (iblk m c 13 t)]

/-- A function of two cases, at each. -/
theorem two_at (a b : FVec Ideal S8x16x64 .f32) (f : Fin 2 → EReal) (i : S8x16x64.Idx) (h0 : a i = f 0) (h1 : b i = f 1) (h : Fin 2) :
    (![a, b] : Fin 2 → FVec Ideal S8x16x64 .f32) h i = f h := by
  match h with
  | 0 => exact h0
  | 1 => exact h1

theorem ccRe_at (c : Dev nD) (t : Fin cfg0.N) (h : Fin 2) (l : Fin 8) (d : Fin 16) (p : Fin 64) :
    ccRe m c t h (ix3 l d p) = A5 m c (ix4 0 ⟨((tq t).val + 4 * h.val) * 8 + l.val, by omega⟩ d p) := by
  unfold ccRe
  refine two_at _ _ (fun h => A5 m c (ix4 0 ⟨((tq t).val + 4 * h.val) * 8 + l.val, by omega⟩ d p)) _ ?_ ?_ h
  · rw [pay41_at, read_10]
    rfl
  · rw [pay42_at, read_11]
    rfl

theorem ccIm_at (c : Dev nD) (t : Fin cfg0.N) (h : Fin 2) (l : Fin 8) (d : Fin 16) (p : Fin 64) :
    ccIm m c t h (ix3 l d p) = (0 : EReal) - (show EReal from A6 m c (ix4 0 ⟨((tq t).val + 4 * h.val) * 8 + l.val, by omega⟩ d p)) := by
  unfold ccIm
  refine two_at _ _ (fun h => (0 : EReal) - (show EReal from A6 m c (ix4 0 ⟨((tq t).val + 4 * h.val) * 8 + l.val, by omega⟩ d p))) _ ?_ ?_ h
  · rw [pay43_at, read_12]
    rfl
  · rw [pay44_at, read_13]
    rfl

/-- What a point leaves in the first result's block. -/
theorem after_bw (c : Dev nD) (t : Fin cfg0.N) : (dats m 0 c).after 14 t
    = shapeCast S1x256x1024 (truncf .bf16 (whole (bbRe m c t) (bbIm m c t)) bitsLt_bf16_f32) shapeCasts_S256x1024_S1x256x1024 := by
  rw [after0_14]
  frame_out
  exact pay40_eq _ _ _ _ _ _

/-- What a point leaves in the second result's block. -/
theorem after_cw (c : Dev nD) (t : Fin cfg0.N) : (dats m 0 c).after 15 t
    = shapeCast S1x1024x256 (truncf .bf16 (transpose S1024x256 [1, 0] (whole (ccRe m c t) (ccIm m c t)) transposes_S256x1024_p1_0_S1024x256) bitsLt_bf16_f32)
        shapeCasts_S1024x256_S1x1024x256 := by
  rw [after0_15]
  frame_out
  exact pay56_eq _ _ _ _

/-- An index of one stored row is its column. -/
theorem only (x : S1x1x1x512.Idx) (s : Fin 512) (h : s.val = (x 3).val) : x = ix4 0 0 0 s := by
  obtain ⟨a, b, d, e, rfl⟩ : ∃ (a b d : Fin 1) (e : Fin 512), x = ix4 a b d e := ⟨x 0, x 1, x 2, x 3, eq_ix4 x⟩
  obtain rfl : s = e := Fin.ext h
  obtain rfl : a = 0 := Subsingleton.elim _ _
  obtain rfl : b = 0 := Subsingleton.elim _ _
  obtain rfl : d = 0 := Subsingleton.elim _ _
  rfl

/-- What a point leaves in the real decays' block. -/
theorem after_are (c : Dev nD) (t : Fin cfg0.N) (h : Fin 2) (s : Fin 512) :
    (dats m 0 c).after 16 t (ix4 0 h 0 s) = abRe m c t h (ix3 ⟨s.val / 64, by omega⟩ 0 ⟨s.val % 64, by omega⟩) := by
  rw [after0_16]
  frame_out
  canon_tiles x k
  · obtain rfl : h = 1 := Fin.ext (by have e : h.val = 1 + (x 1).val := k1; omega)
    rw [only x s k3]
    exact pay60_at _ s
  · obtain rfl : h = 0 := Fin.ext (by have e : h.val = (x 1).val := k1; omega)
    rw [only x s k3]
    exact pay58_at _ s

/-- What a point leaves in the imaginary decays' block. -/
theorem after_aim (c : Dev nD) (t : Fin cfg0.N) (h : Fin 2) (s : Fin 512) :
    (dats m 0 c).after 17 t (ix4 0 h 0 s) = abIm m c t h (ix3 ⟨s.val / 64, by omega⟩ 0 ⟨s.val % 64, by omega⟩) := by
  rw [after0_17]
  frame_out
  canon_tiles x k
  · obtain rfl : h = 1 := Fin.ext (by have e : h.val = 1 + (x 1).val := k1; omega)
    rw [only x s k3]
    exact pay63_at _ s
  · obtain rfl : h = 0 := Fin.ext (by have e : h.val = (x 1).val := k1; omega)
    rw [only x s k3]
    exact pay59_at _ s

/-- What a point leaves in the repeated real decays' block. -/
theorem after_pre (c : Dev nD) (t : Fin cfg0.N) (i : Fin 8) (s : Fin 512) :
    (dats m 0 c).after 18 t (ix3 0 i s) = abRe m c t ⟨i.val % 2, by omega⟩ (ix3 ⟨s.val / 64, by omega⟩ 0 ⟨s.val % 64, by omega⟩) := by
  rw [after0_18]
  frame_out
  refine (pay64_at _ _ i s).trans ?_
  rw [View.readCov_cons_toLoadRect, View.readCov_skip (h := by decide), View.readCov_cons_toLoadRect]
  by_cases hi : i.val % 2 = 0
  · rw [if_pos hi, show (⟨i.val % 2, by omega⟩ : Fin 2) = 0 from Fin.ext hi]
    exact pay58_at _ s
  · rw [if_neg hi, show (⟨i.val % 2, by omega⟩ : Fin 2) = 1 from Fin.ext (by dsimp only; omega)]
    exact pay60_at _ s

/-- What a point leaves in the repeated imaginary decays' block. -/
theorem after_pim (c : Dev nD) (t : Fin cfg0.N) (i : Fin 8) (s : Fin 512) :
    (dats m 0 c).after 19 t (ix3 0 i s) = abIm m c t ⟨i.val % 2, by omega⟩ (ix3 ⟨s.val / 64, by omega⟩ 0 ⟨s.val % 64, by omega⟩) := by
  rw [after0_19]
  frame_out
  refine (pay65_at _ _ i s).trans ?_
  rw [View.readCov_cons_toLoadRect, View.readCov_skip (h := by decide), View.readCov_cons_toLoadRect]
  by_cases hi : i.val % 2 = 0
  · rw [if_pos hi, show (⟨i.val % 2, by omega⟩ : Fin 2) = 0 from Fin.ext hi]
    exact pay59_at _ s
  · rw [if_neg hi, show (⟨i.val % 2, by omega⟩ : Fin 2) = 1 from Fin.ext (by dsimp only; omega)]
    exact pay63_at _ s

/-- The first result after the run. -/
theorem final_bw (c : Dev nD) : (dats m 0 c).arrAt 14 (cfgs 0).N = refBw (A0 m c) (A1 m c) (A2 m c) (A3 m c) (A4 m c) := by
  refine (dats m 0 c).arrAt_eq_of_covers 14 _ (by decide +kernel) fun t hf y => ?_
  blk_simp
  rw [after_bw]
  obtain ⟨z, r, s, rfl⟩ : ∃ (z : Fin 1) (r : Fin 256) (s : Fin 1024), y = ix3 z r s := ⟨y 0, y 1, y 2, eq_ix3 y⟩
  obtain rfl : z = 0 := Subsingleton.elim _ _
  have he : ((cfg0.win 14).blk t).view.emb (ix3 0 r s) = (ix3 (tq t) r s : S4x256x1024.Idx) := by
    have e := (odx t).1
    unfold tq
    blk_ext [e]
  rw [he]
  refine Eq.trans ?_ (refBw_at _ _ _ _ _ (tq t) r s).symm
  pointwise [whole_at, bbRe_at, bbIm_at]

/-- The second result after the run. -/
theorem final_cw (c : Dev nD) : (dats m 0 c).arrAt 15 (cfgs 0).N = refCw (A5 m c) (A6 m c) := by
  refine (dats m 0 c).arrAt_eq_of_covers 15 _ (by decide +kernel) fun t hf y => ?_
  blk_simp
  rw [after_cw]
  obtain ⟨z, s, r, rfl⟩ : ∃ (z : Fin 1) (s : Fin 1024) (r : Fin 256), y = ix3 z s r := ⟨y 0, y 1, y 2, eq_ix3 y⟩
  obtain rfl : z = 0 := Subsingleton.elim _ _
  have he : ((cfg0.win 15).blk t).view.emb (ix3 0 s r) = (ix3 (tq t) s r : S4x1024x256.Idx) := by
    have e := (odx t).2.1
    unfold tq
    blk_ext [e]
  rw [he]
  refine Eq.trans ?_ (refCw_at _ _ (tq t) r s).symm
  pointwise [whole_at, ccRe_at, ccIm_at]

/-- The third result after the run. -/
theorem final_are (c : Dev nD) : (dats m 0 c).arrAt 16 (cfgs 0).N = refARe (A0 m c) (A1 m c) (A2 m c) := by
  refine (dats m 0 c).arrAt_eq_of_covers 16 _ (by decide +kernel) fun t hf y => ?_
  blk_simp
  obtain ⟨z, h, b, s, rfl⟩ : ∃ (z : Fin 1) (h : Fin 2) (b : Fin 1) (s : Fin 512), y = ix4 z h b s := ⟨y 0, y 1, y 2, y 3, eq_ix4 y⟩
  obtain rfl : z = 0 := Subsingleton.elim _ _
  obtain rfl : b = 0 := Subsingleton.elim _ _
  have he : ((cfg0.win 16).blk t).view.emb (ix4 0 h 0 s) = (ix4 (tq t) h 0 s : S4x2x1x512.Idx) := by
    have e := (odx t).2.2.1
    unfold tq
    blk_ext [e]
  rw [he]
  refine (((after_are m c t h s).trans (abRe_at m c t h _ _))).trans ?_
  exact (refARe_at _ _ _ (tq t) h s).symm

/-- The fourth result after the run. -/
theorem final_aim (c : Dev nD) : (dats m 0 c).arrAt 17 (cfgs 0).N = refAIm (A0 m c) (A1 m c) (A2 m c) := by
  refine (dats m 0 c).arrAt_eq_of_covers 17 _ (by decide +kernel) fun t hf y => ?_
  blk_simp
  obtain ⟨z, h, b, s, rfl⟩ : ∃ (z : Fin 1) (h : Fin 2) (b : Fin 1) (s : Fin 512), y = ix4 z h b s := ⟨y 0, y 1, y 2, y 3, eq_ix4 y⟩
  obtain rfl : z = 0 := Subsingleton.elim _ _
  obtain rfl : b = 0 := Subsingleton.elim _ _
  have he : ((cfg0.win 17).blk t).view.emb (ix4 0 h 0 s) = (ix4 (tq t) h 0 s : S4x2x1x512.Idx) := by
    have e := (odx t).2.2.2.1
    unfold tq
    blk_ext [e]
  rw [he]
  refine (((after_aim m c t h s).trans (abIm_at m c t h _ _))).trans ?_
  exact (refAIm_at _ _ _ (tq t) h s).symm

/-- The fifth result after the run. -/
theorem final_pre (c : Dev nD) : (dats m 0 c).arrAt 18 (cfgs 0).N = refPRe (A0 m c) (A1 m c) (A2 m c) := by
  refine (dats m 0 c).arrAt_eq_of_covers 18 _ (by decide +kernel) fun t hf y => ?_
  blk_simp
  obtain ⟨z, i, s, rfl⟩ : ∃ (z : Fin 1) (i : Fin 8) (s : Fin 512), y = ix3 z i s := ⟨y 0, y 1, y 2, eq_ix3 y⟩
  obtain rfl : z = 0 := Subsingleton.elim _ _
  have he : ((cfg0.win 18).blk t).view.emb (ix3 0 i s) = (ix3 (tq t) i s : S4x8x512.Idx) := by
    have e := (odx t).2.2.2.2.1
    unfold tq
    blk_ext [e]
  rw [he]
  refine (((after_pre m c t i s).trans (abRe_at m c t _ _ _))).trans ?_
  exact (refPRe_at _ _ _ (tq t) i s).symm

/-- The sixth result after the run. -/
theorem final_pim (c : Dev nD) : (dats m 0 c).arrAt 19 (cfgs 0).N = refPIm (A0 m c) (A1 m c) (A2 m c) := by
  refine (dats m 0 c).arrAt_eq_of_covers 19 _ (by decide +kernel) fun t hf y => ?_
  blk_simp
  obtain ⟨z, i, s, rfl⟩ : ∃ (z : Fin 1) (i : Fin 8) (s : Fin 512), y = ix3 z i s := ⟨y 0, y 1, y 2, eq_ix3 y⟩
  obtain rfl : z = 0 := Subsingleton.elim _ _
  have he : ((cfg0.win 19).blk t).view.emb (ix3 0 i s) = (ix3 (tq t) i s : S4x8x512.Idx) := by
    have e := (odx t).2.2.2.2.2
    unfold tq
    blk_ext [e]
  rw [he]
  refine (((after_pim m c t i s).trans (abIm_at m c t _ _ _))).trans ?_
  exact (refPIm_at _ _ _ (tq t) i s).symm

end Cert.S5W

end
-- ==== Proof.S5W.RefRun.lean ====
/- What the reference of the packing of the S5 weights ends with. -/
module

public import proofs.«01_k».proof.Proof.S5W.Ref
import Idealize.ShloMosaic.Lib.Claim
import Idealize.ShloMosaic.Lib.StableHlo.Run

@[expose] public section

set_option maxRecDepth 16384

noncomputable section

namespace Cert.S5W

open Idealize.ShloMosaic Idealize.SL.Sem

attribute [local irreducible] refBw refCw refARe refAIm refPRe refPIm

set_option maxHeartbeats 4000000 in
/-- The reference's run: its six results and its arguments. -/
theorem ref_run (m' : (ℓ : Loc Cert.Reference8Ideal.nD Cert.Reference8Ideal.τ Cert.Reference8Ideal.sig) → Buf (Elt Ideal) ℓ)
    (g' : Dev Cert.Reference8Ideal.nD → PrngReg) :
    θ_run (Cert.Reference8Ideal.defs (F := Ideal)) (onTc (τ := Cert.Reference8Ideal.τ) (Cert.Reference8Ideal.main (F := Ideal)))
      ⟨m', fun _ => 0, g'⟩ (fun r => ∀ c : Dev Cert.Reference8Ideal.nD,
        r.2.mem ((c.tc : Thread Cert.Reference8Ideal.nD Cert.Reference8Ideal.τ).loc Cert.Reference8Ideal.main_v109) = refBw (m' ((c.tc : Thread
          Cert.Reference8Ideal.nD Cert.Reference8Ideal.τ).loc Cert.Reference8Ideal.main_arg0)) (m' ((c.tc : Thread Cert.Reference8Ideal.nD
          Cert.Reference8Ideal.τ).loc Cert.Reference8Ideal.main_arg1)) (m' ((c.tc : Thread Cert.Reference8Ideal.nD Cert.Reference8Ideal.τ).loc
          Cert.Reference8Ideal.main_arg2)) (m' ((c.tc : Thread Cert.Reference8Ideal.nD Cert.Reference8Ideal.τ).loc Cert.Reference8Ideal.main_arg3))
          (m' ((c.tc : Thread Cert.Reference8Ideal.nD Cert.Reference8Ideal.τ).loc Cert.Reference8Ideal.main_arg4))
        ∧ r.2.mem ((c.tc : Thread Cert.Reference8Ideal.nD Cert.Reference8Ideal.τ).loc Cert.Reference8Ideal.main_v110) = refCw (m' ((c.tc : Thread
          Cert.Reference8Ideal.nD Cert.Reference8Ideal.τ).loc Cert.Reference8Ideal.main_arg5)) (m' ((c.tc : Thread Cert.Reference8Ideal.nD
          Cert.Reference8Ideal.τ).loc Cert.Reference8Ideal.main_arg6))
        ∧ r.2.mem ((c.tc : Thread Cert.Reference8Ideal.nD Cert.Reference8Ideal.τ).loc Cert.Reference8Ideal.main_v111) = refARe (m' ((c.tc : Thread
          Cert.Reference8Ideal.nD Cert.Reference8Ideal.τ).loc Cert.Reference8Ideal.main_arg0)) (m' ((c.tc : Thread Cert.Reference8Ideal.nD
          Cert.Reference8Ideal.τ).loc Cert.Reference8Ideal.main_arg1)) (m' ((c.tc : Thread Cert.Reference8Ideal.nD Cert.Reference8Ideal.τ).loc
          Cert.Reference8Ideal.main_arg2))
        ∧ r.2.mem ((c.tc : Thread Cert.Reference8Ideal.nD Cert.Reference8Ideal.τ).loc Cert.Reference8Ideal.main_v112) = refAIm (m' ((c.tc : Thread
          Cert.Reference8Ideal.nD Cert.Reference8Ideal.τ).loc Cert.Reference8Ideal.main_arg0)) (m' ((c.tc : Thread Cert.Reference8Ideal.nD
          Cert.Reference8Ideal.τ).loc Cert.Reference8Ideal.main_arg1)) (m' ((c.tc : Thread Cert.Reference8Ideal.nD Cert.Reference8Ideal.τ).loc
          Cert.Reference8Ideal.main_arg2))
        ∧ r.2.mem ((c.tc : Thread Cert.Reference8Ideal.nD Cert.Reference8Ideal.τ).loc Cert.Reference8Ideal.main_v115) = refPRe (m' ((c.tc : Thread
          Cert.Reference8Ideal.nD Cert.Reference8Ideal.τ).loc Cert.Reference8Ideal.main_arg0)) (m' ((c.tc : Thread Cert.Reference8Ideal.nD
          Cert.Reference8Ideal.τ).loc Cert.Reference8Ideal.main_arg1)) (m' ((c.tc : Thread Cert.Reference8Ideal.nD Cert.Reference8Ideal.τ).loc
          Cert.Reference8Ideal.main_arg2))
        ∧ r.2.mem ((c.tc : Thread Cert.Reference8Ideal.nD Cert.Reference8Ideal.τ).loc Cert.Reference8Ideal.main_v118) = refPIm (m' ((c.tc : Thread
          Cert.Reference8Ideal.nD Cert.Reference8Ideal.τ).loc Cert.Reference8Ideal.main_arg0)) (m' ((c.tc : Thread Cert.Reference8Ideal.nD
          Cert.Reference8Ideal.τ).loc Cert.Reference8Ideal.main_arg1)) (m' ((c.tc : Thread Cert.Reference8Ideal.nD Cert.Reference8Ideal.τ).loc
          Cert.Reference8Ideal.main_arg2))
        ∧ r.2.mem ((c.tc : Thread Cert.Reference8Ideal.nD Cert.Reference8Ideal.τ).loc Cert.Reference8Ideal.main_arg0) = (m' ((c.tc : Thread
          Cert.Reference8Ideal.nD Cert.Reference8Ideal.τ).loc Cert.Reference8Ideal.main_arg0))
        ∧ r.2.mem ((c.tc : Thread Cert.Reference8Ideal.nD Cert.Reference8Ideal.τ).loc Cert.Reference8Ideal.main_arg1) = (m' ((c.tc : Thread
          Cert.Reference8Ideal.nD Cert.Reference8Ideal.τ).loc Cert.Reference8Ideal.main_arg1))
        ∧ r.2.mem ((c.tc : Thread Cert.Reference8Ideal.nD Cert.Reference8Ideal.τ).loc Cert.Reference8Ideal.main_arg2) = (m' ((c.tc : Thread
          Cert.Reference8Ideal.nD Cert.Reference8Ideal.τ).loc Cert.Reference8Ideal.main_arg2))
        ∧ r.2.mem ((c.tc : Thread Cert.Reference8Ideal.nD Cert.Reference8Ideal.τ).loc Cert.Reference8Ideal.main_arg3) = (m' ((c.tc : Thread
          Cert.Reference8Ideal.nD Cert.Reference8Ideal.τ).loc Cert.Reference8Ideal.main_arg3))
        ∧ r.2.mem ((c.tc : Thread Cert.Reference8Ideal.nD Cert.Reference8Ideal.τ).loc Cert.Reference8Ideal.main_arg4) = (m' ((c.tc : Thread
          Cert.Reference8Ideal.nD Cert.Reference8Ideal.τ).loc Cert.Reference8Ideal.main_arg4))
        ∧ r.2.mem ((c.tc : Thread Cert.Reference8Ideal.nD Cert.Reference8Ideal.τ).loc Cert.Reference8Ideal.main_arg5) = (m' ((c.tc : Thread
          Cert.Reference8Ideal.nD Cert.Reference8Ideal.τ).loc Cert.Reference8Ideal.main_arg5))
        ∧ r.2.mem ((c.tc : Thread Cert.Reference8Ideal.nD Cert.Reference8Ideal.τ).loc Cert.Reference8Ideal.main_arg6) = (m' ((c.tc : Thread
          Cert.Reference8Ideal.nD Cert.Reference8Ideal.τ).loc Cert.Reference8Ideal.main_arg6))) := by
  hlo_run
  · unfold refBw refBbRe refBbIm refAbRe refAbIm refOwn
    rfl
  · unfold refCw refOwn
    rfl
  · unfold refARe refAbRe
    rfl
  · unfold refAIm refAbIm
    rfl
  · unfold refPRe refAbRe
    rfl
  · unfold refPIm refAbIm
    rfl

end Cert.S5W

end
-- ==== Proof.S5W.Pair.lean ====
/- The packing of the S5 weights against its reference: the two end with the same weights and decays, and leave their arguments alone. -/
module

public import proofs.«01_k».proof.Defs
public import proofs.«01_k».proof.Proof.Gen.Kernel8
public import proofs.«01_k».proof.Proof.S5W.Value
public import proofs.«01_k».proof.Proof.S5W.RefRun

@[expose] public section

set_option maxRecDepth 16384
set_option maxHeartbeats 4000000

noncomputable section

namespace Cert.S5W

open Idealize.ShloMosaic Idealize.SL.Sem

/-- The kernel as written and its idealization have one body table. -/
theorem table_eq : Cert.Kernel8.defs₀ (F := Bits) = Cert.Kernel8Ideal.defs₀ (F := Bits) := by
  unfold Cert.Kernel8.defs₀ Cert.Kernel8Ideal.defs₀
  refine congrArg Defs.onTc ?_
  funext l a
  match l, a with
  | 0, (t, s) => rfl

theorem defs_eq : Cert.Kernel8.defs (F := Bits) = Cert.Kernel8Ideal.defs (F := Bits) :=
  congrArg (Pipeline.defs Cert.Kernel8Ideal.pcfgs) table_eq

/-- The kernel as written, at the hardware's own floats: the run is stated for any float instance. -/
theorem frame_kernel : Cert.quiescent_Kernel8 := fun m ρ _ => by
  rw [defs_eq]
  exact Cert.Kernel8Ideal.Gen.frame (F := Bits) m ρ

/-- The idealized kernel ends with its counters at zero and its arguments as it found them. -/
theorem frame_ideal : Cert.quiescent_Kernel8Ideal := fun m ρ _ => Cert.Kernel8Ideal.Gen.frame m ρ

/-- The reference ends with its counters at zero and its arguments as it found them. -/
theorem frame_reference : Cert.quiescent_Reference8Ideal := by
  intro m g _
  refine (θ_run Cert.Reference8Ideal.defs _ _).mono (fun r h => ⟨h, sem_eq_zero_of_no_sems (by decide) r.2⟩) ?_
  hlo_run

/-- Over the reals the call's results are the reference's. -/
theorem algebraic : Cert.algebraic_Kernel8Ideal_Reference8Ideal := by
  intro m g m' g' hpre hagree
  refine ⟨fun c => refBw (A0 m c) (A1 m c) (A2 m c) (A3 m c) (A4 m c),
    fun c => refCw (A5 m c) (A6 m c),
    fun c => refARe (A0 m c) (A1 m c) (A2 m c),
    fun c => refAIm (A0 m c) (A1 m c) (A2 m c),
    fun c => refPRe (A0 m c) (A1 m c) (A2 m c),
    fun c => refPIm (A0 m c) (A1 m c) (A2 m c), ?_, ?_⟩
  · refine (θ_run Cert.Kernel8Ideal.defs _ _).mono (fun r h c => ?_) (θ_run_and (Cert.Kernel8Ideal.Gen.run_main m g) (Cert.Kernel8Ideal.Gen.unchanged m g))
    exact ⟨((h.1 c).1 14).trans (final_bw m c), ((h.1 c).1 15).trans (final_cw m c), ((h.1 c).1 16).trans (final_are m c), ((h.1 c).1 17).trans (final_aim m c), ((h.1 c).1 18).trans (final_pre m c), ((h.1 c).1 19).trans (final_pim m c), h.2 c⟩
  · refine (θ_run Cert.Reference8Ideal.defs _ _).mono (fun r h c => ?_) (ref_run m' g')
    have h := h c
    obtain ⟨e0, e1, e2, e3, e4, e5, e6⟩ := hagree c
    refine ⟨h.1.trans ?_, h.2.1.trans ?_, h.2.2.1.trans ?_, h.2.2.2.1.trans ?_, h.2.2.2.2.1.trans ?_, h.2.2.2.2.2.1.trans ?_, h.2.2.2.2.2.2⟩
    · rw [e0, e1, e2, e3, e4]
    · rw [e5, e6]
    all_goals rw [e0, e1, e2]

end Cert.S5W

end
-- ==== Proof.lean ====
/- The certificate of the layer's calls, assembled from the modules of each call under `Proof`. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.InProj.Pair
public import proofs.«01_k».proof.Proof.Gen.Kernel2
public import proofs.«01_k».proof.Proof.Gen.Kernel2Ideal
public import proofs.«01_k».proof.Proof.Gen.Reference2Ideal
public import proofs.«01_k».proof.Proof.LzProj.Pair
public import proofs.«01_k».proof.Proof.Gen.Kernel3
public import proofs.«01_k».proof.Proof.Gen.Kernel3Ideal
public import proofs.«01_k».proof.Proof.Gen.Reference3Ideal
public import proofs.«01_k».proof.Proof.GateProj.Pair
public import proofs.«01_k».proof.Proof.Gen.Kernel4
public import proofs.«01_k».proof.Proof.Gen.Kernel4Ideal
public import proofs.«01_k».proof.Proof.Gen.Reference4Ideal
public import proofs.«01_k».proof.Proof.Norm.Pair
public import proofs.«01_k».proof.Proof.Gen.Kernel5
public import proofs.«01_k».proof.Proof.Gen.Kernel5Ideal
public import proofs.«01_k».proof.Proof.Gen.Reference5Ideal
public import proofs.«01_k».proof.Proof.OutS.Pair
public import proofs.«01_k».proof.Proof.Gen.Kernel6
public import proofs.«01_k».proof.Proof.Gen.Kernel6Ideal
public import proofs.«01_k».proof.Proof.Gen.Reference6Ideal
public import proofs.«01_k».proof.Proof.OutP.Pair
public import proofs.«01_k».proof.Proof.Gen.Kernel7
public import proofs.«01_k».proof.Proof.Gen.Kernel7Ideal
public import proofs.«01_k».proof.Proof.Gen.Reference7Ideal
public import proofs.«01_k».proof.Proof.S5.Pair
public import proofs.«01_k».proof.Proof.Gen.Kernel8
public import proofs.«01_k».proof.Proof.Gen.Kernel8Ideal
public import proofs.«01_k».proof.Proof.Gen.Reference8Ideal
public import proofs.«01_k».proof.Proof.S5W.Pair

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts,
   Cert.InProj.Main.frame_kernel, (fun m ρ _ => Cert.InProj.Main.frame m ρ), Cert.InProj.Main.frame_reference,
   Cert.InProj.Lz.frame_kernel, (fun m ρ _ => Cert.InProj.Lz.frame m ρ), Cert.InProj.Lz.frame_reference,
   Cert.InProj.Gate.frame_kernel, (fun m ρ _ => Cert.InProj.Gate.frame m ρ), Cert.InProj.Gate.frame_reference,
   Cert.Norm.frame_kernel, Cert.Norm.frame_ideal, Cert.Norm.frame_reference,
   Cert.OutProj.Sample.frame_kernel, Cert.OutProj.Sample.frame_ideal, Cert.OutProj.Sample.frame_reference,
   Cert.OutProj.Prompt.frame_kernel, Cert.OutProj.Prompt.frame_ideal, Cert.OutProj.Prompt.frame_reference,
   Cert.S5.frame_kernel, Cert.S5.frame_ideal, Cert.S5.frame_reference,
   Cert.S5W.frame_kernel, Cert.S5W.frame_ideal, Cert.S5W.frame_reference,
   trivial, Cert.InProj.Main.algebraic,
   trivial, Cert.InProj.Lz.algebraic,
   trivial, Cert.InProj.Gate.algebraic,
   trivial, Cert.Norm.algebraic,
   trivial, Cert.OutProj.Sample.algebraic,
   trivial, Cert.OutProj.Prompt.algebraic,
   trivial, Cert.S5.algebraic,
   trivial, Cert.S5W.algebraic⟩

end Cert.Proof

end
